-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Experts [hPre_experts_exist : Cert.Pre_experts_exist.Facts] (m : (ℓ : Loc Cert.Experts.nD Cert.Experts.τ Cert.Experts.sig) → Buf (Elt Bits) ℓ) : Prop :=
  ∀ c : Dev Cert.Experts.nD,
    (Cert.Pre_experts_exist.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_experts_exist : Cert.Pre_experts_exist.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_exist.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_experts_exist [hPre_experts_exist : Cert.Pre_experts_exist.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_exist.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Experts [hExperts : Cert.Experts.Facts] [hPre_experts_exist : Cert.Pre_experts_exist.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_experts_exist : Cert.Pre_experts_exist.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_ExpertsRefIdeal_pre_experts_exist [hExpertsRefIdeal : Cert.ExpertsRefIdeal.Facts] [hPre_experts_exist : Cert.Pre_experts_exist.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_experts_exist m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8)
      ∧ r.2.mem ((c.tc : Thread Cert.OutProj.nD Cert.OutProj.τ).loc Cert.OutProj.main_arg9) = m ((c.tc : Thread Cert.OutProj.nD Cert.OutProj.τ).loc Cert.OutProj.main_arg9))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8)
      ∧ r.2.mem ((c.tc : Thread Cert.OutProjRefIdeal.nD Cert.OutProjRefIdeal.τ).loc Cert.OutProjRefIdeal.main_arg9) = m ((c.tc : Thread Cert.OutProjRefIdeal.nD Cert.OutProjRefIdeal.τ).loc Cert.OutProjRefIdeal.main_arg9))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_exist : Cert.Pre_experts_exist.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v23)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v23) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v96) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v11_0)) (v1 : (c : Dev Cert.InProjIdeal.nD) → Buf (Elt Ideal) ((c.tc : Thread Cert.InProjIdeal.nD Cert.InProjIdeal.τ).loc Cert.InProjIdeal.main_v11_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v11_0) = v0 c
          ∧ r.2.mem ((c.tc : Thread Cert.InProjIdeal.nD Cert.InProjIdeal.τ).loc Cert.InProjIdeal.main_v11_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v21) = v0 c
          ∧ r.2.mem ((c.tc : Thread Cert.InProjRefIdeal.nD Cert.InProjRefIdeal.τ).loc Cert.InProjRefIdeal.main_v22) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)
      ∧ m' ((c.tc : Thread Cert.OutProjRefIdeal.nD Cert.OutProjRefIdeal.τ).loc Cert.OutProjRefIdeal.main_arg9) = m ((c.tc : Thread Cert.OutProjIdeal.nD Cert.OutProjIdeal.τ).loc Cert.OutProjIdeal.main_arg9)) →
    ∃ (v0 : (c : Dev Cert.OutProjIdeal.nD) → Buf (Elt Ideal) ((c.tc : Thread Cert.OutProjIdeal.nD Cert.OutProjIdeal.τ).loc Cert.OutProjIdeal.main_v23_0)) (v1 : (c : Dev Cert.OutProjIdeal.nD) → Buf (Elt Ideal) ((c.tc : Thread Cert.OutProjIdeal.nD Cert.OutProjIdeal.τ).loc Cert.OutProjIdeal.main_v23_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v23_0) = v0 c
          ∧ r.2.mem ((c.tc : Thread Cert.OutProjIdeal.nD Cert.OutProjIdeal.τ).loc Cert.OutProjIdeal.main_v23_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
          ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v46) = v0 c
          ∧ r.2.mem ((c.tc : Thread Cert.OutProjRefIdeal.nD Cert.OutProjRefIdeal.τ).loc Cert.OutProjRefIdeal.main_v47) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8)
          ∧ r.2.mem ((c.tc : Thread Cert.OutProjRefIdeal.nD Cert.OutProjRefIdeal.τ).loc Cert.OutProjRefIdeal.main_arg9) = m' ((c.tc : Thread Cert.OutProjRefIdeal.nD Cert.OutProjRefIdeal.τ).loc Cert.OutProjRefIdeal.main_arg9))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsRefIdeal : Cert.ExpertsRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hPre_all_finite : Cert.Pre_all_finite.Facts) (hPre_experts_exist : Cert.Pre_experts_exist.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Experts (hExperts := hExperts) (hPre_experts_exist := hPre_experts_exist)
    ∧ quiescent_ExpertsIdeal (hExpertsIdeal := hExpertsIdeal) (hPre_experts_exist := hPre_experts_exist)
    ∧ quiescent_ExpertsRefIdeal (hExpertsRefIdeal := hExpertsRefIdeal)
    ∧ quiescent_ExpertsRefIdeal_pre_experts_exist (hExpertsRefIdeal := hExpertsRefIdeal) (hPre_experts_exist := hPre_experts_exist)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Experts_ExpertsIdeal
    ∧ algebraic_ExpertsIdeal_ExpertsRefIdeal (hExpertsIdeal := hExpertsIdeal) (hExpertsRefIdeal := hExpertsRefIdeal) (hPre_experts_exist := hPre_experts_exist)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
-- ==== Pre_all_finite.lean ====
abbrev S8x2048x10256 : Shape := ⟨3, ![8, 2048, 10256]⟩
abbrev S1x3x1024 : Shape := ⟨3, ![1, 3, 1024]⟩
abbrev S1x1024 : Shape := ⟨2, ![1, 1024]⟩
abbrev S1x16x512 : Shape := ⟨3, ![1, 16, 512]⟩
abbrev S1x512 : Shape := ⟨2, ![1, 512]⟩
abbrev S1x4x256 : Shape := ⟨3, ![1, 4, 256]⟩
abbrev S_ : Shape := ⟨0, ![]⟩

class Facts : Prop where
  bcast_S_S8x2048x10256 : S_.BroadcastsInDim S8x2048x10256 (![] : Fin 0 → Fin S8x2048x10256.rank)
  reducesTo_S8x2048x10256_S_d0_1_2 : S8x2048x10256.ReducesTo [0, 1, 2] S_
  h_S_ : 0 < S_.numel
  bcast_S_S1x16x512 : S_.BroadcastsInDim S1x16x512 (![] : Fin 0 → Fin S1x16x512.rank)
  reducesTo_S1x16x512_S_d0_1_2 : S1x16x512.ReducesTo [0, 1, 2] S_
  bcast_S_S1x512 : S_.BroadcastsInDim S1x512 (![] : Fin 0 → Fin S1x512.rank)
  reducesTo_S1x512_S_d0_1 : S1x512.ReducesTo [0, 1] S_

variable [Facts]

def fn {F : FTy → Type} [FloatOps F] (main_arg0 : FVec F S8x2048x10256 .f32) (main_arg1 : FVec F S1x3x1024 .f32) (main_arg2 : FVec F S1x1024 .f32) (main_arg3 : FVec F S1x16x512 .f32) (main_arg4 : FVec F S1x512 .f32) (main_arg5 : FVec F S1x4x256 .f32) : IVec S_ 1 :=
  let main_v0 : FVec F S8x2048x10256 .f32 := Host.absf main_arg0
  let main_cst : FVec F S_ .f32 := constant S_ .f32 0x7F800000#32
  let main_v1 : FVec F S8x2048x10256 .f32 := broadcastInDim S8x2048x10256 ![] bcast_S_S8x2048x10256 main_cst
  let main_v2 : IVec S8x2048x10256 1 := cmpf .olt main_v0 main_v1
  let main_c : IVec S_ 1 := constantI S_ 1 1#1
  let main_v3 : IVec S_ 1 := (fun x v => Host.reduce IntOp.andi x v reducesTo_S8x2048x10256_S_d0_1_2 h_S_) main_v2 main_c
  let main_v4 : FVec F S1x16x512 .f32 := Host.absf main_arg3
  let main_cst_0 : FVec F S_ .f32 := constant S_ .f32 0x7F800000#32
  let main_v5 : FVec F S1x16x512 .f32 := broadcastInDim S1x16x512 ![] bcast_S_S1x16x512 main_cst_0
  let main_v6 : IVec S1x16x512 1 := cmpf .olt main_v4 main_v5
  let main_c_1 : IVec S_ 1 := constantI S_ 1 1#1
  let main_v7 : IVec S_ 1 := (fun x v => Host.reduce IntOp.andi x v reducesTo_S1x16x512_S_d0_1_2 h_S_) main_v6 main_c_1
  let main_v8 : IVec S_ 1 := andi main_v3 main_v7
  let main_v9 : FVec F S1x512 .f32 := Host.absf main_arg4
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  main_v13
-- ==== Pre_experts_exist.lean ====
abbrev S96 : Shape := ⟨1, ![96]⟩
abbrev S1 : Shape := ⟨1, ![1]⟩
abbrev S98304x2048 : Shape := ⟨2, ![98304, 2048]⟩
abbrev S1x32x2048x4096 : Shape := ⟨4, ![1, 32, 2048, 4096]⟩
abbrev S1x32x4096 : Shape := ⟨3, ![1, 32, 4096]⟩
abbrev S1x32x2048x2048 : Shape := ⟨4, ![1, 32, 2048, 2048]⟩
abbrev S1x32x2048 : Shape := ⟨3, ![1, 32, 2048]⟩
abbrev S_ : Shape := ⟨0, ![]⟩

class Facts : Prop where
  bcast_S_S96 : S_.BroadcastsInDim S96 (![] : Fin 0 → Fin S96.rank)
  reducesTo_S96_S_d0 : S96.ReducesTo [0] S_
  h_S_ : 0 < S_.numel

variable [Facts]

def fn {F : FTy → Type} [FloatOps F] (main_arg0 : IVec S96 32) (main_arg1 : IVec S1 32) (main_arg2 : FVec F S98304x2048 .f32) (main_arg3 : FVec F S1x32x2048x4096 .f32) (main_arg4 : FVec F S1x32x4096 .f32) (main_arg5 : FVec F S1x32x2048x2048 .f32) (main_arg6 : FVec F S1x32x2048 .f32) : IVec S_ 1 :=
  let main_c : IVec S_ 32 := constantI S_ 32 0#32
  let main_v0 : IVec S96 32 := broadcastInDim S96 ![] bcast_S_S96 main_c
  let main_v1 : IVec S96 1 := cmpi .sge main_arg0 main_v0
  let main_c_0 : IVec S_ 32 := constantI S_ 32 32#32
  let main_v2 : IVec S96 32 := broadcastInDim S96 ![] bcast_S_S96 main_c_0
  let main_v3 : IVec S96 1 := cmpi .slt main_arg0 main_v2
  let main_v4 : IVec S96 1 := andi main_v1 main_v3
  let main_c_1 : IVec S_ 1 := constantI S_ 1 1#1
  let main_v5 : IVec S_ 1 := (fun x v => Host.reduce IntOp.andi x v reducesTo_S96_S_d0 h_S_) main_v4 main_c_1
  main_v5
-- ==== Kernel.lean ====
abbrev S8x2048x10256 : Shape := ⟨3, ![8, 2048, 10256]⟩
abbrev S1x3x1024 : Shape := ⟨3, ![1, 3, 1024]⟩
abbrev S1x1024 : Shape := ⟨2, ![1, 1024]⟩
abbrev S1x16x512 : Shape := ⟨3, ![1, 16, 512]⟩
abbrev S1x512 : Shape := ⟨2, ![1, 512]⟩
abbrev S1x4x256 : Shape := ⟨3, ![1, 4, 256]⟩
abbrev S16384x10256 : Shape := ⟨2, ![16384, 10256]⟩
abbrev S16384x6144 : Shape := ⟨2, ![16384, 6144]⟩
abbrev S16384x4096 : Shape := ⟨2, ![16384, 4096]⟩
abbrev S16384x10240 : Shape := ⟨2, ![16384, 10240]⟩
abbrev S16384x16 : Shape := ⟨2, ![16384, 16]⟩
abbrev S_ : Shape := ⟨0, ![]⟩
abbrev S16384x128 : Shape := ⟨2, ![16384, 128]⟩
abbrev S16x512 : Shape := ⟨2, ![16, 512]⟩
abbrev S128x512 : Shape := ⟨2, ![128, 512]⟩
abbrev S3x1024 : Shape := ⟨2, ![3, 1024]⟩
abbrev S1024 : Shape := ⟨1, ![1024]⟩
abbrev S512 : Shape := ⟨1, ![512]⟩
abbrev S4x256 : Shape := ⟨2, ![4, 256]⟩
abbrev S16384x1024 : Shape := ⟨2, ![16384, 1024]⟩
abbrev S256x1024 : Shape := ⟨2, ![256, 1024]⟩
abbrev S256x512 : Shape := ⟨2, ![256, 512]⟩
abbrev S256x128 : Shape := ⟨2, ![256, 128]⟩
abbrev S4x256x128 : Shape := ⟨3, ![4, 256, 128]⟩
abbrev S264x1024 : Shape := ⟨2, ![264, 1024]⟩
abbrev S8x1024 : Shape := ⟨2, ![8, 1024]⟩
abbrev S64x64 : Shape := ⟨2, ![64, 64]⟩
abbrev S64x128 : Shape := ⟨2, ![64, 128]⟩
abbrev S64x512 : Shape := ⟨2, ![64, 512]⟩
abbrev S64x256 : Shape := ⟨2, ![64, 256]⟩
abbrev S1x128 : Shape := ⟨2, ![1, 128]⟩
abbrev S1x256x128 : Shape := ⟨3, ![1, 256, 128]⟩
abbrev S64 : Shape := ⟨1, ![64]⟩
abbrev S64x1 : Shape := ⟨2, ![64, 1]⟩
abbrev S1x256 : Shape := ⟨2, ![1, 256]⟩

abbrev nBuf : Space → Nat
  | .hbm => 28
  | .vmem => 27
  | .smem => 0
  | _ => 0

abbrev bufTy : (tb : Table) → Fin (tcTables nBuf tb) → BufTy
  | .hbm, ⟨0, _⟩ => ⟨S8x2048x10256, .f32⟩
  | .hbm, ⟨1, _⟩ => ⟨S1x3x1024, .f32⟩
  | .hbm, ⟨2, _⟩ => ⟨S1x1024, .f32⟩
  | .hbm, ⟨3, _⟩ => ⟨S1x16x512, .f32⟩
  | .hbm, ⟨4, _⟩ => ⟨S1x512, .f32⟩
  | .hbm, ⟨5, _⟩ => ⟨S1x4x256, .f32⟩
  | .hbm, ⟨6, _⟩ => ⟨S16384x10256, .f32⟩
  | .hbm, ⟨7, _⟩ => ⟨S16384x6144, .f32⟩
  | .hbm, ⟨8, _⟩ => ⟨S16384x4096, .f32⟩
  | .hbm, ⟨9, _⟩ => ⟨S16384x10240, .f32⟩
  | .hbm, ⟨10, _⟩ => ⟨S16384x10240, .bf16⟩
  | .hbm, ⟨11, _⟩ => ⟨S16384x16, .f32⟩
  | .hbm, ⟨12, _⟩ => ⟨S_, .i32⟩
  | .hbm, ⟨13, _⟩ => ⟨S_, .f32⟩
  | .hbm, ⟨14, _⟩ => ⟨S16384x128, .f32⟩
  | .hbm, ⟨15, _⟩ => ⟨S16x512, .f32⟩
  | .hbm, ⟨16, _⟩ => ⟨S_, .i32⟩
  | .hbm, ⟨17, _⟩ => ⟨S_, .f32⟩
  | .hbm, ⟨18, _⟩ => ⟨S128x512, .f32⟩
  | .hbm, ⟨19, _⟩ => ⟨S3x1024, .f32⟩
  | .hbm, ⟨20, _⟩ => ⟨S1024, .f32⟩
  | .hbm, ⟨21, _⟩ => ⟨S1x1024, .f32⟩
  | .hbm, ⟨22, _⟩ => ⟨S512, .f32⟩
  | .hbm, ⟨23, _⟩ => ⟨S1x512, .f32⟩
  | .hbm, ⟨24, _⟩ => ⟨S4x256, .f32⟩
  | .hbm, ⟨25, _⟩ => ⟨S1x1024, .f32⟩
  | .hbm, ⟨26, _⟩ => ⟨S16384x1024, .bf16⟩
  | .hbm, ⟨27, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x128, .f32⟩
  | .local _ .vmem, ⟨15, _⟩ => ⟨S256x128, .f32⟩
  | .local _ .vmem, ⟨16, _⟩ => ⟨S3x1024, .f32⟩
  | .local _ .vmem, ⟨17, _⟩ => ⟨S1x1024, .f32⟩
  | .local _ .vmem, ⟨18, _⟩ => ⟨S128x512, .f32⟩
  | .local _ .vmem, ⟨19, _⟩ => ⟨S1x512, .f32⟩
  | .local _ .vmem, ⟨20, _⟩ => ⟨S1x1024, .f32⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S4x256x128, .f32⟩
  | .local _ .vmem, ⟨26, _⟩ => ⟨S264x1024, .f32⟩
  | _, _ => ⟨S8x2048x10256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c6_i32 : BitVec 32 := 6#32
  let c0_i32 : BitVec 32 := 0#32
  ![v1.toNat, c6_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c7_i32 : BitVec 32 := 7#32
  let c0_i32 : BitVec 32 := 0#32
  ![v1.toNat, c7_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let c0_i32 : BitVec 32 := 0#32
  ![v1.toNat, c4_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c5_i32 : BitVec 32 := 5#32
  let c0_i32 : BitVec 32 := 0#32
  ![v1.toNat, c5_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S8x2048x10256 : Shape := ⟨3, ![8, 2048, 10256]⟩
abbrev S1x3x1024 : Shape := ⟨3, ![1, 3, 1024]⟩
abbrev S1x1024 : Shape := ⟨2, ![1, 1024]⟩
abbrev S1x16x512 : Shape := ⟨3, ![1, 16, 512]⟩
abbrev S1x512 : Shape := ⟨2, ![1, 512]⟩
abbrev S1x4x256 : Shape := ⟨3, ![1, 4, 256]⟩
abbrev S8x2048x1024 : Shape := ⟨3, ![8, 2048, 1024]⟩
abbrev S8x2048x512 : Shape := ⟨3, ![8, 2048, 512]⟩
abbrev S8x2048x16 : Shape := ⟨3, ![8, 2048, 16]⟩
abbrev S8x2048x2048 : Shape := ⟨3, ![8, 2048, 2048]⟩
abbrev S3x1024 : Shape := ⟨2, ![3, 1024]⟩
abbrev S1024 : Shape := ⟨1, ![1024]⟩
abbrev S_ : Shape := ⟨0, ![]⟩
abbrev S8x2050x1024 : Shape := ⟨3, ![8, 2050, 1024]⟩
abbrev S1x1x1024 : Shape := ⟨3, ![1, 1, 1024]⟩
abbrev S16x512 : Shape := ⟨2, ![16, 512]⟩
abbrev S512 : Shape := ⟨1, ![512]⟩
abbrev S4x256 : Shape := ⟨2, ![4, 256]⟩
abbrev S8x32x64x4x128 : Shape := ⟨5, ![8, 32, 64, 4, 128]⟩
abbrev S8x32x64x4x256 : Shape := ⟨5, ![8, 32, 64, 4, 256]⟩
abbrev S1x1x512 : Shape := ⟨3, ![1, 1, 512]⟩
abbrev S8x32x1x4x128 : Shape := ⟨5, ![8, 32, 1, 4, 128]⟩
abbrev S8x32x4x128 : Shape := ⟨4, ![8, 32, 4, 128]⟩
abbrev S8x32x4x64x64 : Shape := ⟨5, ![8, 32, 4, 64, 64]⟩
abbrev S8x32x4x256x64 : Shape := ⟨5, ![8, 32, 4, 256, 64]⟩
abbrev S32x8x64x4x128 : Shape := ⟨5, ![32, 8, 64, 4, 128]⟩
abbrev S32x8x64x4x256 : Shape := ⟨5, ![32, 8, 64, 4, 256]⟩
abbrev S32x8x4x128 : Shape := ⟨4, ![32, 8, 4, 128]⟩
abbrev S8x4x128x256 : Shape := ⟨4, ![8, 4, 128, 256]⟩
abbrev S1x8x64x4x128 : Shape := ⟨5, ![1, 8, 64, 4, 128]⟩
abbrev S8x64x4x128 : Shape := ⟨4, ![8, 64, 4, 128]⟩
abbrev S1x8x64x4x256 : Shape := ⟨5, ![1, 8, 64, 4, 256]⟩
abbrev S8x64x4x256 : Shape := ⟨4, ![8, 64, 4, 256]⟩
abbrev S1x8x4x128 : Shape := ⟨4, ![1, 8, 4, 128]⟩
abbrev S8x4x128 : Shape := ⟨3, ![8, 4, 128]⟩
abbrev S8x4x256x64 : Shape := ⟨4, ![8, 4, 256, 64]⟩
abbrev S8x4x128x1 : Shape := ⟨4, ![8, 4, 128, 1]⟩
abbrev S8x2048x4x256 : Shape := ⟨4, ![8, 2048, 4, 256]⟩
abbrev S8x2048x4 : Shape := ⟨3, ![8, 2048, 4]⟩
abbrev S8x2048x4x1 : Shape := ⟨4, ![8, 2048, 4, 1]⟩
abbrev S1x1x4x256 : Shape := ⟨4, ![1, 1, 4, 256]⟩
abbrev S16384x1024 : Shape := ⟨2, ![16384, 1024]⟩

abbrev nBuf : Space → Nat
  | .hbm => 191
  | .vmem => 0
  | .smem => 0
  | _ => 0

abbrev hbmTy0_0 (i : Nat) : BufTy := match i % 128 with
  | 0 => ⟨S8x2048x10256, .f32⟩
  | 1 => ⟨S1x3x1024, .f32⟩
  | 2 => ⟨S1x1024, .f32⟩
  | 3 => ⟨S1x16x512, .f32⟩
  | 4 => ⟨S1x512, .f32⟩
  | 5 => ⟨S1x4x256, .f32⟩
  | 6 => ⟨S8x2048x1024, .f32⟩
  | 7 => ⟨S8x2048x1024, .f32⟩
  | 8 => ⟨S8x2048x1024, .f32⟩
  | 9 => ⟨S8x2048x512, .f32⟩
  | 10 => ⟨S8x2048x512, .f32⟩
  | 11 => ⟨S8x2048x1024, .f32⟩
  | 12 => ⟨S8x2048x1024, .f32⟩
  | 13 => ⟨S8x2048x16, .f32⟩
  | 14 => ⟨S8x2048x2048, .f32⟩
  | 15 => ⟨S8x2048x2048, .f32⟩
  | 16 => ⟨S3x1024, .f32⟩
  | 17 => ⟨S1024, .f32⟩
  | 18 => ⟨S8x2048x1024, .f32⟩
  | 19 => ⟨S_, .i32⟩
  | 20 => ⟨S_, .f32⟩
  | 21 => ⟨S8x2050x1024, .f32⟩
  | 22 => ⟨S8x2048x1024, .f32⟩
  | 23 => ⟨S1x1024, .f32⟩
  | 24 => ⟨S1024, .f32⟩
  | 25 => ⟨S1x1x1024, .f32⟩
  | 26 => ⟨S8x2048x1024, .f32⟩
  | 27 => ⟨S8x2048x1024, .f32⟩
  | 28 => ⟨S_, .f32⟩
  | 29 => ⟨S8x2048x1024, .f32⟩
  | 30 => ⟨S8x2048x1024, .f32⟩
  | 31 => ⟨S8x2048x1024, .f32⟩
  | 32 => ⟨S1x1024, .f32⟩
  | 33 => ⟨S1024, .f32⟩
  | 34 => ⟨S1x1x1024, .f32⟩
  | 35 => ⟨S8x2048x1024, .f32⟩
  | 36 => ⟨S8x2048x1024, .f32⟩
  | 37 => ⟨S8x2048x1024, .f32⟩
  | 38 => ⟨S8x2048x1024, .f32⟩
  | 39 => ⟨S1x1024, .f32⟩
  | 40 => ⟨S1024, .f32⟩
  | 41 => ⟨S1x1x1024, .f32⟩
  | 42 => ⟨S8x2048x1024, .f32⟩
  | 43 => ⟨S8x2048x1024, .f32⟩
  | 44 => ⟨S8x2048x1024, .f32⟩
  | 45 => ⟨S1x1x1024, .f32⟩
  | 46 => ⟨S8x2048x1024, .f32⟩
  | 47 => ⟨S8x2048x1024, .f32⟩
  | 48 => ⟨S8x2048x1024, .f32⟩
  | 49 => ⟨S16x512, .f32⟩
  | 50 => ⟨S512, .f32⟩
  | 51 => ⟨S4x256, .f32⟩
  | 52 => ⟨S8x32x64x4x128, .f32⟩
  | 53 => ⟨S_, .f32⟩
  | 54 => ⟨S8x32x64x4x128, .f32⟩
  | 55 => ⟨S8x32x64x4x128, .f32⟩
  | 56 => ⟨S8x32x64x4x128, .f32⟩
  | 57 => ⟨S8x32x64x4x256, .f32⟩
  | 58 => ⟨S8x2048x512, .f32⟩
  | 59 => ⟨S1x1x512, .f32⟩
  | 60 => ⟨S8x2048x512, .f32⟩
  | 61 => ⟨S8x2048x512, .f32⟩
  | 62 => ⟨S8x2048x512, .f32⟩
  | 63 => ⟨S_, .f32⟩
  | 64 => ⟨S8x2048x512, .f32⟩
  | 65 => ⟨S8x2048x512, .f32⟩
  | 66 => ⟨S8x2048x512, .f32⟩
  | 67 => ⟨S8x2048x512, .f32⟩
  | 68 => ⟨S8x2048x512, .i1⟩
  | 69 => ⟨S8x2048x512, .f32⟩
  | 70 => ⟨S8x2048x512, .f32⟩
  | 71 => ⟨S8x2048x512, .f32⟩
  | 72 => ⟨S8x2048x512, .f32⟩
  | 73 => ⟨S8x2048x512, .f32⟩
  | 74 => ⟨S8x2048x512, .f32⟩
  | 75 => ⟨S8x2048x512, .f32⟩
  | 76 => ⟨S8x2048x512, .f32⟩
  | 77 => ⟨S8x2048x512, .f32⟩
  | 78 => ⟨S_, .f32⟩
  | 79 => ⟨S8x2048x512, .f32⟩
  | 80 => ⟨S8x2048x512, .f32⟩
  | 81 => ⟨S8x32x64x4x128, .f32⟩
  | 82 => ⟨S_, .f32⟩
  | 83 => ⟨S_, .f32⟩
  | 84 => ⟨S8x32x64x4x128, .f32⟩
  | 85 => ⟨S8x32x1x4x128, .f32⟩
  | 86 => ⟨S8x32x4x128, .f32⟩
  | 87 => ⟨S8x32x1x4x128, .f32⟩
  | 88 => ⟨S8x32x64x4x128, .f32⟩
  | 89 => ⟨S8x32x64x4x128, .f32⟩
  | 90 => ⟨S8x32x64x4x128, .f32⟩
  | 91 => ⟨S8x32x64x4x128, .f32⟩
  | 92 => ⟨S8x32x4x128, .f32⟩
  | 93 => ⟨S8x32x1x4x128, .f32⟩
  | 94 => ⟨S8x32x64x4x128, .f32⟩
  | 95 => ⟨S8x32x64x4x128, .f32⟩
  | 96 => ⟨S8x32x4x64x64, .f32⟩
  | 97 => ⟨S8x32x4x256x64, .f32⟩
  | 98 => ⟨S8x32x64x4x256, .f32⟩
  | 99 => ⟨S32x8x64x4x128, .f32⟩
  | 100 => ⟨S32x8x64x4x128, .f32⟩
  | 101 => ⟨S32x8x64x4x256, .f32⟩
  | 102 => ⟨S32x8x4x128, .f32⟩
  | 103 => ⟨S_, .f32⟩
  | 104 => ⟨S8x4x128x256, .f32⟩
  | 105 => ⟨S_, .f32⟩
  | 106 => ⟨S32x8x64x4x256, .f32⟩
  | 107 => ⟨S_, .i32⟩
  | 108 => ⟨S32x8x64x4x128, .f32⟩
  | 109 => ⟨S32x8x64x4x128, .f32⟩
  | 110 => ⟨S32x8x64x4x256, .f32⟩
  | 111 => ⟨S32x8x4x128, .f32⟩
  | 112 => ⟨S_, .i32⟩
  | 113 => ⟨S8x4x128x256, .f32⟩
  | 114 => ⟨S32x8x64x4x256, .f32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S1x8x64x4x128, .f32⟩
  | 122 => ⟨S8x64x4x128, .f32⟩
  | 123 => ⟨S_, .i32⟩
  | 124 => ⟨S_, .i32⟩
  | 125 => ⟨S_, .i32⟩
  | 126 => ⟨S_, .i32⟩
  | 127 => ⟨S1x8x64x4x128, .f32⟩
  | _ => ⟨S8x2048x10256, .f32⟩

abbrev hbmTy0_1 (i : Nat) : BufTy := match i % 128 with
  | 0 => ⟨S8x64x4x128, .f32⟩
  | 1 => ⟨S_, .i32⟩
  | 2 => ⟨S_, .i32⟩
  | 3 => ⟨S_, .i32⟩
  | 4 => ⟨S_, .i32⟩
  | 5 => ⟨S1x8x64x4x256, .f32⟩
  | 6 => ⟨S8x64x4x256, .f32⟩
  | 7 => ⟨S_, .i32⟩
  | 8 => ⟨S_, .i32⟩
  | 9 => ⟨S_, .i32⟩
  | 10 => ⟨S1x8x4x128, .f32⟩
  | 11 => ⟨S8x4x128, .f32⟩
  | 12 => ⟨S8x4x256x64, .f32⟩
  | 13 => ⟨S8x64x4x256, .f32⟩
  | 14 => ⟨S8x4x128, .f32⟩
  | 15 => ⟨S8x4x128x1, .f32⟩
  | 16 => ⟨S8x4x128x256, .f32⟩
  | 17 => ⟨S8x4x128x256, .f32⟩
  | 18 => ⟨S8x4x128x256, .f32⟩
  | 19 => ⟨S8x4x128x256, .f32⟩
  | 20 => ⟨S1x8x64x4x256, .f32⟩
  | 21 => ⟨S_, .i32⟩
  | 22 => ⟨S_, .i32⟩
  | 23 => ⟨S_, .i32⟩
  | 24 => ⟨S_, .i32⟩
  | 25 => ⟨S32x8x64x4x256, .f32⟩
  | 26 => ⟨S_, .i32⟩
  | 27 => ⟨S_, .i32⟩
  | 28 => ⟨S8x32x64x4x256, .f32⟩
  | 29 => ⟨S8x32x64x4x256, .f32⟩
  | 30 => ⟨S8x2048x4x256, .f32⟩
  | 31 => ⟨S8x2048x4x256, .f32⟩
  | 32 => ⟨S_, .f32⟩
  | 33 => ⟨S8x2048x4, .f32⟩
  | 34 => ⟨S8x2048x4x1, .f32⟩
  | 35 => ⟨S_, .f32⟩
  | 36 => ⟨S8x2048x4x1, .f32⟩
  | 37 => ⟨S8x2048x4x1, .f32⟩
  | 38 => ⟨S_, .f32⟩
  | 39 => ⟨S8x2048x4x1, .f32⟩
  | 40 => ⟨S8x2048x4x1, .f32⟩
  | 41 => ⟨S8x2048x4x1, .f32⟩
  | 42 => ⟨S8x2048x4x256, .f32⟩
  | 43 => ⟨S8x2048x4x256, .f32⟩
  | 44 => ⟨S1x1x4x256, .f32⟩
  | 45 => ⟨S8x2048x4x256, .f32⟩
  | 46 => ⟨S8x2048x4x256, .f32⟩
  | 47 => ⟨S8x2048x1024, .f32⟩
  | 48 => ⟨S8x2048x1024, .f32⟩
  | 49 => ⟨S_, .f32⟩
  | 50 => ⟨S8x2048x1024, .f32⟩
  | 51 => ⟨S8x2048x1024, .f32⟩
  | 52 => ⟨S_, .f32⟩
  | 53 => ⟨S8x2048x1024, .f32⟩
  | 54 => ⟨S8x2048x1024, .f32⟩
  | 55 => ⟨S8x2048x1024, .f32⟩
  | 56 => ⟨S8x2048x4x256, .f32⟩
  | 57 => ⟨S8x2048x4x256, .f32⟩
  | 58 => ⟨S8x2048x1024, .f32⟩
  | 59 => ⟨S16384x1024, .f32⟩
  | 60 => ⟨S16384x1024, .bf16⟩
  | 61 => ⟨S16384x1024, .f32⟩
  | 62 => ⟨S16384x1024, .bf16⟩
  | _ => ⟨S8x2048x10256, .f32⟩

abbrev hbmTy (i : Nat) : BufTy := match i / 128 with
  | 0 => hbmTy0_0 i
  | 1 => hbmTy0_1 i
  | _ => ⟨S8x2048x10256, .f32⟩

abbrev bufTy : (tb : Table) → Fin (tcTables nBuf tb) → BufTy
  | .hbm, ⟨i, _⟩ => hbmTy i
  | _, _ => ⟨S8x2048x10256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_0 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_call1_v0 : Ref sig .tc := ⟨.hbm, 62, rfl⟩
abbrev main_call1_call0_cst : Ref sig .tc := ⟨.hbm, 63, rfl⟩
abbrev main_call1_call0_v0 : Ref sig .tc := ⟨.hbm, 64, rfl⟩
abbrev main_call1_call0_v1 : Ref sig .tc := ⟨.hbm, 65, rfl⟩
abbrev main_call1_call0_v2 : Ref sig .tc := ⟨.hbm, 66, rfl⟩
abbrev main_call1_call0_v3 : Ref sig .tc := ⟨.hbm, 67, rfl⟩
abbrev main_call1_call0_v4 : Ref sig .tc := ⟨.hbm, 68, rfl⟩
abbrev main_call1_call0_v5 : Ref sig .tc := ⟨.hbm, 69, rfl⟩
abbrev main_call1_call0_v6 : Ref sig .tc := ⟨.hbm, 70, rfl⟩
abbrev main_call1_call0_v7 : Ref sig .tc := ⟨.hbm, 71, rfl⟩
abbrev main_call1_call0_v8 : Ref sig .tc := ⟨.hbm, 72, rfl⟩
abbrev main_call1_call0_v9 : Ref sig .tc := ⟨.hbm, 73, rfl⟩
abbrev main_call1_call0_v10 : Ref sig .tc := ⟨.hbm, 74, rfl⟩
abbrev main_call1_call0_v11 : Ref sig .tc := ⟨.hbm, 75, rfl⟩
abbrev main_call1_v1 : Ref sig .tc := ⟨.hbm, 76, rfl⟩
abbrev main_v52 : Ref sig .tc := ⟨.hbm, 77, rfl⟩
abbrev main_cst_1 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call2_call0_cst : Ref sig .tc := ⟨.hbm, 82, rfl⟩
abbrev main_call2_call0_v0 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_2 : Ref sig .tc := ⟨.hbm, 103, rfl⟩
abbrev main_v75 : Ref sig .tc := ⟨.hbm, 104, rfl⟩
abbrev main_cst_3 : Ref sig .tc := ⟨.hbm, 105, rfl⟩
abbrev main_v76 : Ref sig .tc := ⟨.hbm, 106, rfl⟩
abbrev main_c_4 : Ref sig .tc := ⟨.hbm, 107, rfl⟩
abbrev main_v77_0 : Ref sig .tc := ⟨.hbm, 108, rfl⟩
abbrev main_v77_1 : Ref sig .tc := ⟨.hbm, 109, rfl⟩
abbrev main_v77_2 : Ref sig .tc := ⟨.hbm, 110, rfl⟩
abbrev main_v77_3 : Ref sig .tc := ⟨.hbm, 111, rfl⟩
abbrev main_v77_4 : Ref sig .tc := ⟨.hbm, 112, rfl⟩
abbrev main_v77_5 : Ref sig .tc := ⟨.hbm, 113, rfl⟩
abbrev main_v77_6 : Ref sig .tc := ⟨.hbm, 114, rfl⟩
abbrev main_while0c_c_14 : Ref sig .tc := ⟨.hbm, 115, rfl⟩
abbrev main_while0c_v102 : Ref sig .tc := ⟨.hbm, 116, rfl⟩
abbrev main_while0b_call3_c : Ref sig .tc := ⟨.hbm, 117, rfl⟩
abbrev main_while0b_call3_c_0 : Ref sig .tc := ⟨.hbm, 118, rfl⟩
abbrev main_while0b_call3_c_1 : Ref sig .tc := ⟨.hbm, 119, rfl⟩
abbrev main_while0b_call3_c_2 : Ref sig .tc := ⟨.hbm, 120, rfl⟩
abbrev main_while0b_call3_v0 : Ref sig .tc := ⟨.hbm, 121, rfl⟩
abbrev main_while0b_v102 : Ref sig .tc := ⟨.hbm, 122, rfl⟩
abbrev main_while0b_call4_c : Ref sig .tc := ⟨.hbm, 123, rfl⟩
abbrev main_while0b_call4_c_0 : Ref sig .tc := ⟨.hbm, 124, rfl⟩
abbrev main_while0b_call4_c_1 : Ref sig .tc := ⟨.hbm, 125, rfl⟩
abbrev main_while0b_call4_c_2 : Ref sig .tc := ⟨.hbm, 126, rfl⟩
abbrev main_while0b_call4_v0 : Ref sig .tc := ⟨.hbm, 127, rfl⟩
abbrev main_while0b_v103 : Ref sig .tc := ⟨.hbm, 128, rfl⟩
abbrev main_while0b_call5_c : Ref sig .tc := ⟨.hbm, 129, rfl⟩
abbrev main_while0b_call5_c_0 : Ref sig .tc := ⟨.hbm, 130, rfl⟩
abbrev main_while0b_call5_c_1 : Ref sig .tc := ⟨.hbm, 131, rfl⟩
abbrev main_while0b_call5_c_2 : Ref sig .tc := ⟨.hbm, 132, rfl⟩
abbrev main_while0b_call5_v0 : Ref sig .tc := ⟨.hbm, 133, rfl⟩
abbrev main_while0b_v104 : Ref sig .tc := ⟨.hbm, 134, rfl⟩
abbrev main_while0b_call6_c : Ref sig .tc := ⟨.hbm, 135, rfl⟩
abbrev main_while0b_call6_c_0 : Ref sig .tc := ⟨.hbm, 136, rfl⟩
abbrev main_while0b_call6_c_1 : Ref sig .tc := ⟨.hbm, 137, rfl⟩
abbrev main_while0b_call6_v0 : Ref sig .tc := ⟨.hbm, 138, rfl⟩
abbrev main_while0b_v105 : Ref sig .tc := ⟨.hbm, 139, rfl⟩
abbrev main_while0b_v106 : Ref sig .tc := ⟨.hbm, 140, rfl⟩
abbrev main_while0b_v107 : Ref sig .tc := ⟨.hbm, 141, rfl⟩
abbrev main_while0b_v108 : Ref sig .tc := ⟨.hbm, 142, rfl⟩
abbrev main_while0b_v109 : Ref sig .tc := ⟨.hbm, 143, rfl⟩
abbrev main_while0b_v110 : Ref sig .tc := ⟨.hbm, 144, rfl⟩
abbrev main_while0b_v111 : Ref sig .tc := ⟨.hbm, 145, rfl⟩
abbrev main_while0b_v112 : Ref sig .tc := ⟨.hbm, 146, rfl⟩
abbrev main_while0b_v113 : Ref sig .tc := ⟨.hbm, 147, rfl⟩
abbrev main_while0b_call7_v0 : Ref sig .tc := ⟨.hbm, 148, rfl⟩
abbrev main_while0b_call7_c : Ref sig .tc := ⟨.hbm, 149, rfl⟩
abbrev main_while0b_call7_c_0 : Ref sig .tc := ⟨.hbm, 150, rfl⟩
abbrev main_while0b_call7_c_1 : Ref sig .tc := ⟨.hbm, 151, rfl⟩
abbrev main_while0b_call7_c_2 : Ref sig .tc := ⟨.hbm, 152, rfl⟩
abbrev main_while0b_v114 : Ref sig .tc := ⟨.hbm, 153, rfl⟩
abbrev main_while0b_c_14 : Ref sig .tc := ⟨.hbm, 154, rfl⟩
abbrev main_while0b_v115 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_cst_5 : Ref sig .tc := ⟨.hbm, 160, rfl⟩
abbrev main_v82 : Ref sig .tc := ⟨.hbm, 161, rfl⟩
abbrev main_v83 : Ref sig .tc := ⟨.hbm, 162, rfl⟩
abbrev main_cst_6 : Ref sig .tc := ⟨.hbm, 163, rfl⟩
abbrev main_v84 : Ref sig .tc := ⟨.hbm, 164, rfl⟩
abbrev main_v85 : Ref sig .tc := ⟨.hbm, 165, rfl⟩
abbrev main_cst_7 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_call8_v0 : Ref sig .tc := ⟨.hbm, 175, rfl⟩
abbrev main_call8_v1 : Ref sig .tc := ⟨.hbm, 176, rfl⟩
abbrev main_call8_cst : Ref sig .tc := ⟨.hbm, 177, rfl⟩
abbrev main_call8_v2 : Ref sig .tc := ⟨.hbm, 178, rfl⟩
abbrev main_call8_v3 : Ref sig .tc := ⟨.hbm, 179, rfl⟩
abbrev main_call8_cst_0 : Ref sig .tc := ⟨.hbm, 180, rfl⟩
abbrev main_call8_v4 : Ref sig .tc := ⟨.hbm, 181, rfl⟩
abbrev main_call8_v5 : Ref sig .tc := ⟨.hbm, 182, rfl⟩
abbrev main_v94 : Ref sig .tc := ⟨.hbm, 183, rfl⟩
abbrev main_v95 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_v101 : Ref sig .tc := ⟨.hbm, 190, rfl⟩

abbrev nD : Nat := 1
abbrev τ : Topo := Topo.v7x

variable {F : FTy → Type} [FloatOps F]

abbrev main_while0_count : Scf.Loop 32 := ⟨0#32, 32#32, 1#32⟩
-- ==== Experts.lean ====
abbrev S96 : Shape := ⟨1, ![96]⟩
abbrev S1 : Shape := ⟨1, ![1]⟩
abbrev S98304x2048 : Shape := ⟨2, ![98304, 2048]⟩
abbrev S1x32x2048x4096 : Shape := ⟨4, ![1, 32, 2048, 4096]⟩
abbrev S1x32x4096 : Shape := ⟨3, ![1, 32, 4096]⟩
abbrev S1x32x2048x2048 : Shape := ⟨4, ![1, 32, 2048, 2048]⟩
abbrev S1x32x2048 : Shape := ⟨3, ![1, 32, 2048]⟩
abbrev S32x2048x4096 : Shape := ⟨3, ![32, 2048, 4096]⟩
abbrev S32x2048x2048 : Shape := ⟨3, ![32, 2048, 2048]⟩
abbrev S32x4096 : Shape := ⟨2, ![32, 4096]⟩
abbrev S32x1x4096 : Shape := ⟨3, ![32, 1, 4096]⟩
abbrev S32x2048 : Shape := ⟨2, ![32, 2048]⟩
abbrev S32x1x2048 : Shape := ⟨3, ![32, 1, 2048]⟩
abbrev S_ : Shape := ⟨0, ![]⟩
abbrev S96x1 : Shape := ⟨2, ![96, 1]⟩
abbrev S1024x2048 : Shape := ⟨2, ![1024, 2048]⟩
abbrev S1x2048x256 : Shape := ⟨3, ![1, 2048, 256]⟩
abbrev S1x256x2048 : Shape := ⟨3, ![1, 256, 2048]⟩
abbrev S1x1x256 : Shape := ⟨3, ![1, 1, 256]⟩
abbrev S1x1x2048 : Shape := ⟨3, ![1, 1, 2048]⟩
abbrev S2048x512 : Shape := ⟨2, ![2048, 512]⟩
abbrev S2048x256 : Shape := ⟨2, ![2048, 256]⟩
abbrev S1024x512 : Shape := ⟨2, ![1024, 512]⟩
abbrev S1024x256 : Shape := ⟨2, ![1024, 256]⟩
abbrev S1x256 : Shape := ⟨2, ![1, 256]⟩
abbrev S1x2048 : Shape := ⟨2, ![1, 2048]⟩
abbrev S1x256x512 : Shape := ⟨3, ![1, 256, 512]⟩
abbrev S256x512 : Shape := ⟨2, ![256, 512]⟩

abbrev nBuf : Space → Nat
  | .hbm => 33
  | .vmem => 17
  | .smem => 2
  | _ => 0

abbrev bufTy : (tb : Table) → Fin (tcTables nBuf tb) → BufTy
  | .hbm, ⟨0, _⟩ => ⟨S96, .i32⟩
  | .hbm, ⟨1, _⟩ => ⟨S98304x2048, .f32⟩
  | .hbm, ⟨2, _⟩ => ⟨S1x32x2048x4096, .f32⟩
  | .hbm, ⟨3, _⟩ => ⟨S1x32x4096, .f32⟩
  | .hbm, ⟨4, _⟩ => ⟨S1x32x2048x2048, .f32⟩
  | .hbm, ⟨5, _⟩ => ⟨S1x32x2048, .f32⟩
  | .hbm, ⟨6, _⟩ => ⟨S32x2048x4096, .f32⟩
  | .hbm, ⟨7, _⟩ => ⟨S32x2048x4096, .f32⟩
  | .hbm, ⟨8, _⟩ => ⟨S32x2048x2048, .f32⟩
  | .hbm, ⟨9, _⟩ => ⟨S32x4096, .f32⟩
  | .hbm, ⟨10, _⟩ => ⟨S32x1x4096, .f32⟩
  | .hbm, ⟨11, _⟩ => ⟨S32x4096, .f32⟩
  | .hbm, ⟨12, _⟩ => ⟨S32x1x4096, .f32⟩
  | .hbm, ⟨13, _⟩ => ⟨S32x2048, .f32⟩
  | .hbm, ⟨14, _⟩ => ⟨S32x1x2048, .f32⟩
  | .hbm, ⟨15, _⟩ => ⟨S96, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S96, .i32⟩
  | .hbm, ⟨20, _⟩ => ⟨S96, .i32⟩
  | .hbm, ⟨21, _⟩ => ⟨S_, .i32⟩
  | .hbm, ⟨22, _⟩ => ⟨S96, .i32⟩
  | .hbm, ⟨23, _⟩ => ⟨S96, .i32⟩
  | .hbm, ⟨24, _⟩ => ⟨S_, .i32⟩
  | .hbm, ⟨25, _⟩ => ⟨S96, .i32⟩
  | .hbm, ⟨26, _⟩ => ⟨S96, .i1⟩
  | .hbm, ⟨27, _⟩ => ⟨S_, .i32⟩
  | .hbm, ⟨28, _⟩ => ⟨S96, .i32⟩
  | .hbm, ⟨29, _⟩ => ⟨S96, .i32⟩
  | .hbm, ⟨30, _⟩ => ⟨S96, .i32⟩
  | .hbm, ⟨31, _⟩ => ⟨S96x1, .i32⟩
  | .hbm, ⟨32, _⟩ => ⟨S98304x2048, .f32⟩
  | .local _ .vmem, ⟨0, _⟩ => ⟨S1024x2048, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x256x2048, .f32⟩
  | .local _ .vmem, ⟨6, _⟩ => ⟨S1x256x2048, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S1x1x2048, .f32⟩
  | .local _ .vmem, ⟨12, _⟩ => ⟨S1x1x2048, .f32⟩
  | .local _ .vmem, ⟨13, _⟩ => ⟨S1024x2048, .f32⟩
  | .local _ .vmem, ⟨14, _⟩ => ⟨S1024x2048, .f32⟩
  | .local _ .vmem, ⟨15, _⟩ => ⟨S1024x2048, .bf16⟩
  | .local _ .vmem, ⟨16, _⟩ => ⟨S2048x512, .bf16⟩
  | .local _ .smem, ⟨0, _⟩ => ⟨S96, .i32⟩
  | .local _ .smem, ⟨1, _⟩ => ⟨S1, .i32⟩
  | _, _ => ⟨S96, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v23 : Ref sig .tc := ⟨.hbm, 32, rfl⟩
abbrev main_v22 : Ref sig .tc := ⟨.smem, 0, rfl⟩
abbrev main_arg1 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![96, 8], ![false, false]⟩

abbrev pre0 : Pipeline.Prefetch sig := ⟨2, ![main_v22.idx, main_arg1.idx], fun | 0 => main_v22.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .sge arg0 v0
  let arg1 : BitVec 32 := BitVec.ofNat 32 (i 1).val
  let c7_i32 : BitVec 32 := 7#32
  let v2 : BitVec 1 := Scalar.cmpi .eq arg1 c7_i32
  let v3 : BitVec 1 := Scalar.andi v1 v2
  let v4 : BitVec 32 := Scalar.extui v3
  let c0_i32 : BitVec 32 := 0#32
  let v5 : BitVec 1 := Scalar.cmpi .ne v4 c0_i32
  v5

def k0_cond2 (i : grid0.Coords) (v6 : BitVec 32) : BitVec 1 :=
  let arg0 : BitVec 32 := BitVec.ofNat 32 (i 0).val
  let v7 : BitVec 1 := Scalar.cmpi .slt arg0 v6
  let v8 : BitVec 32 := Scalar.extui v7
  let c0_i32_1 : BitVec 32 := 0#32
  let v9 : BitVec 1 := Scalar.cmpi .ne v8 c0_i32_1
  v9

def k0_cond4 (i : grid0.Coords) : BitVec 1 :=
  let arg1 : BitVec 32 := BitVec.ofNat 32 (i 1).val
  let c0_i32_28 : BitVec 32 := 0#32
  let v52 : BitVec 1 := Scalar.cmpi .eq arg1 c0_i32_28
  let v53 : BitVec 32 := Scalar.extui v52
  let c0_i32_29 : BitVec 32 := 0#32
  let v54 : BitVec 1 := Scalar.cmpi .ne v53 c0_i32_29
  v54

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S96.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S96) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c7_i32 : BitVec 32 := 7#32
  let v4 : BitVec 32 := Scalar.select v3 arg1 c7_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S96.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S96) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c7_i32 : BitVec 32 := 7#32
  let v4 : BitVec 32 := Scalar.select v3 arg1 c7_i32
  let c8_i32 : BitVec 32 := 8#32
  let v5 : BitVec 32 := Scalar.addi c8_i32 v4
  let c0_i32 : BitVec 32 := 0#32
  let c0_i32_0 : BitVec 32 := 0#32
  ![v1.toNat, c0_i32.toNat, v5.toNat]

def cc0_transform_3 (k0_off1_inb : ∀ i : grid0.Coords, ∀ a, (k0_off1 i) a + S1.size a ≤ S96.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S96) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c7_i32 : BitVec 32 := 7#32
  let v4 : BitVec 32 := Scalar.select v3 arg1 c7_i32
  let c0_i32 : BitVec 32 := 0#32
  let c0_i32_0 : BitVec 32 := 0#32
  ![v1.toNat, v4.toNat, c0_i32.toNat]

def cc0_transform_4 (k0_off1_inb : ∀ i : grid0.Coords, ∀ a, (k0_off1 i) a + S1.size a ≤ S96.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S96) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c7_i32 : BitVec 32 := 7#32
  let v4 : BitVec 32 := Scalar.select v3 arg1 c7_i32
  let c0_i32 : BitVec 32 := 0#32
  let c0_i32_0 : BitVec 32 := 0#32
  ![v1.toNat, c0_i32.toNat, v4.toNat]

def cc0_transform_5 (k0_off1_inb : ∀ i : grid0.Coords, ∀ a, (k0_off1 i) a + S1.size a ≤ S96.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S96) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c7_i32 : BitVec 32 := 7#32
  let v4 : BitVec 32 := Scalar.select v3 arg1 c7_i32
  let c8_i32 : BitVec 32 := 8#32
  let v5 : BitVec 32 := Scalar.addi c8_i32 v4
  let c0_i32 : BitVec 32 := 0#32
  let c0_i32_0 : BitVec 32 := 0#32
  ![v1.toNat, c0_i32.toNat, v5.toNat]

def cc0_transform_6 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ExpertsRefIdeal.lean ====
abbrev S96 : Shape := ⟨1, ![96]⟩
abbrev S1 : Shape := ⟨1, ![1]⟩
abbrev S98304x2048 : Shape := ⟨2, ![98304, 2048]⟩
abbrev S1x32x2048x4096 : Shape := ⟨4, ![1, 32, 2048, 4096]⟩
abbrev S1x32x4096 : Shape := ⟨3, ![1, 32, 4096]⟩
abbrev S1x32x2048x2048 : Shape := ⟨4, ![1, 32, 2048, 2048]⟩
abbrev S1x32x2048 : Shape := ⟨3, ![1, 32, 2048]⟩
abbrev S96x1024x2048 : Shape := ⟨3, ![96, 1024, 2048]⟩
abbrev S32x2048x4096 : Shape := ⟨3, ![32, 2048, 4096]⟩
abbrev S_ : Shape := ⟨0, ![]⟩
abbrev S96x1 : Shape := ⟨2, ![96, 1]⟩
abbrev S96x3 : Shape := ⟨2, ![96, 3]⟩
abbrev S96x1x2048x4096 : Shape := ⟨4, ![96, 1, 2048, 4096]⟩
abbrev S96x2048x4096 : Shape := ⟨3, ![96, 2048, 4096]⟩
abbrev S96x1024x4096 : Shape := ⟨3, ![96, 1024, 4096]⟩
abbrev S32x4096 : Shape := ⟨2, ![32, 4096]⟩
abbrev S96x2 : Shape := ⟨2, ![96, 2]⟩
abbrev S96x1x4096 : Shape := ⟨3, ![96, 1, 4096]⟩
abbrev S96x4096 : Shape := ⟨2, ![96, 4096]⟩
abbrev S32x2048x2048 : Shape := ⟨3, ![32, 2048, 2048]⟩
abbrev S96x1x2048x2048 : Shape := ⟨4, ![96, 1, 2048, 2048]⟩
abbrev S96x2048x2048 : Shape := ⟨3, ![96, 2048, 2048]⟩
abbrev S32x2048 : Shape := ⟨2, ![32, 2048]⟩
abbrev S96x1x2048 : Shape := ⟨3, ![96, 1, 2048]⟩
abbrev S96x2048 : Shape := ⟨2, ![96, 2048]⟩
abbrev S96x1x1 : Shape := ⟨3, ![96, 1, 1]⟩

abbrev nBuf : Space → Nat
  | .hbm => 158
  | .vmem => 0
  | .smem => 0
  | _ => 0

abbrev hbmTy0_0 (i : Nat) : BufTy := match i % 128 with
  | 0 => ⟨S96, .i32⟩
  | 1 => ⟨S1, .i32⟩
  | 2 => ⟨S98304x2048, .f32⟩
  | 3 => ⟨S1x32x2048x4096, .f32⟩
  | 4 => ⟨S1x32x4096, .f32⟩
  | 5 => ⟨S1x32x2048x2048, .f32⟩
  | 6 => ⟨S1x32x2048, .f32⟩
  | 7 => ⟨S96x1024x2048, .f32⟩
  | 8 => ⟨S32x2048x4096, .f32⟩
  | 9 => ⟨S_, .i32⟩
  | 10 => ⟨S96, .i32⟩
  | 11 => ⟨S96, .i1⟩
  | 12 => ⟨S_, .i32⟩
  | 13 => ⟨S96, .i32⟩
  | 14 => ⟨S96, .i32⟩
  | 15 => ⟨S96, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i32⟩
  | 32 => ⟨S96x1, .i32⟩
  | 33 => ⟨S96x1, .i32⟩
  | 34 => ⟨S96x1, .i32⟩
  | 35 => ⟨S96x3, .i32⟩
  | 36 => ⟨S96x1x2048x4096, .f32⟩
  | 37 => ⟨S96x2048x4096, .f32⟩
  | 38 => ⟨S96x1024x4096, .f32⟩
  | 39 => ⟨S32x4096, .f32⟩
  | 40 => ⟨S_, .i32⟩
  | 41 => ⟨S96, .i32⟩
  | 42 => ⟨S96, .i1⟩
  | 43 => ⟨S_, .i32⟩
  | 44 => ⟨S96, .i32⟩
  | 45 => ⟨S96, .i32⟩
  | 46 => ⟨S96, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S96x1, .i32⟩
  | 56 => ⟨S96x1, .i32⟩
  | 57 => ⟨S96x2, .i32⟩
  | 58 => ⟨S96x1x4096, .f32⟩
  | 59 => ⟨S96x4096, .f32⟩
  | 60 => ⟨S96x1x4096, .f32⟩
  | 61 => ⟨S96x1024x4096, .f32⟩
  | 62 => ⟨S96x1024x4096, .f32⟩
  | 63 => ⟨S96x1024x2048, .f32⟩
  | 64 => ⟨S_, .f32⟩
  | 65 => ⟨S96x1024x2048, .f32⟩
  | 66 => ⟨S96x1024x2048, .f32⟩
  | 67 => ⟨S96x1024x2048, .f32⟩
  | 68 => ⟨S_, .f32⟩
  | 69 => ⟨S_, .f32⟩
  | 70 => ⟨S_, .f32⟩
  | 71 => ⟨S96x1024x2048, .f32⟩
  | 72 => ⟨S96x1024x2048, .f32⟩
  | 73 => ⟨S_, .f32⟩
  | 74 => ⟨S96x1024x2048, .f32⟩
  | 75 => ⟨S96x1024x2048, .f32⟩
  | 76 => ⟨S_, .f32⟩
  | 77 => ⟨S96x1024x2048, .f32⟩
  | 78 => ⟨S96x1024x2048, .f32⟩
  | 79 => ⟨S96x1024x2048, .f32⟩
  | 80 => ⟨S96x1024x2048, .f32⟩
  | 81 => ⟨S_, .f32⟩
  | 82 => ⟨S96x1024x2048, .f32⟩
  | 83 => ⟨S96x1024x2048, .f32⟩
  | 84 => ⟨S_, .f32⟩
  | 85 => ⟨S96x1024x2048, .f32⟩
  | 86 => ⟨S96x1024x2048, .f32⟩
  | 87 => ⟨S96x1024x2048, .f32⟩
  | 88 => ⟨S_, .f32⟩
  | 89 => ⟨S96x1024x2048, .f32⟩
  | 90 => ⟨S96x1024x2048, .f32⟩
  | 91 => ⟨S96x1024x2048, .f32⟩
  | 92 => ⟨S32x2048x2048, .f32⟩
  | 93 => ⟨S_, .i32⟩
  | 94 => ⟨S96, .i32⟩
  | 95 => ⟨S96, .i1⟩
  | 96 => ⟨S_, .i32⟩
  | 97 => ⟨S96, .i32⟩
  | 98 => ⟨S96, .i32⟩
  | 99 => ⟨S96, .i32⟩
  | 100 => ⟨S_, .i32⟩
  | 101 => ⟨S_, .i32⟩
  | 102 => ⟨S_, .i1⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S_, .i32⟩
  | 116 => ⟨S96x1, .i32⟩
  | 117 => ⟨S96x1, .i32⟩
  | 118 => ⟨S96x1, .i32⟩
  | 119 => ⟨S96x3, .i32⟩
  | 120 => ⟨S96x1x2048x2048, .f32⟩
  | 121 => ⟨S96x2048x2048, .f32⟩
  | 122 => ⟨S96x1024x2048, .f32⟩
  | 123 => ⟨S32x2048, .f32⟩
  | 124 => ⟨S_, .i32⟩
  | 125 => ⟨S96, .i32⟩
  | 126 => ⟨S96, .i1⟩
  | 127 => ⟨S_, .i32⟩
  | _ => ⟨S96, .i32⟩

abbrev hbmTy0_1 (i : Nat) : BufTy := match i % 128 with
  | 0 => ⟨S96, .i32⟩
  | 1 => ⟨S96, .i32⟩
  | 2 => ⟨S96, .i32⟩
  | 3 => ⟨S_, .i32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i32⟩
  | 11 => ⟨S96x1, .i32⟩
  | 12 => ⟨S96x1, .i32⟩
  | 13 => ⟨S96x2, .i32⟩
  | 14 => ⟨S96x1x2048, .f32⟩
  | 15 => ⟨S96x2048, .f32⟩
  | 16 => ⟨S96x1x2048, .f32⟩
  | 17 => ⟨S96x1024x2048, .f32⟩
  | 18 => ⟨S96x1024x2048, .f32⟩
  | 19 => ⟨S96, .i32⟩
  | 20 => ⟨S_, .i32⟩
  | 21 => ⟨S96, .i32⟩
  | 22 => ⟨S96, .i1⟩
  | 23 => ⟨S96x1x1, .i1⟩
  | 24 => ⟨S_, .f32⟩
  | 25 => ⟨S_, .f32⟩
  | 26 => ⟨S96x1024x2048, .i1⟩
  | 27 => ⟨S96x1024x2048, .f32⟩
  | 28 => ⟨S96x1024x2048, .f32⟩
  | 29 => ⟨S98304x2048, .f32⟩
  | _ => ⟨S96, .i32⟩

abbrev hbmTy (i : Nat) : BufTy := match i / 128 with
  | 0 => hbmTy0_0 i
  | 1 => hbmTy0_1 i
  | _ => ⟨S96, .i32⟩

abbrev bufTy : (tb : Table) → Fin (tcTables nBuf tb) → BufTy
  | .hbm, ⟨i, _⟩ => hbmTy i
  | _, _ => ⟨S96, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_c_2 : Ref sig .tc := ⟨.hbm, 17, rfl⟩
abbrev main_v7 : Ref sig .tc := ⟨.hbm, 18, rfl⟩
abbrev main_c_3 : Ref sig .tc := ⟨.hbm, 19, rfl⟩
abbrev main_c_4 : Ref sig .tc := ⟨.hbm, 20, rfl⟩
abbrev main_v8 : Ref sig .tc := ⟨.hbm, 21, rfl⟩
abbrev main_c_5 : Ref sig .tc := ⟨.hbm, 22, rfl⟩
abbrev main_v9 : Ref sig .tc := ⟨.hbm, 23, rfl⟩
abbrev main_c_6 : Ref sig .tc := ⟨.hbm, 24, rfl⟩
abbrev main_c_7 : Ref sig .tc := ⟨.hbm, 25, rfl⟩
abbrev main_v10 : Ref sig .tc := ⟨.hbm, 26, rfl⟩
abbrev main_c_8 : Ref sig .tc := ⟨.hbm, 27, rfl⟩
abbrev main_c_9 : Ref sig .tc := ⟨.hbm, 28, rfl⟩
abbrev main_v11 : Ref sig .tc := ⟨.hbm, 29, rfl⟩
abbrev main_c_10 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_11 : Ref sig .tc := ⟨.hbm, 40, rfl⟩
abbrev main_v21 : Ref sig .tc := ⟨.hbm, 41, rfl⟩
abbrev main_v22 : Ref sig .tc := ⟨.hbm, 42, rfl⟩
abbrev main_c_12 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_13 : Ref sig .tc := ⟨.hbm, 47, rfl⟩
abbrev main_c_14 : Ref sig .tc := ⟨.hbm, 48, rfl⟩
abbrev main_v26 : Ref sig .tc := ⟨.hbm, 49, rfl⟩
abbrev main_c_15 : Ref sig .tc := ⟨.hbm, 50, rfl⟩
abbrev main_c_16 : Ref sig .tc := ⟨.hbm, 51, rfl⟩
abbrev main_v27 : Ref sig .tc := ⟨.hbm, 52, rfl⟩
abbrev main_c_17 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_18 : Ref sig .tc := ⟨.hbm, 68, rfl⟩
abbrev main_cst_19 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_v41 : Ref sig .tc := ⟨.hbm, 75, rfl⟩
abbrev main_cst_20 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_21 : Ref sig .tc := ⟨.hbm, 81, rfl⟩
abbrev main_v46 : Ref sig .tc := ⟨.hbm, 82, rfl⟩
abbrev main_v47 : Ref sig .tc := ⟨.hbm, 83, rfl⟩
abbrev main_cst_22 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_23 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_c_24 : Ref sig .tc := ⟨.hbm, 93, rfl⟩
abbrev main_v55 : Ref sig .tc := ⟨.hbm, 94, rfl⟩
abbrev main_v56 : Ref sig .tc := ⟨.hbm, 95, rfl⟩
abbrev main_c_25 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_c_26 : Ref sig .tc := ⟨.hbm, 100, rfl⟩
abbrev main_c_27 : Ref sig .tc := ⟨.hbm, 101, rfl⟩
abbrev main_v60 : Ref sig .tc := ⟨.hbm, 102, rfl⟩
abbrev main_c_28 : Ref sig .tc := ⟨.hbm, 103, rfl⟩
abbrev main_c_29 : Ref sig .tc := ⟨.hbm, 104, rfl⟩
abbrev main_v61 : Ref sig .tc := ⟨.hbm, 105, rfl⟩
abbrev main_c_30 : Ref sig .tc := ⟨.hbm, 106, rfl⟩
abbrev main_v62 : Ref sig .tc := ⟨.hbm, 107, rfl⟩
abbrev main_c_31 : Ref sig .tc := ⟨.hbm, 108, rfl⟩
abbrev main_c_32 : Ref sig .tc := ⟨.hbm, 109, rfl⟩
abbrev main_v63 : Ref sig .tc := ⟨.hbm, 110, rfl⟩
abbrev main_c_33 : Ref sig .tc := ⟨.hbm, 111, rfl⟩
abbrev main_c_34 : Ref sig .tc := ⟨.hbm, 112, rfl⟩
abbrev main_v64 : Ref sig .tc := ⟨.hbm, 113, rfl⟩
abbrev main_c_35 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_c_36 : Ref sig .tc := ⟨.hbm, 124, rfl⟩
abbrev main_v74 : Ref sig .tc := ⟨.hbm, 125, rfl⟩
abbrev main_v75 : Ref sig .tc := ⟨.hbm, 126, rfl⟩
abbrev main_c_37 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_c_38 : Ref sig .tc := ⟨.hbm, 131, rfl⟩
abbrev main_c_39 : Ref sig .tc := ⟨.hbm, 132, rfl⟩
abbrev main_v79 : Ref sig .tc := ⟨.hbm, 133, rfl⟩
abbrev main_c_40 : Ref sig .tc := ⟨.hbm, 134, rfl⟩
abbrev main_c_41 : Ref sig .tc := ⟨.hbm, 135, rfl⟩
abbrev main_v80 : Ref sig .tc := ⟨.hbm, 136, rfl⟩
abbrev main_c_42 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_43 : Ref sig .tc := ⟨.hbm, 152, rfl⟩
abbrev main_call1_v0 : Ref sig .tc := ⟨.hbm, 153, rfl⟩
abbrev main_call1_v1 : Ref sig .tc := ⟨.hbm, 154, rfl⟩
abbrev main_call1_v2 : Ref sig .tc := ⟨.hbm, 155, rfl⟩
abbrev main_v95 : Ref sig .tc := ⟨.hbm, 156, rfl⟩
abbrev main_v96 : Ref sig .tc := ⟨.hbm, 157, rfl⟩

abbrev nD : Nat := 1
abbrev τ : Topo := Topo.v7x

variable {F : FTy → Type} [FloatOps F]
-- ==== InProj.lean ====
abbrev S8x2048x2048 : Shape := ⟨3, ![8, 2048, 2048]⟩
abbrev S1x2048 : Shape := ⟨2, ![1, 2048]⟩
abbrev S1x2048x10256 : Shape := ⟨3, ![1, 2048, 10256]⟩
abbrev S16384x2048 : Shape := ⟨2, ![16384, 2048]⟩
abbrev S2048x10256 : Shape := ⟨2, ![2048, 10256]⟩
abbrev S2048x6144 : Shape := ⟨2, ![2048, 6144]⟩
abbrev S2048x4096 : Shape := ⟨2, ![2048, 4096]⟩
abbrev S2048x10240 : Shape := ⟨2, ![2048, 10240]⟩
abbrev S2048x16 : Shape := ⟨2, ![2048, 16]⟩
abbrev S_ : Shape := ⟨0, ![]⟩
abbrev S2048x128 : Shape := ⟨2, ![2048, 128]⟩
abbrev S2048 : Shape := ⟨1, ![2048]⟩
abbrev S16384x10240 : Shape := ⟨2, ![16384, 10240]⟩
abbrev S16384x128 : Shape := ⟨2, ![16384, 128]⟩
abbrev S1024x2048 : Shape := ⟨2, ![1024, 2048]⟩
abbrev S2048x1024 : Shape := ⟨2, ![2048, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 18
  | .vmem => 11
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x10256, .f32⟩
  | .hbm, ⟨3, _⟩ => ⟨S16384x2048, .f32⟩
  | .hbm, ⟨4, _⟩ => ⟨S2048x10256, .f32⟩
  | .hbm, ⟨5, _⟩ => ⟨S2048x6144, .f32⟩
  | .hbm, ⟨6, _⟩ => ⟨S2048x4096, .f32⟩
  | .hbm, ⟨7, _⟩ => ⟨S2048x10240, .f32⟩
  | .hbm, ⟨8, _⟩ => ⟨S2048x10240, .bf16⟩
  | .hbm, ⟨9, _⟩ => ⟨S2048x16, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x128, .bf16⟩
  | .hbm, ⟨14, _⟩ => ⟨S2048, .f32⟩
  | .hbm, ⟨15, _⟩ => ⟨S1x2048, .f32⟩
  | .hbm, ⟨16, _⟩ => ⟨S16384x10240, .bf16⟩
  | .hbm, ⟨17, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S1024x1024, .bf16⟩
  | .local _ .vmem, ⟨7, _⟩ => ⟨S1024x1024, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 10], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InProjRefIdeal.lean ====
abbrev S8x2048x2048 : Shape := ⟨3, ![8, 2048, 2048]⟩
abbrev S1x2048 : Shape := ⟨2, ![1, 2048]⟩
abbrev S1x2048x10256 : Shape := ⟨3, ![1, 2048, 10256]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x10256 : Shape := ⟨2, ![2048, 10256]⟩
abbrev S8x2048x10256 : Shape := ⟨3, ![8, 2048, 10256]⟩
abbrev S16384x10256 : Shape := ⟨2, ![16384, 10256]⟩
abbrev S16384x6144 : Shape := ⟨2, ![16384, 6144]⟩
abbrev S16384x16 : Shape := ⟨2, ![16384, 16]⟩
abbrev S16384x4096 : Shape := ⟨2, ![16384, 4096]⟩
abbrev S16384x10240 : Shape := ⟨2, ![16384, 10240]⟩
abbrev S16384x128 : Shape := ⟨2, ![16384, 128]⟩

abbrev nBuf : Space → Nat
  | .hbm => 31
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x10256, .f32⟩
  | .hbm, ⟨3, _⟩ => ⟨S2048, .f32⟩
  | .hbm, ⟨4, _⟩ => ⟨S8x2048x2048, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S1x1x2048, .f32⟩
  | .hbm, ⟨18, _⟩ => ⟨S8x2048x2048, .f32⟩
  | .hbm, ⟨19, _⟩ => ⟨S8x2048x2048, .f32⟩
  | .hbm, ⟨20, _⟩ => ⟨S2048x10256, .f32⟩
  | .hbm, ⟨21, _⟩ => ⟨S8x2048x10256, .f32⟩
  | .hbm, ⟨22, _⟩ => ⟨S16384x10256, .f32⟩
  | .hbm, ⟨23, _⟩ => ⟨S16384x6144, .f32⟩
  | .hbm, ⟨24, _⟩ => ⟨S16384x16, .f32⟩
  | .hbm, ⟨25, _⟩ => ⟨S16384x4096, .f32⟩
  | .hbm, ⟨26, _⟩ => ⟨S16384x10240, .f32⟩
  | .hbm, ⟨27, _⟩ => ⟨S16384x10240, .bf16⟩
  | .hbm, ⟨28, _⟩ => ⟨S_, .i32⟩
  | .hbm, ⟨29, _⟩ => ⟨S_, .f32⟩
  | .hbm, ⟨30, _⟩ => ⟨S16384x128, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== OutProj.lean ====
abbrev S8x2048x1024 : Shape := ⟨3, ![8, 2048, 1024]⟩
abbrev S8x2048x10256 : Shape := ⟨3, ![8, 2048, 10256]⟩
abbrev S8x2048x2048 : Shape := ⟨3, ![8, 2048, 2048]⟩
abbrev S1x1024x2048 : Shape := ⟨3, ![1, 1024, 2048]⟩
abbrev S1x2048x2048 : Shape := ⟨3, ![1, 2048, 2048]⟩
abbrev S1x2048 : Shape := ⟨2, ![1, 2048]⟩
abbrev S1x2048x32 : Shape := ⟨3, ![1, 2048, 32]⟩
abbrev S1x32 : Shape := ⟨2, ![1, 32]⟩
abbrev S16384x10256 : Shape := ⟨2, ![16384, 10256]⟩
abbrev S16384x6144 : Shape := ⟨2, ![16384, 6144]⟩
abbrev S16384x4096 : Shape := ⟨2, ![16384, 4096]⟩
abbrev S16384x10240 : Shape := ⟨2, ![16384, 10240]⟩
abbrev S2048x32 : Shape := ⟨2, ![2048, 32]⟩
abbrev S_ : Shape := ⟨0, ![]⟩
abbrev S2048x128 : Shape := ⟨2, ![2048, 128]⟩
abbrev S32 : Shape := ⟨1, ![32]⟩
abbrev S128 : Shape := ⟨1, ![128]⟩
abbrev S1x128 : Shape := ⟨2, ![1, 128]⟩
abbrev S16384x1024 : Shape := ⟨2, ![16384, 1024]⟩
abbrev S16384x2048 : Shape := ⟨2, ![16384, 2048]⟩
abbrev S1024x2048 : Shape := ⟨2, ![1024, 2048]⟩
abbrev S2048x2048 : Shape := ⟨2, ![2048, 2048]⟩
abbrev S2048 : Shape := ⟨1, ![2048]⟩
abbrev S16384x128 : Shape := ⟨2, ![16384, 128]⟩
abbrev S256x1024 : Shape := ⟨2, ![256, 1024]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 43
  | .vmem => 27
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x10256, .f32⟩
  | .hbm, ⟨3, _⟩ => ⟨S8x2048x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048x32, .f32⟩
  | .hbm, ⟨9, _⟩ => ⟨S1x32, .f32⟩
  | .hbm, ⟨10, _⟩ => ⟨S16384x10256, .f32⟩
  | .hbm, ⟨11, _⟩ => ⟨S16384x6144, .f32⟩
  | .hbm, ⟨12, _⟩ => ⟨S16384x4096, .f32⟩
  | .hbm, ⟨13, _⟩ => ⟨S16384x10240, .f32⟩
  | .hbm, ⟨14, _⟩ => ⟨S16384x10240, .bf16⟩
  | .hbm, ⟨15, _⟩ => ⟨S2048x32, .f32⟩
  | .hbm, ⟨16, _⟩ => ⟨S_, .i32⟩
  | .hbm, ⟨17, _⟩ => ⟨S_, .f32⟩
  | .hbm, ⟨18, _⟩ => ⟨S2048x128, .f32⟩
  | .hbm, ⟨19, _⟩ => ⟨S32, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S16384x1024, .f32⟩
  | .hbm, ⟨25, _⟩ => ⟨S16384x1024, .bf16⟩
  | .hbm, ⟨26, _⟩ => ⟨S16384x1024, .f32⟩
  | .hbm, ⟨27, _⟩ => ⟨S16384x1024, .bf16⟩
  | .hbm, ⟨28, _⟩ => ⟨S16384x2048, .f32⟩
  | .hbm, ⟨29, _⟩ => ⟨S1024x2048, .f32⟩
  | .hbm, ⟨30, _⟩ => ⟨S1024x2048, .bf16⟩
  | .hbm, ⟨31, _⟩ => ⟨S1024x2048, .f32⟩
  | .hbm, ⟨32, _⟩ => ⟨S1024x2048, .bf16⟩
  | .hbm, ⟨33, _⟩ => ⟨S2048x2048, .f32⟩
  | .hbm, ⟨34, _⟩ => ⟨S2048x2048, .bf16⟩
  | .hbm, ⟨35, _⟩ => ⟨S2048, .f32⟩
  | .hbm, ⟨36, _⟩ => ⟨S1x2048, .f32⟩
  | .hbm, ⟨37, _⟩ => ⟨S16384x2048, .f32⟩
  | .hbm, ⟨38, _⟩ => ⟨S16384x2048, .f32⟩
  | .hbm, ⟨39, _⟩ => ⟨S16384x128, .i32⟩
  | .hbm, ⟨40, _⟩ => ⟨S16384x128, .f32⟩
  | .hbm, ⟨41, _⟩ => ⟨S16384x128, .i32⟩
  | .hbm, ⟨42, _⟩ => ⟨S1x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S2048x128, .f32⟩
  | .local _ .vmem, ⟨15, _⟩ => ⟨S1x128, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x128, .i32⟩
  | .local _ .vmem, ⟨21, _⟩ => ⟨S256x128, .i32⟩
  | .local _ .vmem, ⟨22, _⟩ => ⟨S256x128, .f32⟩
  | .local _ .vmem, ⟨23, _⟩ => ⟨S256x128, .f32⟩
  | .local _ .vmem, ⟨24, _⟩ => ⟨S256x128, .i32⟩
  | .local _ .vmem, ⟨25, _⟩ => ⟨S256x128, .i32⟩
  | .local _ .vmem, ⟨26, _⟩ => ⟨S1x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_call1_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23_0 : Ref sig .tc := ⟨.hbm, 37, rfl⟩
abbrev main_v23_1 : Ref sig .tc := ⟨.hbm, 38, rfl⟩
abbrev main_v23_2 : Ref sig .tc := ⟨.hbm, 39, rfl⟩
abbrev main_v23_3 : Ref sig .tc := ⟨.hbm, 40, rfl⟩
abbrev main_v23_4 : Ref sig .tc := ⟨.hbm, 41, rfl⟩
abbrev main_v23_5 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== OutProjRefIdeal.lean ====
abbrev S8x2048x1024 : Shape := ⟨3, ![8, 2048, 1024]⟩
abbrev S8x2048x10256 : Shape := ⟨3, ![8, 2048, 10256]⟩
abbrev S8x2048x2048 : Shape := ⟨3, ![8, 2048, 2048]⟩
abbrev S1x1024x2048 : Shape := ⟨3, ![1, 1024, 2048]⟩
abbrev S1x2048x2048 : Shape := ⟨3, ![1, 2048, 2048]⟩
abbrev S1x2048 : Shape := ⟨2, ![1, 2048]⟩
abbrev S1x2048x32 : Shape := ⟨3, ![1, 2048, 32]⟩
abbrev S1x32 : Shape := ⟨2, ![1, 32]⟩
abbrev S8x2048x512 : Shape := ⟨3, ![8, 2048, 512]⟩
abbrev S8x2048x16 : Shape := ⟨3, ![8, 2048, 16]⟩
abbrev S_ : Shape := ⟨0, ![]⟩
abbrev S1024x2048 : Shape := ⟨2, ![1024, 2048]⟩
abbrev S2048x2048 : Shape := ⟨2, ![2048, 2048]⟩
abbrev S2048 : Shape := ⟨1, ![2048]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 65
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x10256, .f32⟩
  | .hbm, ⟨3, _⟩ => ⟨S8x2048x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048x32, .f32⟩
  | .hbm, ⟨9, _⟩ => ⟨S1x32, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S8x2048x512, .f32⟩
  | .hbm, ⟨14, _⟩ => ⟨S8x2048x512, .f32⟩
  | .hbm, ⟨15, _⟩ => ⟨S8x2048x1024, .f32⟩
  | .hbm, ⟨16, _⟩ => ⟨S8x2048x1024, .f32⟩
  | .hbm, ⟨17, _⟩ => ⟨S8x2048x16, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048x2048, .f32⟩
  | .hbm, ⟨27, _⟩ => ⟨S8x2048x2048, .f32⟩
  | .hbm, ⟨28, _⟩ => ⟨S1024x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048x2048, .f32⟩
  | .hbm, ⟨38, _⟩ => ⟨S8x2048x2048, .f32⟩
  | .hbm, ⟨39, _⟩ => ⟨S1024x2048, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S2048x2048, .f32⟩
  | .hbm, ⟨44, _⟩ => ⟨S8x2048x2048, .f32⟩
  | .hbm, ⟨45, _⟩ => ⟨S8x2048x2048, .f32⟩
  | .hbm, ⟨46, _⟩ => ⟨S2048, .f32⟩
  | .hbm, ⟨47, _⟩ => ⟨S8x2048x2048, .f32⟩
  | .hbm, ⟨48, _⟩ => ⟨S_, .f32⟩
  | .hbm, ⟨49, _⟩ => ⟨S8x2048, .f32⟩
  | .hbm, ⟨50, _⟩ => ⟨S8x2048x1, .f32⟩
  | .hbm, ⟨51, _⟩ => ⟨S_, .f32⟩
  | .hbm, ⟨52, _⟩ => ⟨S8x2048x1, .f32⟩
  | .hbm, ⟨53, _⟩ => ⟨S8x2048x1, .f32⟩
  | .hbm, ⟨54, _⟩ => ⟨S_, .f32⟩
  | .hbm, ⟨55, _⟩ => ⟨S8x2048x1, .f32⟩
  | .hbm, ⟨56, _⟩ => ⟨S8x2048x1, .f32⟩
  | .hbm, ⟨57, _⟩ => ⟨S8x2048x1, .f32⟩
  | .hbm, ⟨58, _⟩ => ⟨S8x2048x2048, .f32⟩
  | .hbm, ⟨59, _⟩ => ⟨S8x2048x2048, .f32⟩
  | .hbm, ⟨60, _⟩ => ⟨S1x1x2048, .f32⟩
  | .hbm, ⟨61, _⟩ => ⟨S8x2048x2048, .f32⟩
  | .hbm, ⟨62, _⟩ => ⟨S8x2048x2048, .f32⟩
  | .hbm, ⟨63, _⟩ => ⟨S16384x2048, .f32⟩
  | .hbm, ⟨64, _⟩ => ⟨S16384x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== Proof.Mix.Spec.lean ====
/- The mixer's mathematics on the extended reals, apart from any program: the gated short convolution and the gated
   recurrence over chunks of 64 rows, as the kernel computes them, and the laws by which the reference's spelling of
   the recurrence (scores inside a chunk, a carried state between chunks) is the same numbers where the inputs are real. -/
module
public import Idealize.ShloMosaic.Lib.Pipeline.ValueKit
public import Idealize.ShloMosaic.Lib.IdealHost
@[expose] public section
noncomputable section
namespace Cert.Gla
open Idealize.ShloMosaic
open scoped BigOperators

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.exp {x : EReal} (hx : IsReal x) : IsReal (Ideal.exp x) := by
  obtain ⟨a, rfl⟩ := hx; exact ⟨Real.exp a, rfl⟩
theorem IsReal.sum {ι : Type} {s : Finset ι} {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A number of absolute value below infinity is real. -/
theorem isReal_of_abs_lt {x : EReal} (h : max x (-x) < ⊤) : IsReal x := by
  induction x using EReal.rec with
  | bot => simp at h
  | top => simp at h
  | coe r => exact ⟨r, rfl⟩

theorem coe_max (a b : ℝ) : ((max a b : ℝ) : EReal) = max (a : EReal) (b : EReal) := EReal.coe_strictMono.monotone.map_max
theorem coe_min (a b : ℝ) : ((min a b : ℝ) : EReal) = min (a : EReal) (b : EReal) := EReal.coe_strictMono.monotone.map_min

theorem sixteenth : Ideal.ofBits .f32 0x3D800000#32 = (((1 : ℝ) / 16 : ℝ) : EReal) := by
  simp [Ideal.ofBits, Ideal.ieee, -EReal.coe_mul]; norm_num
theorem sixteen : Ideal.ofBits .f32 0x41800000#32 = ((16 : ℝ) : EReal) := by
  simp [Ideal.ofBits, Ideal.ieee, -EReal.coe_mul]; norm_num
theorem scale_real : IsReal (Ideal.ofBits .f32 0x3DB504F3#32) := by
  simp only [Ideal.ofBits, Ideal.ieee]
  simp [-EReal.coe_mul]
  exact ⟨_, rfl⟩

/-- The logarithm of the logistic function, over sixteen. -/
def lsg (z : EReal) : EReal :=
  (min z 0 - Ideal.log (1 + Ideal.exp (0 - max z (-z)))) * Ideal.ofBits .f32 0x3D800000#32

/-- The same number as the negated soft plus of the negated argument, divided by sixteen. -/
def lsgRef (z : EReal) : EReal :=
  Ideal.div (-(max (-z) 0 + Ideal.log1p (Ideal.exp (-(max (-z - 0) (-(-z - 0))))))) (Ideal.ofBits .f32 0x41800000#32)

theorem lsg_coe (r : ℝ) : lsg (r : EReal) = (((min r 0 - Real.log (1 + Real.exp (-|r|))) * (1 / 16) : ℝ) : EReal) := by
  have h1 : max (r : EReal) (-(r : EReal)) = ((|r| : ℝ) : EReal) := by
    rw [← EReal.coe_neg, abs_eq_max_neg]; exact (coe_max r (-r)).symm
  have h2 : min (r : EReal) 0 = ((min r 0 : ℝ) : EReal) := by
    rw [coe_min]; rfl
  have hp : ¬ (1 + Real.exp (-|r|)) ≤ 0 := not_le.mpr (by positivity)
  rw [lsg, h1, h2, sixteenth, show (0 : EReal) - ((|r| : ℝ) : EReal) = ((-|r| : ℝ) : EReal) by
    rw [← EReal.coe_zero, ← EReal.coe_sub, zero_sub], Ideal.exp_coe, show (1 : EReal) = ((1 : ℝ) : EReal) from rfl,
    ← EReal.coe_add, Ideal.log_coe, if_neg hp, ← EReal.coe_sub, ← EReal.coe_mul]

theorem lsgRef_coe (r : ℝ) : lsgRef (r : EReal) = lsg (r : EReal) := by
  have h1 : max (-(r : EReal) - 0) (-(-(r : EReal) - 0)) = ((|r| : ℝ) : EReal) := by
    rw [sub_zero, neg_neg, max_comm, ← EReal.coe_neg, abs_eq_max_neg]; exact (coe_max r (-r)).symm
  have h2 : max (-(r : EReal)) 0 = ((max (-r) 0 : ℝ) : EReal) := by
    rw [coe_max]; rfl
  have hp : ¬ (1 + Real.exp (-|r|)) ≤ 0 := not_le.mpr (by positivity)
  rw [lsg_coe, lsgRef, h1, h2, sixteen, Ideal.div_coe (by norm_num), ← EReal.coe_neg, Ideal.exp_coe, Ideal.log1p,
    show (1 : EReal) = ((1 : ℝ) : EReal) from rfl, ← EReal.coe_add, Ideal.log_coe, if_neg hp, ← EReal.coe_add,
    ← EReal.coe_neg, ← EReal.coe_mul]
  congr 1
  have : min r 0 = -max (-r) 0 := by
    rcases le_total r 0 with h | h
    · rw [min_eq_left h, max_eq_left (by linarith), neg_neg]
    · rw [min_eq_right h, max_eq_right (by linarith), neg_zero]
  rw [this]; ring

theorem IsReal.lsg {z : EReal} (h : IsReal z) : IsReal (lsg z) := by
  obtain ⟨r, rfl⟩ := h; exact ⟨_, lsg_coe r⟩

theorem lsgRef_eq {z : EReal} (h : IsReal z) : lsgRef z = lsg z := by
  obtain ⟨r, rfl⟩ := h; exact lsgRef_coe r

/-- One row read from one chunk's new state is what the scores inside the chunk give plus what the carried state gives. -/
theorem read_state {q a s : Fin 128 → EReal} {kt : Fin 64 → Fin 128 → EReal} {v : Fin 64 → EReal} {sc : EReal}
    (hq : ∀ k, IsReal (q k)) (ha : ∀ k, IsReal (a k)) (hs : ∀ k, IsReal (s k)) (hkt : ∀ l k, IsReal (kt l k))
    (hv : ∀ l, IsReal (v l)) (hsc : IsReal sc) :
    (∑ k, q k * (a k * s k + ∑ l, v l * kt l k)) * sc
      = (∑ l, v l * ∑ k, (q k * sc) * kt l k) + ∑ k, s k * ((q k * sc) * a k) := by
  choose q' hq' using hq
  choose a' ha' using ha
  choose s' hs' using hs
  choose kt' hkt' using hkt
  choose v' hv' using hv
  obtain ⟨sc', rfl⟩ := hsc
  simp only [hq', ha', hs', hkt', hv', ← EReal.coe_mul, ← coe_sum, ← EReal.coe_add]
  congr 1
  have e : ∀ l : Fin 64, v' l * ∑ k, q' k * sc' * kt' l k = ∑ k, v' l * (q' k * sc' * kt' l k) := fun l => by
    rw [Finset.mul_sum]
  simp only [e]
  rw [Finset.sum_comm, ← Finset.sum_add_distrib, Finset.sum_mul]
  refine Finset.sum_congr rfl fun k _ => ?_
  have e2 : ∑ l : Fin 64, v' l * (q' k * sc' * kt' l k) = q' k * sc' * ∑ l, v' l * kt' l k := by
    rw [Finset.mul_sum]; exact Finset.sum_congr rfl fun l _ => by ring
  rw [e2]; ring

section Spec
variable (X : ℕ → ℕ → ℕ → EReal) (W : ℕ → ℕ → EReal) (B : ℕ → EReal)

/-- The gate's argument at batch `b`, row `t`, key lane `j`. -/
def zf (b t j : ℕ) : EReal := (∑ r : Fin 16, X b t (6144 + r.val) * W r.val j) + B j

/-- The running sum of the gate's logarithm inside chunk `c`, up to row `l`. -/
def bc (b c l j : ℕ) : EReal := ∑ m : Fin 64, (if m.val ≤ l then 1 else 0) * lsg (zf X W B b (64 * c + m.val) j)

/-- The decayed key of row `l` of chunk `c`. -/
def kt (b c l j : ℕ) : EReal := X b (64 * c + l) (3584 + j) * Ideal.exp (bc X W B b c 63 j - bc X W B b c l j)

/-- The state after `c` chunks at key lane `j` (head `j / 128`) and value lane `v` of the head. -/
def S (b : ℕ) : ℕ → ℕ → ℕ → EReal
  | 0, _, _ => 0
  | c + 1, j, v => Ideal.exp (bc X W B b c 63 j) * S b c j v
      + ∑ l : Fin 64, X b (64 * c + l.val) (4096 + (256 * (j / 128) + v)) * kt X W B b c l.val j

/-- What row `t` reads from the state after its chunk, for head `h` and value lane `v`. -/
def od (b t h v : ℕ) : EReal :=
  (∑ k : Fin 128, X b t (3072 + (128 * h + k.val)) * S X W B b (t / 64 + 1) (128 * h + k.val) v) * Ideal.ofBits .f32 0x3DB504F3#32

/-- The normalized, weighted, gated row. -/
def yb (G : ℕ → EReal) (b t h v : ℕ) : EReal :=
  od X W B b t h v * Ideal.rsqrt (Ideal.div (∑ x : Fin 256, od X W B b t h x.val * od X W B b t h x.val) (Ideal.ofBits .f32 0x43800000#32)
    + Ideal.ofBits .f32 0x358637BD#32) * G (256 * h + v)
    * (X b t (5120 + (256 * h + v)) * Ideal.logistic (X b t (5120 + (256 * h + v))))

/-- The convolution's input two rows late: zero on the first two. -/
def yc (b s j : ℕ) : EReal := if s < 2 then 0 else X b (s - 2) j * X b (s - 2) (2048 + j)

/-- The gated short convolution. -/
def ya (CW : ℕ → ℕ → EReal) (CB : ℕ → EReal) (b t j : ℕ) : EReal :=
  X b t (1024 + j) * (CB j + CW 0 j * yc X b t j + CW 1 j * yc X b (t + 1) j + CW 2 j * yc X b (t + 2) j)

variable {X W B}
variable (hX : ∀ b t j, IsReal (X b t j)) (hW : ∀ r j, IsReal (W r j)) (hB : ∀ j, IsReal (B j))
include hX hW hB

theorem zf_real (b t j : ℕ) : IsReal (zf X W B b t j) := (IsReal.sum fun r => (hX _ _ _).mul (hW _ _)).add (hB _)
theorem bc_real (b c l j : ℕ) : IsReal (bc X W B b c l j) := IsReal.sum fun m => by
  refine IsReal.mul ?_ (zf_real hX hW hB _ _ _).lsg
  split
  · exact IsReal.one
  · exact IsReal.zero
theorem kt_real (b c l j : ℕ) : IsReal (kt X W B b c l j) :=
  (hX _ _ _).mul ((bc_real hX hW hB _ _ _ _).sub (bc_real hX hW hB _ _ _ _)).exp
theorem S_real (b c j v : ℕ) : IsReal (S X W B b c j v) := by
  induction c with
  | zero => exact IsReal.zero
  | succ c ih => exact ((bc_real hX hW hB _ _ _ _).exp.mul ih).add (IsReal.sum fun l => (hX _ _ _).mul (kt_real hX hW hB _ _ _ _))

/-- The row read from the new state, as the reference adds it up. -/
theorem od_eq (b t h v : ℕ) :
    od X W B b t h v
      = (∑ l : Fin 64, X b (64 * (t / 64) + l.val) (4096 + (256 * h + v))
          * ∑ k : Fin 128, (X b t (3072 + (128 * h + k.val)) * Ideal.ofBits .f32 0x3DB504F3#32) * kt X W B b (t / 64) l.val (128 * h + k.val))
        + ∑ k : Fin 128, S X W B b (t / 64) (128 * h + k.val) v
          * ((X b t (3072 + (128 * h + k.val)) * Ideal.ofBits .f32 0x3DB504F3#32) * Ideal.exp (bc X W B b (t / 64) 63 (128 * h + k.val))) := by
  have hd : ∀ k : Fin 128, (128 * h + k.val) / 128 = h := fun k => by omega
  rw [od]
  simp only [S, hd]
  exact read_state (fun k => hX _ _ _) (fun k => (bc_real hX hW hB _ _ _ _).exp) (fun k => S_real hX hW hB _ _ _ _)
    (fun l k => kt_real hX hW hB _ _ _ _) (fun l => hX _ _ _) scale_real
end Spec

end Cert.Gla
end
-- ==== Proof.Mix.Blocks.lean ====
module
public import proofs.«01_k».proof.Proof.Gen.KernelIdeal.Skeleton
public import Idealize.ShloMosaic.Lib.Pipeline.ValueKit
public import proofs.«01_k».proof.Proof.Mix.Spec
@[expose] public section
set_option maxRecDepth 16384
noncomputable section
namespace Cert.KernelIdeal.Mix
open Idealize.ShloMosaic Cert.KernelIdeal.Gen

section Blocks
variable {F : FTy → Type} [FloatOps F]

/-- The keys of one chunk of 64 rows, each times the decay from its row to the chunk's last row. -/
def kt (a : FVec F S64x128 .f32) (w : FVec F S128x512 .f32) (b : FVec F S1x512 .f32) (k : FVec F S64x512 .bf16) :
    FVec F S64x512 .bf16 :=
  k0_pay14 (k0_pay10 a w b) (k0_pay12 k) (k0_pay13 a w b)

/-- The decay of one whole chunk, per key lane. -/
def dc (a : FVec F S64x128 .f32) (w : FVec F S128x512 .f32) (b : FVec F S1x512 .f32) : FVec F S1x512 .f32 :=
  k0_pay15 (k0_pay11 a w b)

/-- One head's state after one chunk: the state before it times the decay, and the chunk's values against its keys. -/
def st (o : ℕ) (hk : S64x512.Slices ![0, o] S64x128) (hd : S1x512.Slices ![0, o] S1x128) (kt : FVec F S64x512 .bf16)
    (dc : FVec F S1x512 .f32) (v : FVec F S64x256 .bf16) (s : FVec F S1x256x128 .f32) : FVec F S256x128 .f32 :=
  addf (mulf (broadcastTo S256x128 (extractStridedSlice S1x128 ![0, o] dc hd) broadcasts_S1x128_S256x128)
      (shapeCast S256x128 s shapeCasts_S1x256x128_S256x128))
    (matmul dot_S64x256_S64x128_S256x128_0_0_1_1_n_n none (shapeCast S64x256 v shapeCasts_S64x256_S64x256)
      (extractStridedSlice S64x128 ![0, o] kt hk) (constant S256x128 .f32 0x00000000#32))

/-- One head's rows of one chunk read from the state. -/
def rd (s : FVec F S256x128 .f32) (q : FVec F S64x128 .bf16) : FVec F S64x256 .f32 :=
  mulf (matmul dot_S64x128_S256x128_S64x256_1_1_0_0_n_n none (shapeCast S64x128 q shapeCasts_S64x128_S64x128)
      (truncf .bf16 s bitsLt_bf16_f32) (constant S64x256 .f32 0x00000000#32))
    (broadcast S64x256 (Scalar.ofBits .f32 0x3DB504F3#32))

/-- One head's rows of the result: what `rd` reads, normalized over the head, times the norm's weight and the gate. -/
def ob (o : FVec F S64x256 .f32) (g : FVec F S1x256 .f32) (r : FVec F S64x256 .bf16) : FVec F S64x256 .bf16 :=
  truncf .bf16
    (mulf
      (mulf
        (mulf o (broadcastTo S64x256
          (rsqrt (addf (divf (shapeCast S64x1 (multiReduction .add [1] S64 (mulf o o) 0x00000000#32 reduces_S64x256_S64 (.inl rfl) rfl)
            shapeCasts_S64_S64x1) (broadcast S64x1 (Scalar.ofBits .f32 0x43800000#32)))
            (broadcast S64x1 (Scalar.ofBits .f32 0x358637BD#32)))) broadcasts_S64x1_S64x256))
        (broadcastTo S64x256 (shapeCast S1x256 g shapeCasts_S1x256_S1x256) broadcasts_S1x256_S64x256))
      (mulf (extf .f32 (shapeCast S64x256 r shapeCasts_S64x256_S64x256) bitsLt_bf16_f32)
        (logistic (extf .f32 (shapeCast S64x256 r shapeCasts_S64x256_S64x256) bitsLt_bf16_f32))))
    bitsLt_bf16_f32

end Blocks

/-- One entry of a head's state after a chunk. -/
theorem st_apply (o : ℕ) (hk : S64x512.Slices ![0, o] S64x128) (hd : S1x512.Slices ![0, o] S1x128) (kt : FVec Ideal S64x512 .bf16)
    (dc : FVec Ideal S1x512 .f32) (v : FVec Ideal S64x256 .bf16) (s : FVec Ideal S1x256x128 .f32) (j0 : Fin 256) (j1 : Fin 128) (ho : o + j1 < 512) :
    st o hk hd kt dc v s (ix2 j0 j1) = dc (ix2 0 ⟨o + j1, ho⟩) * s (ix3 0 j0 j1) + ∑ x, v (ix2 x j0) * kt (ix2 x ⟨o + j1, ho⟩) := by
  pointwise [st]

/-- One entry of what a head's rows read from the state. -/
theorem rd_apply (s : FVec Ideal S256x128 .f32) (q : FVec Ideal S64x128 .bf16) (j0 : Fin 64) (j1 : Fin 256) :
    rd s q (ix2 j0 j1) = (∑ x, q (ix2 j0 x) * s (ix2 j1 x)) * Ideal.ofBits .f32 0x3DB504F3#32 := by
  pointwise [rd]

/-- One entry of a head's normalized and gated rows. -/
theorem ob_apply (o : FVec Ideal S64x256 .f32) (g : FVec Ideal S1x256 .f32) (r : FVec Ideal S64x256 .bf16) (j0 : Fin 64) (j1 : Fin 256) :
    ob o g r (ix2 j0 j1) = o (ix2 j0 j1) *
          Ideal.rsqrt (Ideal.div (∑ x, o (ix2 j0 x) * o (ix2 j0 x)) (Ideal.ofBits .f32 0x43800000#32) + Ideal.ofBits .f32 0x358637BD#32) *
        g (ix2 0 j1) * (r (ix2 j0 j1) * Ideal.logistic (r (ix2 j0 j1))) := by
  pointwise [ob]

/-- One entry of a chunk's decay. -/
theorem dc_apply (a w b) (j1 : Fin 512) : dc (F := Ideal) a w b (ix2 0 j1) = Ideal.exp (k0_pay10 (F := Ideal) a w b (ix2 63 j1)) := by
  pointwise [dc, k0_pay15, k0_pay11]

/-- One entry of a chunk's decayed keys. -/
theorem kt_apply (a w b k) (j0 : Fin 64) (j1 : Fin 512) :
    kt (F := Ideal) a w b k (ix2 j0 j1) = k (ix2 j0 j1) * Ideal.exp (k0_pay10 (F := Ideal) a w b (ix2 63 j1) - k0_pay10 (F := Ideal) a w b (ix2 j0 j1)) := by
  pointwise [kt, k0_pay14, k0_pay13, k0_pay12, k0_pay11]

private theorem mask (l x : Fin 64) :
    (FloatOps.sitofp (F := Ideal) .f32 (BitVec.setWidth 32 (IntOp.cmpi .sge (BitVec.ofNat 32 l) (BitVec.ofNat 32 x))) : EReal)
      = if x ≤ l then 1 else 0 := by
  have h : (BitVec.setWidth 32 (IntOp.cmpi .sge (BitVec.ofNat 32 (l : ℕ)) (BitVec.ofNat 32 (x : ℕ)))).toInt = if x ≤ l then 1 else 0 := by
    revert l x; decide +kernel
  show ((_ : ℝ) : EReal) = _
  rw [h]
  split <;> simp

/-- One entry of a chunk's running sum of the log gates. -/
theorem bc_apply (a w b) (j0 : Fin 64) (j1 : Fin 512) : k0_pay10 (F := Ideal) a w b (ix2 j0 j1)
    = ∑ x : Fin 64, (if x ≤ j0 then 1 else 0) * Cert.Gla.lsg (∑ i, a (ix2 x i) * w (ix2 i j1) + b (ix2 0 j1)) := by
  pointwise [k0_pay10, k0_pay9]
  exact Finset.sum_congr rfl fun x _ => by rw [mask]; rfl
end Cert.KernelIdeal.Mix
end
-- ==== Proof.Mix.Steps.lean ====
module
public import proofs.«01_k».proof.Proof.Mix.Blocks
public import proofs.«01_k».proof.Proof.Gen.KernelIdeal.Frame
public import Idealize.ShloMosaic.Lib.Pipeline.ValueKit
public import Idealize.ShloMosaic.Lib.Pipeline.ReadBack
@[expose] public section
set_option maxRecDepth 16384
noncomputable section
namespace Cert.KernelIdeal.Mix
open Cert.KernelIdeal Cert.KernelIdeal.Gen Idealize.ShloMosaic Idealize.ShloMosaic.TcCoe Idealize.SL.Sem
variable {F : FTy → Type} [FloatOps F]

/-- A block of rows and columns of a two-axis array, as a memory load cuts it. -/
abbrev cut {a b : ℕ} {e : EltTy} (x : Vec F ⟨2, ![a, b]⟩ e) (o p k l : ℕ) (h : ∀ i, ![o, p] i + ![k, l] i ≤ ![a, b] i) : Vec F ⟨2, ![k, l]⟩ e :=
  View.ld x (Rect.unit ![o, p] ![k, l] h)

theorem cut_inb {a b o p k l : ℕ} (h0 : o + k ≤ a) (h1 : p + l ≤ b) : ∀ i, ![o, p] i + ![k, l] i ≤ ![a, b] i := by
  intro i; fin_cases i <;> simpa

/-- The convolution's buffer in one tile: the eight rows `hl` before the tile, then the tile's products. -/
def cbuf (hl : FVec F S8x1024 .f32) (x0 x2 : Vec F S256x1024 .bf16) : Vec F S264x1024 .f32 :=
  View.canon [⟨Rect.unit ![8, 0] ![256, 1024] inb_S264x1024_S256x1024_8_0, k0_pay5 x0 x2⟩, ⟨Rect.unit ![0, 0] ![8, 1024] inb_S264x1024_S8x1024_0_0, hl⟩]

/-- The convolution's tile from its buffer. -/
def aOut (b : Vec F S264x1024 .f32) (x0 x1 x2 : Vec F S256x1024 .bf16) (x8 : Vec F S3x1024 .f32) (x9 : Vec F S1x1024 .f32) : FVec F S256x1024 .bf16 :=
  k0_pay8 (k0_pay4 x0 x2)
    (k0_pay6 (View.ld b (Rect.unit ![7, 0] ![256, 1024] inb_S264x1024_S256x1024_7_0)) (View.ld b (Rect.unit ![6, 0] ![256, 1024] inb_S264x1024_S256x1024_6_0))
      x9 (View.ld x8 (Rect.unit ![0, 0] ![1, 1024] inb_S3x1024_S1x1024_0_0)) (View.ld x8 (Rect.unit ![1, 0] ![1, 1024] inb_S3x1024_S1x1024_1_0)))
    (k0_pay7 (View.ld x8 (Rect.unit ![2, 0] ![1, 1024] inb_S3x1024_S1x1024_2_0))) x1

/-- The eight last rows of a buffer, that the next tile starts from. -/
def tail8 (b : Vec F S264x1024 .f32) : FVec F S8x1024 .f32 := k0_pay3 (View.ld b (Rect.unit ![256, 0] ![8, 1024] inb_S264x1024_S8x1024_256_0))

theorem slK (h : ℕ) (hh : h < 4) : S64x512.Slices ![0, 128 * h] S64x128 := by interval_cases h <;> decide
theorem slD (h : ℕ) (hh : h < 4) : S1x512.Slices ![0, 128 * h] S1x128 := by interval_cases h <;> decide

section
variable (x3 : Vec F S256x512 .bf16) (x4 : Vec F S256x512 .bf16) (x5 : Vec F S256x1024 .bf16) (x6 : Vec F S256x1024 .bf16)
  (x7 : Vec F S256x128 .f32) (x10 : Vec F S128x512 .f32) (x11 : Vec F S1x512 .f32) (x12 : Vec F S1x1024 .f32) (xs0 : Vec F S4x256x128 .f32)

/-- Chunk `c`'s new state for head `h`, from the state `s` before it. -/
def stp (c : ℕ) (hc : c < 4) (h : ℕ) (hh : h < 4) (s : FVec F S1x256x128 .f32) : FVec F S256x128 .f32 :=
  st (128 * h) (slK h hh) (slD h hh)
    (kt (cut x7 (64 * c) 0 64 128 (cut_inb (by omega) (by omega))) x10 x11 (cut x4 (64 * c) 0 64 512 (cut_inb (by omega) (by omega))))
    (dc (cut x7 (64 * c) 0 64 128 (cut_inb (by omega) (by omega))) x10 x11)
    (cut x5 (64 * c) (256 * h) 64 256 (cut_inb (by omega) (by omega))) s

/-- Head `h`'s state before chunk `c` of one tile, the tile entered at `xs0`. -/
def ss (h : ℕ) (hh : h < 4) : (c : ℕ) → c ≤ 4 → FVec F S1x256x128 .f32
  | 0, _ => View.ld xs0 (Rect.unit ![h, 0, 0] ![1, 256, 128] (by intro i; fin_cases i <;> simp <;> omega))
  | c + 1, hc => shapeCast S1x256x128 (stp x4 x5 x7 x10 x11 c hc h hh (ss h hh c (by omega))) shapeCasts_S256x128_S1x256x128

/-- Head `h`'s rows of the result in chunk `c`. -/
def os (c : ℕ) (hc : c < 4) (h : ℕ) (hh : h < 4) : FVec F S64x256 .bf16 :=
  ob (rd (stp x4 x5 x7 x10 x11 c hc h hh (ss x4 x5 x7 x10 x11 xs0 h hh c (by omega))) (cut x3 (64 * c) (128 * h) 64 128 (cut_inb (by omega) (by omega))))
    (cut x12 0 (256 * h) 1 256 (cut_inb (by omega) (by omega))) (cut x6 (64 * c) (256 * h) 64 256 (cut_inb (by omega) (by omega)))

/-- The state one tile leaves. -/
def sb (y : S4x256x128.Idx) : F .f32 := ss x4 x5 x7 x10 x11 xs0 (y 0) (y 0).isLt 4 (by decide) (ix3 0 (y 1) (y 2))

theorem sb_at (h : ℕ) (hh : h < 4) (x : S1x256x128.Idx) (y : S4x256x128.Idx) (h0 : (y 0 : ℕ) = h) (h1 : (y 1 : ℕ) = x 1) (h2 : (y 2 : ℕ) = x 2) :
    ss x4 x5 x7 x10 x11 xs0 h hh 4 (by decide) x = sb x4 x5 x7 x10 x11 xs0 y := by
  idx_vars x
  subst h0
  have e1 : y 1 = x1 := Fin.ext h1
  have e2 : y 2 = x2 := Fin.ext h2
  have e0 : x0 = 0 := Subsingleton.elim _ _
  subst e0
  simp only [sb, e1, e2]

/-- The result's entry at a row and column of a tile, by the row's chunk and the column's head. -/
theorem os_at (c : ℕ) (hc : c < 4) (h : ℕ) (hh : h < 4) (x : S64x256.Idx) (y0 y1 : ℕ) (h0 : y0 = 64 * c + (x 0 : ℕ)) (h1 : y1 = 256 * h + (x 1 : ℕ))
    (k0 : y0 / 64 < 4) (k1 : y1 / 256 < 4) (m0 : y0 % 64 < 64) (m1 : y1 % 256 < 256) :
    os x3 x4 x5 x6 x7 x10 x11 x12 xs0 c hc h hh x
      = os x3 x4 x5 x6 x7 x10 x11 x12 xs0 (y0 / 64) k0 (y1 / 256) k1 (ix2 ⟨y0 % 64, m0⟩ ⟨y1 % 256, m1⟩) := by
  idx_vars x
  have e0 : y0 / 64 = c := by simp at h0; omega
  have e1 : y1 / 256 = h := by simp at h1; omega
  have e2 : y0 % 64 = x0 := by simp at h0; omega
  have e3 : y1 % 256 = x1 := by simp at h1; omega
  subst e0 e1
  simp only [e2, e3]
end

/-- Every index of the state lies in one of the four heads' blocks. -/
theorem cover4 (w3 w2 w1 w0 : S1x256x128.Idx → Elt F .f32) (y : S4x256x128.Idx) : ∃ p ∈ ([⟨Rect.unit ![3, 0, 0] ![1, 256, 128] inb_S4x256x128_S1x256x128_3_0_0, w3⟩,
    ⟨Rect.unit ![2, 0, 0] ![1, 256, 128] inb_S4x256x128_S1x256x128_2_0_0, w2⟩, ⟨Rect.unit ![1, 0, 0] ![1, 256, 128] inb_S4x256x128_S1x256x128_1_0_0, w1⟩,
    ⟨Rect.unit ![0, 0, 0] ![1, 256, 128] inb_S4x256x128_S1x256x128_0_0_0, w0⟩] : List (View.Piece (Elt F) S4x256x128 .f32)), y ∈ p.1.set := by
  have h1 : (y 1 : ℕ) < 256 := (y 1).isLt
  have h2 : (y 2 : ℕ) < 128 := (y 2).isLt
  have h0 : (y 0 : ℕ) = 3 ∨ (y 0 : ℕ) = 2 ∨ (y 0 : ℕ) = 1 ∨ (y 0 : ℕ) = 0 := by have : (y 0 : ℕ) < 4 := (y 0).isLt; omega
  have m (k : ℕ) (hb) (h : (y 0 : ℕ) = k) : y ∈ (Rect.unit (s := S4x256x128) ![k, 0, 0] ![1, 256, 128] hb).set :=
    Rect.mem_set_unit.2 (Fin.forall_fin_succ.2 ⟨⟨h.ge, by show (y 0 : ℕ) < k + 1; omega⟩, Fin.forall_fin_succ.2 ⟨⟨Nat.zero_le _, by show (y 1 : ℕ) < 0 + 256; omega⟩,
      Fin.forall_fin_succ.2 ⟨⟨Nat.zero_le _, by show (y 2 : ℕ) < 0 + 128; omega⟩, fun i => i.elim0⟩⟩⟩)
  rcases h0 with h | h | h | h
  · exact ⟨⟨_, w3⟩, List.mem_cons_self, m 3 inb_S4x256x128_S1x256x128_3_0_0 h⟩
  · exact ⟨⟨_, w2⟩, List.mem_cons_of_mem _ List.mem_cons_self, m 2 inb_S4x256x128_S1x256x128_2_0_0 h⟩
  · exact ⟨⟨_, w1⟩, List.mem_cons_of_mem _ (List.mem_cons_of_mem _ List.mem_cons_self), m 1 inb_S4x256x128_S1x256x128_1_0_0 h⟩
  · exact ⟨⟨_, w0⟩, List.mem_cons_of_mem _ (List.mem_cons_of_mem _ (List.mem_cons_of_mem _ List.mem_cons_self)), m 0 inb_S4x256x128_S1x256x128_0_0_0 h⟩

set_option maxHeartbeats 4000000 in
theorem out0_B_14_eq (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x128 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S128x512 .f32) (harg12 : arg12.IsWhole) (arg13 : Memref sig .tc .vmem S1x512 .f32) (harg13 : arg13.IsWhole) (arg14 : Memref sig .tc .vmem S1x1024 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S4x256x128 .f32) (harg17 : arg17.IsWhole) (arg18 : Memref sig .tc .vmem S264x1024 .f32) (harg18 : arg18.IsWhole) (hc0 : ¬cond0_0 i) (hc1 : cond0_1 i)
    (x0 : Vec F S256x1024 .bf16) (x1 : Vec F S256x1024 .bf16) (x2 : Vec F S256x1024 .bf16) (x3 : Vec F S256x512 .bf16) (x4 : Vec F S256x512 .bf16) (x5 : Vec F S256x1024 .bf16) (x6 : Vec F S256x1024 .bf16) (x7 : Vec F S256x128 .f32) (x8 : Vec F S3x1024 .f32) (x9 : Vec F S1x1024 .f32) (x10 : Vec F S128x512 .f32) (x11 : Vec F S1x512 .f32) (x12 : Vec F S1x1024 .f32) (xs0 : Vec F S4x256x128 .f32) (xs1 : Vec F S264x1024 .f32) (y : S256x1024.Idx) (hy0 : (y 0 : ℕ) < 256) (hy1 : (y 1 : ℕ) < 1024) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 y = os x3 x4 x5 x6 x7 x10 x11 x12 xs0 (y 0 / 64) (by clear * - hy0 hy1; omega) (y 1 / 256) (by clear * - hy0 hy1; omega) (ix2 ⟨y 0 % 64, by clear * - hy0 hy1; omega⟩ ⟨y 1 % 256, by clear * - hy0 hy1; omega⟩) := by
  unfold out0_B_14
  frame_open
  simp (disch := decide) only [↓ View.readCov_skip, ↓ View.readCov_cons_toLoadRect, ↓ View.readCov_fill]
  frame_out
  canon_tiles x h
  · exact Eq.trans (rfl : _ = os x3 x4 x5 x6 x7 x10 x11 x12 xs0 3 (by decide) 3 (by decide) x) (os_at _ _ _ _ _ _ _ _ _ 3 _ 3 _ x _ _ (by omega) (by omega) _ _ _ _)
  · exact Eq.trans (rfl : _ = os x3 x4 x5 x6 x7 x10 x11 x12 xs0 3 (by decide) 2 (by decide) x) (os_at _ _ _ _ _ _ _ _ _ 3 _ 2 _ x _ _ (by omega) (by omega) _ _ _ _)
  · exact Eq.trans (rfl : _ = os x3 x4 x5 x6 x7 x10 x11 x12 xs0 3 (by decide) 1 (by decide) x) (os_at _ _ _ _ _ _ _ _ _ 3 _ 1 _ x _ _ (by omega) (by omega) _ _ _ _)
  · exact Eq.trans (rfl : _ = os x3 x4 x5 x6 x7 x10 x11 x12 xs0 3 (by decide) 0 (by decide) x) (os_at _ _ _ _ _ _ _ _ _ 3 _ 0 _ x _ _ (by omega) (by omega) _ _ _ _)
  · exact Eq.trans (rfl : _ = os x3 x4 x5 x6 x7 x10 x11 x12 xs0 2 (by decide) 3 (by decide) x) (os_at _ _ _ _ _ _ _ _ _ 2 _ 3 _ x _ _ (by omega) (by omega) _ _ _ _)
  · exact Eq.trans (rfl : _ = os x3 x4 x5 x6 x7 x10 x11 x12 xs0 2 (by decide) 2 (by decide) x) (os_at _ _ _ _ _ _ _ _ _ 2 _ 2 _ x _ _ (by omega) (by omega) _ _ _ _)
  · exact Eq.trans (rfl : _ = os x3 x4 x5 x6 x7 x10 x11 x12 xs0 2 (by decide) 1 (by decide) x) (os_at _ _ _ _ _ _ _ _ _ 2 _ 1 _ x _ _ (by omega) (by omega) _ _ _ _)
  · exact Eq.trans (rfl : _ = os x3 x4 x5 x6 x7 x10 x11 x12 xs0 2 (by decide) 0 (by decide) x) (os_at _ _ _ _ _ _ _ _ _ 2 _ 0 _ x _ _ (by omega) (by omega) _ _ _ _)
  · exact Eq.trans (rfl : _ = os x3 x4 x5 x6 x7 x10 x11 x12 xs0 1 (by decide) 3 (by decide) x) (os_at _ _ _ _ _ _ _ _ _ 1 _ 3 _ x _ _ (by omega) (by omega) _ _ _ _)
  · exact Eq.trans (rfl : _ = os x3 x4 x5 x6 x7 x10 x11 x12 xs0 1 (by decide) 2 (by decide) x) (os_at _ _ _ _ _ _ _ _ _ 1 _ 2 _ x _ _ (by omega) (by omega) _ _ _ _)
  · exact Eq.trans (rfl : _ = os x3 x4 x5 x6 x7 x10 x11 x12 xs0 1 (by decide) 1 (by decide) x) (os_at _ _ _ _ _ _ _ _ _ 1 _ 1 _ x _ _ (by omega) (by omega) _ _ _ _)
  · exact Eq.trans (rfl : _ = os x3 x4 x5 x6 x7 x10 x11 x12 xs0 1 (by decide) 0 (by decide) x) (os_at _ _ _ _ _ _ _ _ _ 1 _ 0 _ x _ _ (by omega) (by omega) _ _ _ _)
  · exact Eq.trans (rfl : _ = os x3 x4 x5 x6 x7 x10 x11 x12 xs0 0 (by decide) 3 (by decide) x) (os_at _ _ _ _ _ _ _ _ _ 0 _ 3 _ x _ _ (by omega) (by omega) _ _ _ _)
  · exact Eq.trans (rfl : _ = os x3 x4 x5 x6 x7 x10 x11 x12 xs0 0 (by decide) 2 (by decide) x) (os_at _ _ _ _ _ _ _ _ _ 0 _ 2 _ x _ _ (by omega) (by omega) _ _ _ _)
  · exact Eq.trans (rfl : _ = os x3 x4 x5 x6 x7 x10 x11 x12 xs0 0 (by decide) 1 (by decide) x) (os_at _ _ _ _ _ _ _ _ _ 0 _ 1 _ x _ _ (by omega) (by omega) _ _ _ _)
  · exact Eq.trans (rfl : _ = os x3 x4 x5 x6 x7 x10 x11 x12 xs0 0 (by decide) 0 (by decide) x) (os_at _ _ _ _ _ _ _ _ _ 0 _ 0 _ x _ _ (by omega) (by omega) _ _ _ _)

set_option maxHeartbeats 4000000 in
theorem out0_A_14_eq (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x128 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S128x512 .f32) (harg12 : arg12.IsWhole) (arg13 : Memref sig .tc .vmem S1x512 .f32) (harg13 : arg13.IsWhole) (arg14 : Memref sig .tc .vmem S1x1024 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S4x256x128 .f32) (harg17 : arg17.IsWhole) (arg18 : Memref sig .tc .vmem S264x1024 .f32) (harg18 : arg18.IsWhole) (hc0 : cond0_0 i) (hc1 : ¬cond0_1 i)
    (x0 : Vec F S256x1024 .bf16) (x1 : Vec F S256x1024 .bf16) (x2 : Vec F S256x1024 .bf16) (x3 : Vec F S256x512 .bf16) (x4 : Vec F S256x512 .bf16) (x5 : Vec F S256x1024 .bf16) (x6 : Vec F S256x1024 .bf16) (x7 : Vec F S256x128 .f32) (x8 : Vec F S3x1024 .f32) (x9 : Vec F S1x1024 .f32) (x10 : Vec F S128x512 .f32) (x11 : Vec F S1x512 .f32) (x12 : Vec F S1x1024 .f32) (y : S256x1024.Idx) (hy0 : (y 0 : ℕ) < 256) (hy1 : (y 1 : ℕ) < 1024) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 y = os x3 x4 x5 x6 x7 x10 x11 x12 k0_pay1 (y 0 / 64) (by clear * - hy0 hy1; omega) (y 1 / 256) (by clear * - hy0 hy1; omega) (ix2 ⟨y 0 % 64, by clear * - hy0 hy1; omega⟩ ⟨y 1 % 256, by clear * - hy0 hy1; omega⟩) := by
  unfold out0_A_14
  frame_open
  simp (disch := decide) only [↓ View.readCov_skip, ↓ View.readCov_cons_toLoadRect, ↓ View.readCov_fill]
  frame_out
  canon_tiles x h
  · exact Eq.trans (rfl : _ = os x3 x4 x5 x6 x7 x10 x11 x12 k0_pay1 3 (by decide) 3 (by decide) x) (os_at _ _ _ _ _ _ _ _ _ 3 _ 3 _ x _ _ (by omega) (by omega) _ _ _ _)
  · exact Eq.trans (rfl : _ = os x3 x4 x5 x6 x7 x10 x11 x12 k0_pay1 3 (by decide) 2 (by decide) x) (os_at _ _ _ _ _ _ _ _ _ 3 _ 2 _ x _ _ (by omega) (by omega) _ _ _ _)
  · exact Eq.trans (rfl : _ = os x3 x4 x5 x6 x7 x10 x11 x12 k0_pay1 3 (by decide) 1 (by decide) x) (os_at _ _ _ _ _ _ _ _ _ 3 _ 1 _ x _ _ (by omega) (by omega) _ _ _ _)
  · exact Eq.trans (rfl : _ = os x3 x4 x5 x6 x7 x10 x11 x12 k0_pay1 3 (by decide) 0 (by decide) x) (os_at _ _ _ _ _ _ _ _ _ 3 _ 0 _ x _ _ (by omega) (by omega) _ _ _ _)
  · exact Eq.trans (rfl : _ = os x3 x4 x5 x6 x7 x10 x11 x12 k0_pay1 2 (by decide) 3 (by decide) x) (os_at _ _ _ _ _ _ _ _ _ 2 _ 3 _ x _ _ (by omega) (by omega) _ _ _ _)
  · exact Eq.trans (rfl : _ = os x3 x4 x5 x6 x7 x10 x11 x12 k0_pay1 2 (by decide) 2 (by decide) x) (os_at _ _ _ _ _ _ _ _ _ 2 _ 2 _ x _ _ (by omega) (by omega) _ _ _ _)
  · exact Eq.trans (rfl : _ = os x3 x4 x5 x6 x7 x10 x11 x12 k0_pay1 2 (by decide) 1 (by decide) x) (os_at _ _ _ _ _ _ _ _ _ 2 _ 1 _ x _ _ (by omega) (by omega) _ _ _ _)
  · exact Eq.trans (rfl : _ = os x3 x4 x5 x6 x7 x10 x11 x12 k0_pay1 2 (by decide) 0 (by decide) x) (os_at _ _ _ _ _ _ _ _ _ 2 _ 0 _ x _ _ (by omega) (by omega) _ _ _ _)
  · exact Eq.trans (rfl : _ = os x3 x4 x5 x6 x7 x10 x11 x12 k0_pay1 1 (by decide) 3 (by decide) x) (os_at _ _ _ _ _ _ _ _ _ 1 _ 3 _ x _ _ (by omega) (by omega) _ _ _ _)
  · exact Eq.trans (rfl : _ = os x3 x4 x5 x6 x7 x10 x11 x12 k0_pay1 1 (by decide) 2 (by decide) x) (os_at _ _ _ _ _ _ _ _ _ 1 _ 2 _ x _ _ (by omega) (by omega) _ _ _ _)
  · exact Eq.trans (rfl : _ = os x3 x4 x5 x6 x7 x10 x11 x12 k0_pay1 1 (by decide) 1 (by decide) x) (os_at _ _ _ _ _ _ _ _ _ 1 _ 1 _ x _ _ (by omega) (by omega) _ _ _ _)
  · exact Eq.trans (rfl : _ = os x3 x4 x5 x6 x7 x10 x11 x12 k0_pay1 1 (by decide) 0 (by decide) x) (os_at _ _ _ _ _ _ _ _ _ 1 _ 0 _ x _ _ (by omega) (by omega) _ _ _ _)
  · exact Eq.trans (rfl : _ = os x3 x4 x5 x6 x7 x10 x11 x12 k0_pay1 0 (by decide) 3 (by decide) x) (os_at _ _ _ _ _ _ _ _ _ 0 _ 3 _ x _ _ (by omega) (by omega) _ _ _ _)
  · exact Eq.trans (rfl : _ = os x3 x4 x5 x6 x7 x10 x11 x12 k0_pay1 0 (by decide) 2 (by decide) x) (os_at _ _ _ _ _ _ _ _ _ 0 _ 2 _ x _ _ (by omega) (by omega) _ _ _ _)
  · exact Eq.trans (rfl : _ = os x3 x4 x5 x6 x7 x10 x11 x12 k0_pay1 0 (by decide) 1 (by decide) x) (os_at _ _ _ _ _ _ _ _ _ 0 _ 1 _ x _ _ (by omega) (by omega) _ _ _ _)
  · exact Eq.trans (rfl : _ = os x3 x4 x5 x6 x7 x10 x11 x12 k0_pay1 0 (by decide) 0 (by decide) x) (os_at _ _ _ _ _ _ _ _ _ 0 _ 0 _ x _ _ (by omega) (by omega) _ _ _ _)

set_option maxHeartbeats 4000000 in
theorem sout0_B_0_eq (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x128 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S128x512 .f32) (harg12 : arg12.IsWhole) (arg13 : Memref sig .tc .vmem S1x512 .f32) (harg13 : arg13.IsWhole) (arg14 : Memref sig .tc .vmem S1x1024 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S4x256x128 .f32) (harg17 : arg17.IsWhole) (arg18 : Memref sig .tc .vmem S264x1024 .f32) (harg18 : arg18.IsWhole) (hc0 : ¬cond0_0 i) (hc1 : cond0_1 i)
    (x0 : Vec F S256x1024 .bf16) (x1 : Vec F S256x1024 .bf16) (x2 : Vec F S256x1024 .bf16) (x3 : Vec F S256x512 .bf16) (x4 : Vec F S256x512 .bf16) (x5 : Vec F S256x1024 .bf16) (x6 : Vec F S256x1024 .bf16) (x7 : Vec F S256x128 .f32) (x8 : Vec F S3x1024 .f32) (x9 : Vec F S1x1024 .f32) (x10 : Vec F S128x512 .f32) (x11 : Vec F S1x512 .f32) (x12 : Vec F S1x1024 .f32) (xs0 : Vec F S4x256x128 .f32) (xs1 : Vec F S264x1024 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 = sb x4 x5 x7 x10 x11 xs0 := by
  unfold sout0_B_0
  frame_open
  simp (disch := decide) only [↓ View.readCov_skip, ↓ View.readCov_cons_toLoadRect, ↓ View.readCov_fill]
  frame_out
  have p0 : ∀ x : (Rect.unit (s := S4x256x128) ![0, 0, 0] ![1, 256, 128] inb_S4x256x128_S1x256x128_0_0_0).shape.Idx,
      ss x4 x5 x7 x10 x11 xs0 0 (by decide) 4 (by decide) x = sb x4 x5 x7 x10 x11 xs0 ((Rect.unit (s := S4x256x128) ![0, 0, 0] ![1, 256, 128] inb_S4x256x128_S1x256x128_0_0_0).emb x) := fun x =>
    sb_at _ _ _ _ _ _ 0 _ x _ (by simp [Rect.emb_apply]) (by simp [Rect.emb_apply]) (by simp [Rect.emb_apply])
  have p1 : ∀ x : (Rect.unit (s := S4x256x128) ![1, 0, 0] ![1, 256, 128] inb_S4x256x128_S1x256x128_1_0_0).shape.Idx,
      ss x4 x5 x7 x10 x11 xs0 1 (by decide) 4 (by decide) x = sb x4 x5 x7 x10 x11 xs0 ((Rect.unit (s := S4x256x128) ![1, 0, 0] ![1, 256, 128] inb_S4x256x128_S1x256x128_1_0_0).emb x) := fun x =>
    sb_at _ _ _ _ _ _ 1 _ x _ (by simp [Rect.emb_apply]) (by simp [Rect.emb_apply]) (by simp [Rect.emb_apply])
  have p2 : ∀ x : (Rect.unit (s := S4x256x128) ![2, 0, 0] ![1, 256, 128] inb_S4x256x128_S1x256x128_2_0_0).shape.Idx,
      ss x4 x5 x7 x10 x11 xs0 2 (by decide) 4 (by decide) x = sb x4 x5 x7 x10 x11 xs0 ((Rect.unit (s := S4x256x128) ![2, 0, 0] ![1, 256, 128] inb_S4x256x128_S1x256x128_2_0_0).emb x) := fun x =>
    sb_at _ _ _ _ _ _ 2 _ x _ (by simp [Rect.emb_apply]) (by simp [Rect.emb_apply]) (by simp [Rect.emb_apply])
  have p3 : ∀ x : (Rect.unit (s := S4x256x128) ![3, 0, 0] ![1, 256, 128] inb_S4x256x128_S1x256x128_3_0_0).shape.Idx,
      ss x4 x5 x7 x10 x11 xs0 3 (by decide) 4 (by decide) x = sb x4 x5 x7 x10 x11 xs0 ((Rect.unit (s := S4x256x128) ![3, 0, 0] ![1, 256, 128] inb_S4x256x128_S1x256x128_3_0_0).emb x) := fun x =>
    sb_at _ _ _ _ _ _ 3 _ x _ (by simp [Rect.emb_apply]) (by simp [Rect.emb_apply]) (by simp [Rect.emb_apply])
  funext y
  exact View.canon_append_of_piecesOf (sb x4 x5 x7 x10 x11 xs0) _ [_, _, _, _] ⟨p3, p2, p1, p0, trivial⟩ y (cover4 _ _ _ _ y)

set_option maxHeartbeats 4000000 in
theorem sout0_A_0_eq (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x128 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S128x512 .f32) (harg12 : arg12.IsWhole) (arg13 : Memref sig .tc .vmem S1x512 .f32) (harg13 : arg13.IsWhole) (arg14 : Memref sig .tc .vmem S1x1024 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S4x256x128 .f32) (harg17 : arg17.IsWhole) (arg18 : Memref sig .tc .vmem S264x1024 .f32) (harg18 : arg18.IsWhole) (hc0 : cond0_0 i) (hc1 : ¬cond0_1 i)
    (x0 : Vec F S256x1024 .bf16) (x1 : Vec F S256x1024 .bf16) (x2 : Vec F S256x1024 .bf16) (x3 : Vec F S256x512 .bf16) (x4 : Vec F S256x512 .bf16) (x5 : Vec F S256x1024 .bf16) (x6 : Vec F S256x1024 .bf16) (x7 : Vec F S256x128 .f32) (x8 : Vec F S3x1024 .f32) (x9 : Vec F S1x1024 .f32) (x10 : Vec F S128x512 .f32) (x11 : Vec F S1x512 .f32) (x12 : Vec F S1x1024 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 = sb x4 x5 x7 x10 x11 k0_pay1 := by
  unfold sout0_A_0
  frame_open
  simp (disch := decide) only [↓ View.readCov_skip, ↓ View.readCov_cons_toLoadRect, ↓ View.readCov_fill]
  frame_out
  have p0 : ∀ x : (Rect.unit (s := S4x256x128) ![0, 0, 0] ![1, 256, 128] inb_S4x256x128_S1x256x128_0_0_0).shape.Idx,
      ss x4 x5 x7 x10 x11 k0_pay1 0 (by decide) 4 (by decide) x = sb x4 x5 x7 x10 x11 k0_pay1 ((Rect.unit (s := S4x256x128) ![0, 0, 0] ![1, 256, 128] inb_S4x256x128_S1x256x128_0_0_0).emb x) := fun x =>
    sb_at _ _ _ _ _ _ 0 _ x _ (by simp [Rect.emb_apply]) (by simp [Rect.emb_apply]) (by simp [Rect.emb_apply])
  have p1 : ∀ x : (Rect.unit (s := S4x256x128) ![1, 0, 0] ![1, 256, 128] inb_S4x256x128_S1x256x128_1_0_0).shape.Idx,
      ss x4 x5 x7 x10 x11 k0_pay1 1 (by decide) 4 (by decide) x = sb x4 x5 x7 x10 x11 k0_pay1 ((Rect.unit (s := S4x256x128) ![1, 0, 0] ![1, 256, 128] inb_S4x256x128_S1x256x128_1_0_0).emb x) := fun x =>
    sb_at _ _ _ _ _ _ 1 _ x _ (by simp [Rect.emb_apply]) (by simp [Rect.emb_apply]) (by simp [Rect.emb_apply])
  have p2 : ∀ x : (Rect.unit (s := S4x256x128) ![2, 0, 0] ![1, 256, 128] inb_S4x256x128_S1x256x128_2_0_0).shape.Idx,
      ss x4 x5 x7 x10 x11 k0_pay1 2 (by decide) 4 (by decide) x = sb x4 x5 x7 x10 x11 k0_pay1 ((Rect.unit (s := S4x256x128) ![2, 0, 0] ![1, 256, 128] inb_S4x256x128_S1x256x128_2_0_0).emb x) := fun x =>
    sb_at _ _ _ _ _ _ 2 _ x _ (by simp [Rect.emb_apply]) (by simp [Rect.emb_apply]) (by simp [Rect.emb_apply])
  have p3 : ∀ x : (Rect.unit (s := S4x256x128) ![3, 0, 0] ![1, 256, 128] inb_S4x256x128_S1x256x128_3_0_0).shape.Idx,
      ss x4 x5 x7 x10 x11 k0_pay1 3 (by decide) 4 (by decide) x = sb x4 x5 x7 x10 x11 k0_pay1 ((Rect.unit (s := S4x256x128) ![3, 0, 0] ![1, 256, 128] inb_S4x256x128_S1x256x128_3_0_0).emb x) := fun x =>
    sb_at _ _ _ _ _ _ 3 _ x _ (by simp [Rect.emb_apply]) (by simp [Rect.emb_apply]) (by simp [Rect.emb_apply])
  funext y
  exact View.canon_append_of_piecesOf (sb x4 x5 x7 x10 x11 k0_pay1) _ [_, _, _, _] ⟨p3, p2, p1, p0, trivial⟩ y (cover4 _ _ _ _ y)

set_option maxHeartbeats 4000000 in
theorem sout0_B_1_eq (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x128 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S128x512 .f32) (harg12 : arg12.IsWhole) (arg13 : Memref sig .tc .vmem S1x512 .f32) (harg13 : arg13.IsWhole) (arg14 : Memref sig .tc .vmem S1x1024 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S4x256x128 .f32) (harg17 : arg17.IsWhole) (arg18 : Memref sig .tc .vmem S264x1024 .f32) (harg18 : arg18.IsWhole) (hc0 : ¬cond0_0 i) (hc1 : cond0_1 i)
    (x0 : Vec F S256x1024 .bf16) (x1 : Vec F S256x1024 .bf16) (x2 : Vec F S256x1024 .bf16) (x3 : Vec F S256x512 .bf16) (x4 : Vec F S256x512 .bf16) (x5 : Vec F S256x1024 .bf16) (x6 : Vec F S256x1024 .bf16) (x7 : Vec F S256x128 .f32) (x8 : Vec F S3x1024 .f32) (x9 : Vec F S1x1024 .f32) (x10 : Vec F S128x512 .f32) (x11 : Vec F S1x512 .f32) (x12 : Vec F S1x1024 .f32) (xs0 : Vec F S4x256x128 .f32) (xs1 : Vec F S264x1024 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 = cbuf (tail8 xs1) x0 x2 := by
  unfold sout0_B_1
  frame_open
  simp (disch := decide) only [↓ View.readCov_skip, ↓ View.readCov_cons_toLoadRect, ↓ View.readCov_fill]
  frame_out
  rfl

set_option maxHeartbeats 4000000 in
theorem sout0_A_1_eq (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x128 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S128x512 .f32) (harg12 : arg12.IsWhole) (arg13 : Memref sig .tc .vmem S1x512 .f32) (harg13 : arg13.IsWhole) (arg14 : Memref sig .tc .vmem S1x1024 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S4x256x128 .f32) (harg17 : arg17.IsWhole) (arg18 : Memref sig .tc .vmem S264x1024 .f32) (harg18 : arg18.IsWhole) (hc0 : cond0_0 i) (hc1 : ¬cond0_1 i)
    (x0 : Vec F S256x1024 .bf16) (x1 : Vec F S256x1024 .bf16) (x2 : Vec F S256x1024 .bf16) (x3 : Vec F S256x512 .bf16) (x4 : Vec F S256x512 .bf16) (x5 : Vec F S256x1024 .bf16) (x6 : Vec F S256x1024 .bf16) (x7 : Vec F S256x128 .f32) (x8 : Vec F S3x1024 .f32) (x9 : Vec F S1x1024 .f32) (x10 : Vec F S128x512 .f32) (x11 : Vec F S1x512 .f32) (x12 : Vec F S1x1024 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 = cbuf k0_pay2 x0 x2 := by
  unfold sout0_A_1
  frame_open
  simp (disch := decide) only [↓ View.readCov_skip, ↓ View.readCov_cons_toLoadRect, ↓ View.readCov_fill]
  frame_out

set_option maxHeartbeats 4000000 in
theorem out0_B_13_eq (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x128 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S128x512 .f32) (harg12 : arg12.IsWhole) (arg13 : Memref sig .tc .vmem S1x512 .f32) (harg13 : arg13.IsWhole) (arg14 : Memref sig .tc .vmem S1x1024 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S4x256x128 .f32) (harg17 : arg17.IsWhole) (arg18 : Memref sig .tc .vmem S264x1024 .f32) (harg18 : arg18.IsWhole) (hc0 : ¬cond0_0 i) (hc1 : cond0_1 i)
    (x0 : Vec F S256x1024 .bf16) (x1 : Vec F S256x1024 .bf16) (x2 : Vec F S256x1024 .bf16) (x3 : Vec F S256x512 .bf16) (x4 : Vec F S256x512 .bf16) (x5 : Vec F S256x1024 .bf16) (x6 : Vec F S256x1024 .bf16) (x7 : Vec F S256x128 .f32) (x8 : Vec F S3x1024 .f32) (x9 : Vec F S1x1024 .f32) (x10 : Vec F S128x512 .f32) (x11 : Vec F S1x512 .f32) (x12 : Vec F S1x1024 .f32) (xs0 : Vec F S4x256x128 .f32) (xs1 : Vec F S264x1024 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 = aOut (cbuf (tail8 xs1) x0 x2) x0 x1 x2 x8 x9 := by
  unfold out0_B_13
  frame_open
  simp (disch := decide) only [↓ View.readCov_skip, ↓ View.readCov_cons_toLoadRect, ↓ View.readCov_fill]
  frame_out
  simp only [View.readCov_eq_canon']
  rfl

set_option maxHeartbeats 4000000 in
theorem out0_A_13_eq (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x128 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S128x512 .f32) (harg12 : arg12.IsWhole) (arg13 : Memref sig .tc .vmem S1x512 .f32) (harg13 : arg13.IsWhole) (arg14 : Memref sig .tc .vmem S1x1024 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S4x256x128 .f32) (harg17 : arg17.IsWhole) (arg18 : Memref sig .tc .vmem S264x1024 .f32) (harg18 : arg18.IsWhole) (hc0 : cond0_0 i) (hc1 : ¬cond0_1 i)
    (x0 : Vec F S256x1024 .bf16) (x1 : Vec F S256x1024 .bf16) (x2 : Vec F S256x1024 .bf16) (x3 : Vec F S256x512 .bf16) (x4 : Vec F S256x512 .bf16) (x5 : Vec F S256x1024 .bf16) (x6 : Vec F S256x1024 .bf16) (x7 : Vec F S256x128 .f32) (x8 : Vec F S3x1024 .f32) (x9 : Vec F S1x1024 .f32) (x10 : Vec F S128x512 .f32) (x11 : Vec F S1x512 .f32) (x12 : Vec F S1x1024 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 = aOut (cbuf k0_pay2 x0 x2) x0 x1 x2 x8 x9 := by
  unfold out0_A_13
  frame_open
  simp (disch := decide) only [↓ View.readCov_skip, ↓ View.readCov_cons_toLoadRect, ↓ View.readCov_fill]
  frame_out
  simp only [View.readCov_eq_canon']
  rfl

end Cert.KernelIdeal.Mix
end
-- ==== Proof.Mix.Tile.lean ====
module
public import proofs.«01_k».proof.Proof.Mix.Steps
@[expose] public section
set_option maxRecDepth 16384
noncomputable section
namespace Cert.KernelIdeal.Mix
open Cert.KernelIdeal Cert.KernelIdeal.Gen Idealize.ShloMosaic Cert.Gla

/-- The place of a block's element in a two-axis array. -/
theorem emb2 {a b : ℕ} (o p k l : ℕ) (h : ∀ i, ![o, p] i + ![k, l] i ≤ (⟨2, ![a, b]⟩ : Shape).size i) (i : Fin k) (j : Fin l) (hi : o + i < a) (hj : p + j < b) :
    (Rect.unit (s := ⟨2, ![a, b]⟩) ![o, p] ![k, l] h).emb (ix2 i j) = ix2 ⟨o + i, hi⟩ ⟨p + j, hj⟩ := by
  refine funext fun a => Fin.ext ?_
  fin_cases a <;> simp [Rect.emb_apply]

/-- A load of a two-axis array at an index. -/
theorem cut_apply {a b : ℕ} {e : EltTy} (x : Vec Ideal ⟨2, ![a, b]⟩ e) (o p k l : ℕ) (h) (i : Fin k) (j : Fin l) (hi : o + i < a) (hj : p + j < b) :
    cut x o p k l h (ix2 i j) = x (ix2 ⟨o + i, hi⟩ ⟨p + j, hj⟩) :=
  congrArg x (emb2 o p k l h i j hi hj)

/-- A sum over the 128 lanes whose last 112 are empty is the sum over the first 16. -/
theorem sum_lanes (f : Fin 128 → EReal) (g : Fin 16 → EReal) (h : ∀ i : Fin 128, f i = if hi : i.val < 16 then g ⟨i, hi⟩ else 0) :
    ∑ i, f i = ∑ r, g r := by
  have e : ∑ i : Fin 128, f i = ∑ i ∈ Finset.range 128, if hi : i < 16 then g ⟨i, hi⟩ else 0 := by
    rw [Finset.sum_range]; exact Finset.sum_congr rfl fun i _ => h i
  have e' : ∑ r : Fin 16, g r = ∑ i ∈ Finset.range 16, if hi : i < 16 then g ⟨i, hi⟩ else 0 := by
    rw [Finset.sum_range]; exact Finset.sum_congr rfl fun i _ => by simp
  rw [e, e']
  refine (Finset.sum_subset (fun i hi => ?_) fun i _ hi => ?_).symm
  · simp only [Finset.mem_range] at *; omega
  · simp only [Finset.mem_range] at *; rw [dif_neg (by omega)]

section
variable (X : ℕ → ℕ → ℕ → EReal) (W : ℕ → ℕ → EReal) (B G : ℕ → EReal) (CW : ℕ → ℕ → EReal) (CB : ℕ → EReal) (b tt : ℕ)
variable (x3 : Vec Ideal S256x512 .bf16) (x4 : Vec Ideal S256x512 .bf16) (x5 : Vec Ideal S256x1024 .bf16) (x6 : Vec Ideal S256x1024 .bf16)
  (x7 : Vec Ideal S256x128 .f32) (x10 : Vec Ideal S128x512 .f32) (x11 : Vec Ideal S1x512 .f32) (x12 : Vec Ideal S1x1024 .f32) (xs0 : Vec Ideal S4x256x128 .f32)

/-- What the blocks of one tile hold: rows `256 * tt …` of batch `b` of the projection, and the weights. -/
structure Holds : Prop where
  q : ∀ i j, x3 (ix2 i j) = X b (256 * tt + i.val) (3072 + j.val)
  k : ∀ i j, x4 (ix2 i j) = X b (256 * tt + i.val) (3584 + j.val)
  v : ∀ i j, x5 (ix2 i j) = X b (256 * tt + i.val) (4096 + j.val)
  r : ∀ i j, x6 (ix2 i j) = X b (256 * tt + i.val) (5120 + j.val)
  a : ∀ (i : Fin 256) (j : Fin 128), x7 (ix2 i j) = if j.val < 16 then X b (256 * tt + i.val) (6144 + j.val) else 0
  w : ∀ (i : Fin 128) j, x10 (ix2 i j) = if i.val < 16 then W i.val j.val else 0
  bias : ∀ j, x11 (ix2 0 j) = B j.val
  g : ∀ j, x12 (ix2 0 j) = G j.val

variable {X W B G b tt x3 x4 x5 x6 x7 x10 x11 x12 xs0}
variable (H : Holds X W B G b tt x3 x4 x5 x6 x7 x10 x11 x12)
include H

theorem Holds.bc (c : ℕ) (hc : c < 4) (h) (l : Fin 64) (j : Fin 512) :
    k0_pay10 (F := Ideal) (cut x7 (64 * c) 0 64 128 h) x10 x11 (ix2 l j) = Gla.bc X W B b (4 * tt + c) l.val j.val := by
  rw [bc_apply]
  refine Finset.sum_congr rfl fun m _ => ?_
  congr 2
  rw [zf, H.bias]
  congr 1
  refine sum_lanes _ _ fun i => ?_
  rw [cut_apply _ _ _ _ _ _ _ _ (by omega) (by omega), H.a, H.w]
  by_cases hi : i.val < 16
  · simp only [hi, dif_pos, if_pos, Nat.zero_add]
    rw [show 256 * tt + (64 * c + m.val) = 64 * (4 * tt + c) + m.val by omega]
  · simp [hi]

theorem Holds.kt (c : ℕ) (hc : c < 4) (h h') (l : Fin 64) (j : Fin 512) :
    kt (F := Ideal) (cut x7 (64 * c) 0 64 128 h) x10 x11 (cut x4 (64 * c) 0 64 512 h') (ix2 l j) = Gla.kt X W B b (4 * tt + c) l.val j.val := by
  rw [kt_apply, H.bc c hc, H.bc c hc, cut_apply _ _ _ _ _ _ _ _ (by omega) (by omega), H.k, Gla.kt]
  simp only [Nat.zero_add]
  rw [show 256 * tt + (64 * c + l.val) = 64 * (4 * tt + c) + l.val by omega]
  rfl

theorem Holds.stp (c : ℕ) (hc : c < 4) (h : ℕ) (hh : h < 4) (s : FVec Ideal S1x256x128 .f32)
    (hs : ∀ v k, s (ix3 0 v k) = Gla.S X W B b (4 * tt + c) (128 * h + k.val) v.val) (v : Fin 256) (k : Fin 128) :
    stp x4 x5 x7 x10 x11 c hc h hh s (ix2 v k) = Gla.S X W B b (4 * tt + c + 1) (128 * h + k.val) v.val := by
  rw [Mix.stp, st_apply _ _ _ _ _ _ _ _ _ (by omega), dc_apply, H.bc c hc, hs, Gla.S]
  congr 1
  refine Finset.sum_congr rfl fun l _ => ?_
  rw [H.kt c hc, cut_apply _ _ _ _ _ _ _ _ (by omega) (by omega), H.v]
  have e : (128 * h + k.val) / 128 = h := by omega
  simp only [e]
  rw [show 256 * tt + (64 * c + l.val) = 64 * (4 * tt + c) + l.val by omega]

/-- The states between the chunks of one tile. -/
theorem Holds.ss (hs : ∀ h v k, xs0 (ix3 h v k) = Gla.S X W B b (4 * tt) (128 * h.val + k.val) v.val) (h : ℕ) (hh : h < 4) (c : ℕ) (hc : c ≤ 4)
    (v : Fin 256) (k : Fin 128) :
    ss x4 x5 x7 x10 x11 xs0 h hh c hc (ix3 0 v k) = Gla.S X W B b (4 * tt + c) (128 * h + k.val) v.val := by
  induction c generalizing v k with
  | zero =>
    refine Eq.trans ?_ (hs ⟨h, hh⟩ v k)
    rw [Mix.ss]
    refine congrArg xs0 (funext fun a => Fin.ext ?_)
    fin_cases a <;> simp [Rect.emb_apply]
  | succ c ih =>
    rw [Mix.ss]
    refine Eq.trans ?_ (H.stp c (by omega) h hh _ (fun v k => ih (by omega) v k) v k)
    pointwise

/-- The state one tile leaves. -/
theorem Holds.sb (hs : ∀ h v k, xs0 (ix3 h v k) = Gla.S X W B b (4 * tt) (128 * h.val + k.val) v.val) (h : Fin 4) (v : Fin 256) (k : Fin 128) :
    sb x4 x5 x7 x10 x11 xs0 (ix3 h v k) = Gla.S X W B b (4 * (tt + 1)) (128 * h.val + k.val) v.val :=
  H.ss hs h.val h.isLt 4 (by decide) v k

/-- The rows one tile writes. -/
theorem Holds.os (hs : ∀ h v k, xs0 (ix3 h v k) = Gla.S X W B b (4 * tt) (128 * h.val + k.val) v.val) (c : ℕ) (hc : c < 4) (h : ℕ) (hh : h < 4)
    (l : Fin 64) (v : Fin 256) :
    os x3 x4 x5 x6 x7 x10 x11 x12 xs0 c hc h hh (ix2 l v) = Gla.yb X W B G b (256 * tt + (64 * c + l.val)) h v.val := by
  have e (v : Fin 256) : rd (Mix.stp x4 x5 x7 x10 x11 c hc h hh (Mix.ss x4 x5 x7 x10 x11 xs0 h hh c (by omega)))
      (cut x3 (64 * c) (128 * h) 64 128 (cut_inb (by omega) (by omega))) (ix2 l v) = Gla.od X W B b (256 * tt + (64 * c + l.val)) h v.val := by
    rw [rd_apply, Gla.od]
    congr 1
    refine Finset.sum_congr rfl fun k _ => ?_
    rw [cut_apply _ _ _ _ _ _ _ _ (by omega) (by omega), H.q, H.stp c hc h hh _ (fun v k => H.ss hs h hh c (by omega) v k)]
    rw [show (256 * tt + (64 * c + l.val)) / 64 + 1 = 4 * tt + c + 1 by omega]
  rw [Mix.os, ob_apply, Gla.yb]
  simp only [e]
  rw [cut_apply _ _ _ _ _ _ _ _ (by omega) (by omega), cut_apply _ _ _ _ _ _ _ _ (by omega) (by omega), H.r,
    show (⟨0 + (0 : Fin 1).val, by omega⟩ : Fin 1) = 0 from rfl, H.g]
end

section
variable (X : ℕ → ℕ → ℕ → EReal) (CW : ℕ → ℕ → EReal) (CB : ℕ → EReal) (b tt : ℕ)
variable (x0 x1 x2 : Vec Ideal S256x1024 .bf16) (x8 : Vec Ideal S3x1024 .f32) (x9 : Vec Ideal S1x1024 .f32)

/-- What the convolution's blocks of one tile hold. -/
structure CHolds : Prop where
  c : ∀ i j, x0 (ix2 i j) = X b (256 * tt + i.val) j.val
  u : ∀ i j, x1 (ix2 i j) = X b (256 * tt + i.val) (1024 + j.val)
  x : ∀ i j, x2 (ix2 i j) = X b (256 * tt + i.val) (2048 + j.val)
  w : ∀ i j, x8 (ix2 i j) = CW i.val j.val
  bias : ∀ j, x9 (ix2 0 j) = CB j.val

variable {X CW CB b tt x0 x1 x2 x8 x9}
variable (H : CHolds X CW CB b tt x0 x1 x2 x8 x9)
include H

/-- The buffer's rows from the sixth on are the products, two rows of zeros before the first. -/
theorem CHolds.buf (hl : FVec Ideal S8x1024 .f32) (hh : ∀ (i : Fin 8) j, 6 ≤ i.val → hl (ix2 i j) = Gla.yc X b (256 * tt + i.val - 6) j.val)
    (i : Fin 264) (j : Fin 1024) (hi : 6 ≤ i.val) : cbuf hl x0 x2 (ix2 i j) = Gla.yc X b (256 * tt + i.val - 6) j.val := by
  unfold cbuf
  by_cases h8 : 8 ≤ i.val
  · have e : (ix2 i j : S264x1024.Idx) = (Rect.unit (s := S264x1024) ![8, 0] ![256, 1024] inb_S264x1024_S256x1024_8_0).emb (ix2 ⟨i.val - 8, by omega⟩ j) := by
      rw [emb2 _ _ _ _ _ _ _ (by show 8 + (i.val - 8) < 264; omega) (by omega)]
      exact congrArg₂ _ (Fin.ext (by show i.val = 8 + (i.val - 8); omega)) (Fin.ext (by simp))
    rw [e, View.canon_cons_emb]
    refine Eq.trans (b := x0 (ix2 ⟨i.val - 8, by omega⟩ j) * x2 (ix2 ⟨i.val - 8, by omega⟩ j)) (by pointwise [k0_pay5, k0_pay4]) ?_
    rw [H.c, H.x, Gla.yc, if_neg (by omega), show 256 * tt + (i.val - 8) = 256 * tt + i.val - 6 - 2 by omega]
  · rw [View.canon_cons_of_not_mem _ _ (fun h => by
      have h' := (Rect.mem_set_unit (s := S264x1024) (inb := inb_S264x1024_S256x1024_8_0)).1 h (0 : Fin 2)
      exact h8 h'.1)]
    have e : (ix2 i j : S264x1024.Idx) = (Rect.unit (s := S264x1024) ![0, 0] ![8, 1024] inb_S264x1024_S8x1024_0_0).emb (ix2 ⟨i.val, by omega⟩ j) := by
      rw [emb2 _ _ _ _ _ _ _ (by show 0 + i.val < 264; omega) (by omega)]
      exact congrArg₂ _ (Fin.ext (by simp)) (Fin.ext (by simp))
    rw [e, View.canon_cons_emb]
    exact hh _ _ hi

/-- The rows the next tile starts from. -/
theorem CHolds.tail (hl : FVec Ideal S8x1024 .f32) (hh : ∀ (i : Fin 8) j, 6 ≤ i.val → hl (ix2 i j) = Gla.yc X b (256 * tt + i.val - 6) j.val)
    (i : Fin 8) (j : Fin 1024) : tail8 (cbuf hl x0 x2) (ix2 i j) = Gla.yc X b (256 * (tt + 1) + i.val - 6) j.val := by
  refine Eq.trans (b := cbuf hl x0 x2 (ix2 ⟨256 + i.val, by omega⟩ j)) (by pointwise [tail8, k0_pay3]) ?_
  rw [H.buf hl hh _ _ (by show 6 ≤ 256 + i.val; omega)]
  simp only [Nat.zero_add]
  rw [show 256 * tt + (256 + i.val) - 6 = 256 * (tt + 1) + i.val - 6 by omega]

/-- The rows one tile of the convolution writes. -/
theorem CHolds.out (hl : FVec Ideal S8x1024 .f32) (hh : ∀ (i : Fin 8) j, 6 ≤ i.val → hl (ix2 i j) = Gla.yc X b (256 * tt + i.val - 6) j.val)
    (i : Fin 256) (j : Fin 1024) : aOut (cbuf hl x0 x2) x0 x1 x2 x8 x9 (ix2 i j) = Gla.ya X CW CB b (256 * tt + i.val) j.val := by
  refine Eq.trans (b := x1 (ix2 i j) * (x9 (ix2 0 j) + x8 (ix2 0 j) * cbuf hl x0 x2 (ix2 ⟨6 + i.val, by omega⟩ j)
      + x8 (ix2 1 j) * cbuf hl x0 x2 (ix2 ⟨7 + i.val, by omega⟩ j)
      + x8 (ix2 2 j) * (x0 (ix2 i j) * x2 (ix2 i j)))) (by pointwise [aOut, k0_pay8, k0_pay7, k0_pay6, k0_pay4]) ?_
  rw [H.w, H.w, H.w, H.u, H.bias, H.c, H.x,
    H.buf hl hh _ _ (by show 6 ≤ 6 + i.val; omega), H.buf hl hh _ _ (by show 6 ≤ 7 + i.val; omega), Gla.ya]
  simp only [Nat.zero_add]
  rw [show 256 * tt + (6 + i.val) - 6 = 256 * tt + i.val by omega, show 256 * tt + (7 + i.val) - 6 = 256 * tt + i.val + 1 by omega]
  rw [show Gla.yc X b (256 * tt + i.val + 2) j.val = X b (256 * tt + i.val) j.val * X b (256 * tt + i.val) (2048 + j.val) by
    rw [Gla.yc, if_neg (by omega), show 256 * tt + i.val + 2 - 2 = 256 * tt + i.val by omega]]
  rfl
end

end Cert.KernelIdeal.Mix
end
-- ==== Proof.Mix.Arr.lean ====
module
public import proofs.«01_k».proof.Proof.Mix.Spec
public import Idealize.ShloMosaic.Lib.Pipeline.ValueKit
@[expose] public section
noncomputable section
namespace Cert.Gla
open Idealize.ShloMosaic

/-- A stack of matrices by numbers, zero outside. -/
def inX {n0 n1 n2 : ℕ} (x : (⟨3, ![n0, n1, n2]⟩ : Shape).Idx → EReal) (b t j : ℕ) : EReal :=
  if h : b < n0 ∧ t < n1 ∧ j < n2 then x (ix3 ⟨b, h.1⟩ ⟨t, h.2.1⟩ ⟨j, h.2.2⟩) else 0

/-- The matrix of a stack of one by numbers, zero outside. -/
def inM {n1 n2 : ℕ} (x : (⟨3, ![1, n1, n2]⟩ : Shape).Idx → EReal) (t j : ℕ) : EReal :=
  if h : t < n1 ∧ j < n2 then x (ix3 0 ⟨t, h.1⟩ ⟨j, h.2⟩) else 0

/-- The row of a stack of one by numbers, zero outside. -/
def inR {n2 : ℕ} (x : (⟨2, ![1, n2]⟩ : Shape).Idx → EReal) (j : ℕ) : EReal :=
  if h : j < n2 then x (ix2 0 ⟨j, h⟩) else 0

theorem inX_eq {n0 n1 n2 : ℕ} (x : (⟨3, ![n0, n1, n2]⟩ : Shape).Idx → EReal) (b t j : ℕ) (hb : b < n0) (ht : t < n1) (hj : j < n2) :
    inX x b t j = x (ix3 ⟨b, hb⟩ ⟨t, ht⟩ ⟨j, hj⟩) := dif_pos ⟨hb, ht, hj⟩

theorem inM_eq {n1 n2 : ℕ} (x : (⟨3, ![1, n1, n2]⟩ : Shape).Idx → EReal) (t j : ℕ) (ht : t < n1) (hj : j < n2) :
    inM x t j = x (ix3 0 ⟨t, ht⟩ ⟨j, hj⟩) := dif_pos ⟨ht, hj⟩

theorem inR_eq {n2 : ℕ} (x : (⟨2, ![1, n2]⟩ : Shape).Idx → EReal) (j : ℕ) (hj : j < n2) : inR x j = x (ix2 0 ⟨j, hj⟩) := dif_pos hj

/-- Entries that are real numbers stay so when read by numbers. -/
theorem inX_real {n0 n1 n2 : ℕ} {x : (⟨3, ![n0, n1, n2]⟩ : Shape).Idx → EReal} (h : ∀ i, IsReal (x i)) (b t j : ℕ) : IsReal (inX x b t j) := by
  unfold inX; split; exacts [h _, IsReal.zero]

theorem inM_real {n1 n2 : ℕ} {x : (⟨3, ![1, n1, n2]⟩ : Shape).Idx → EReal} (h : ∀ i, IsReal (x i)) (t j : ℕ) : IsReal (inM x t j) := by
  unfold inM; split; exacts [h _, IsReal.zero]

theorem inR_real {n2 : ℕ} {x : (⟨2, ![1, n2]⟩ : Shape).Idx → EReal} (h : ∀ i, IsReal (x i)) (j : ℕ) : IsReal (inR x j) := by
  unfold inR; split; exacts [h _, IsReal.zero]

/-- The whole number zero as a float is zero. -/
theorem sitofp0 : (FloatOps.sitofp (F := Ideal) .f32 (0#32) : EReal) = 0 := by
  show (((0#32 : BitVec 32).toInt : ℝ) : EReal) = 0
  norm_num

end Cert.Gla
-- ==== Proof.Mix.Inputs.lean ====
module
public import proofs.«01_k».proof.Proof.Mix.Tile
public import proofs.«01_k».proof.Proof.Mix.Arr
public import proofs.«01_k».proof.Proof.Gen.KernelIdeal.Value
public import Idealize.ShloMosaic.Lib.StableHlo.ReadAt
@[expose] public section
set_option maxRecDepth 16384
noncomputable section
namespace Cert.KernelIdeal.Mix
open Cert.KernelIdeal Cert.KernelIdeal.Gen Idealize.ShloMosaic Idealize.ShloMosaic.TcCoe Idealize.SL.Sem Cert.Gla
variable (m : (ℓ : Loc nD τ sig) → Buf (Elt Ideal) ℓ) (c : Dev nD)

/-- The projection in memory, by numbers. -/
abbrev pX : ℕ → ℕ → ℕ → EReal := inX (m (c, Proc.devRef .tc main_arg0))
/-- The convolution's weight in memory. -/
abbrev pCW : ℕ → ℕ → EReal := inM (m (c, Proc.devRef .tc main_arg1))
/-- The convolution's bias in memory. -/
abbrev pCB : ℕ → EReal := inR (m (c, Proc.devRef .tc main_arg2))
/-- The gate's second weight in memory. -/
abbrev pW : ℕ → ℕ → EReal := inM (m (c, Proc.devRef .tc main_arg3))
/-- The gate's bias in memory. -/
abbrev pB : ℕ → EReal := inR (m (c, Proc.devRef .tc main_arg4))
/-- The norm's weight in memory, the heads side by side. -/
abbrev pG : ℕ → EReal := fun j => inM (m (c, Proc.devRef .tc main_arg5)) (j / 256) (j % 256)

/-- The first operations: the low columns of the wide array are the projection's. -/
theorem v1 (i : Fin 16384) (j : Fin 6144) : (StableHlo.upto hostOps0 (fun b => m (c, b)) 3 (Proc.devRef .tc main_v1) : FVec Ideal S16384x6144 .f32) (ix2 i j) = (pX m c (i.val / 2048) (i.val % 2048) j.val : EReal) := by
  after_reads_at
  exact (inX_eq _ _ _ _ (by omega) (by omega) (by omega)).symm

/-- The array the first seven windows are cut from. -/
theorem v4 (i : Fin 16384) (j : Fin 10240) (hj : j.val < 6144) : (V m c main_v4 : FVec Ideal S16384x10240 .bf16) (ix2 i j) = (pX m c (i.val / 2048) (i.val % 2048) j.val : EReal) := by
  unfold V
  simp only [List.flatten_cons, List.flatten_nil, List.append_nil, StableHlo.after_append]
  after_reads_at
  rw [dif_pos hj]
  exact v1 m c i ⟨j.val, hj⟩

/-- The gate's low lanes, padded with zeros. -/
theorem v6 (i : Fin 16384) (j : Fin 128) : (V m c main_v6 : FVec Ideal S16384x128 .f32) (ix2 i j) = (if j.val < 16 then pX m c (i.val / 2048) (i.val % 2048) (6144 + j.val) else 0 : EReal) := by
  unfold V
  simp only [List.flatten_cons, List.flatten_nil, List.append_nil, StableHlo.after_append]
  after_reads_at
  by_cases h : j.val < 16
  · simp only [h, ↓reduceDIte, ↓reduceIte]; exact (inX_eq _ _ _ _ (by omega) (by omega) (by omega)).symm
  · simp only [h, ↓reduceDIte, ↓reduceIte]; exact sitofp0

/-- The gate's second weight, padded with zeros. -/
theorem v8 (i : Fin 128) (j : Fin 512) : (V m c main_v8 : FVec Ideal S128x512 .f32) (ix2 i j) = (if i.val < 16 then pW m c i.val j.val else 0 : EReal) := by
  unfold V
  simp only [List.flatten_cons, List.flatten_nil, List.append_nil, StableHlo.after_append]
  after_reads_at
  by_cases h : i.val < 16
  · simp only [h, ↓reduceDIte, ↓reduceIte]; exact (inM_eq _ _ _ (by omega) (by omega)).symm
  · simp only [h, ↓reduceDIte, ↓reduceIte]; exact sitofp0

/-- The convolution's weight. -/
theorem v9 (i : Fin 3) (j : Fin 1024) : (V m c main_v9 : FVec Ideal S3x1024 .f32) (ix2 i j) = (pCW m c i.val j.val : EReal) := by
  unfold V
  simp only [List.flatten_cons, List.flatten_nil, List.append_nil, StableHlo.after_append]
  after_reads_at
  exact (inM_eq _ _ _ (by omega) (by omega)).symm

/-- The convolution's bias. -/
theorem v11 (j : Fin 1024) : (V m c main_v11 : FVec Ideal S1x1024 .f32) (ix2 0 j) = (pCB m c j.val : EReal) := by
  unfold V
  simp only [List.flatten_cons, List.flatten_nil, List.append_nil, StableHlo.after_append]
  after_reads_at
  exact (inR_eq _ _ (by omega)).symm

/-- The gate's bias. -/
theorem v13 (j : Fin 512) : (V m c main_v13 : FVec Ideal S1x512 .f32) (ix2 0 j) = (pB m c j.val : EReal) := by
  unfold V
  simp only [List.flatten_cons, List.flatten_nil, List.append_nil, StableHlo.after_append]
  after_reads_at
  exact (inR_eq _ _ (by omega)).symm

/-- The norm's weight. -/
theorem v15 (j : Fin 1024) : (V m c main_v15 : FVec Ideal S1x1024 .f32) (ix2 0 j) = (pG m c j.val : EReal) := by
  unfold V
  simp only [List.flatten_cons, List.flatten_nil, List.append_nil, StableHlo.after_append]
  after_reads_at
  exact (inM_eq _ _ _ (by omega) (by omega)).symm

/-- Which block window 0 holds. -/
theorem blk0 (t : Fin cfg0.N) : win0_0.index t = ![t.val, 0] := by revert t; decide +kernel

/-- Which block window 1 holds. -/
theorem blk1 (t : Fin cfg0.N) : win0_1.index t = ![t.val, 1] := by revert t; decide +kernel

/-- Which block window 2 holds. -/
theorem blk2 (t : Fin cfg0.N) : win0_2.index t = ![t.val, 2] := by revert t; decide +kernel

/-- Which block window 3 holds. -/
theorem blk3 (t : Fin cfg0.N) : win0_3.index t = ![t.val, 6] := by revert t; decide +kernel

/-- Which block window 4 holds. -/
theorem blk4 (t : Fin cfg0.N) : win0_4.index t = ![t.val, 7] := by revert t; decide +kernel

/-- Which block window 5 holds. -/
theorem blk5 (t : Fin cfg0.N) : win0_5.index t = ![t.val, 4] := by revert t; decide +kernel

/-- Which block window 6 holds. -/
theorem blk6 (t : Fin cfg0.N) : win0_6.index t = ![t.val, 5] := by revert t; decide +kernel

/-- Which block window 7 holds. -/
theorem blk7 (t : Fin cfg0.N) : win0_7.index t = ![t.val, 0] := by revert t; decide +kernel

/-- Which block window 8 holds. -/
theorem blk8 (t : Fin cfg0.N) : win0_8.index t = ![0, 0] := by revert t; decide +kernel

/-- Which block window 9 holds. -/
theorem blk9 (t : Fin cfg0.N) : win0_9.index t = ![0, 0] := by revert t; decide +kernel

/-- Which block window 10 holds. -/
theorem blk10 (t : Fin cfg0.N) : win0_10.index t = ![0, 0] := by revert t; decide +kernel

/-- Which block window 11 holds. -/
theorem blk11 (t : Fin cfg0.N) : win0_11.index t = ![0, 0] := by revert t; decide +kernel

/-- Which block window 12 holds. -/
theorem blk12 (t : Fin cfg0.N) : win0_12.index t = ![0, 0] := by revert t; decide +kernel

/-- Window 0: columns from 0. -/
theorem rd0 (t : Fin cfg0.N) (i : Fin 256) (j : Fin 1024) : (iblk m c 0 t : Vec Ideal S256x1024 .bf16) (ix2 i j)
    = (pX m c (t.val / 8) (256 * (t.val % 8) + i.val) (0 + j.val) : EReal) := by
  have ht : t.val < 64 := lt_of_lt_of_eq t.isLt N_0
  have e : (iblk m c 0 t : Vec Ideal S256x1024 .bf16) (ix2 i j) = (V m c main_v4 : FVec Ideal S16384x10240 .bf16) (ix2 ⟨256 * t.val + i.val, by omega⟩ ⟨0 + j.val, by omega⟩) := by
    blk_ext [iblk, blk0 t]
  rw [e, v4 _ _ _ _ (by show 0 + j.val < 6144; omega)]
  rw [show (256 * t.val + i.val) / 2048 = t.val / 8 by omega, show (256 * t.val + i.val) % 2048 = 256 * (t.val % 8) + i.val by omega]

/-- Window 1: columns from 1024. -/
theorem rd1 (t : Fin cfg0.N) (i : Fin 256) (j : Fin 1024) : (iblk m c 1 t : Vec Ideal S256x1024 .bf16) (ix2 i j)
    = (pX m c (t.val / 8) (256 * (t.val % 8) + i.val) (1024 + j.val) : EReal) := by
  have ht : t.val < 64 := lt_of_lt_of_eq t.isLt N_0
  have e : (iblk m c 1 t : Vec Ideal S256x1024 .bf16) (ix2 i j) = (V m c main_v4 : FVec Ideal S16384x10240 .bf16) (ix2 ⟨256 * t.val + i.val, by omega⟩ ⟨1024 + j.val, by omega⟩) := by
    blk_ext [iblk, blk1 t]
  rw [e, v4 _ _ _ _ (by show 1024 + j.val < 6144; omega)]
  rw [show (256 * t.val + i.val) / 2048 = t.val / 8 by omega, show (256 * t.val + i.val) % 2048 = 256 * (t.val % 8) + i.val by omega]

/-- Window 2: columns from 2048. -/
theorem rd2 (t : Fin cfg0.N) (i : Fin 256) (j : Fin 1024) : (iblk m c 2 t : Vec Ideal S256x1024 .bf16) (ix2 i j)
    = (pX m c (t.val / 8) (256 * (t.val % 8) + i.val) (2048 + j.val) : EReal) := by
  have ht : t.val < 64 := lt_of_lt_of_eq t.isLt N_0
  have e : (iblk m c 2 t : Vec Ideal S256x1024 .bf16) (ix2 i j) = (V m c main_v4 : FVec Ideal S16384x10240 .bf16) (ix2 ⟨256 * t.val + i.val, by omega⟩ ⟨2048 + j.val, by omega⟩) := by
    blk_ext [iblk, blk2 t]
  rw [e, v4 _ _ _ _ (by show 2048 + j.val < 6144; omega)]
  rw [show (256 * t.val + i.val) / 2048 = t.val / 8 by omega, show (256 * t.val + i.val) % 2048 = 256 * (t.val % 8) + i.val by omega]

/-- Window 3: columns from 3072. -/
theorem rd3 (t : Fin cfg0.N) (i : Fin 256) (j : Fin 512) : (iblk m c 3 t : Vec Ideal S256x512 .bf16) (ix2 i j)
    = (pX m c (t.val / 8) (256 * (t.val % 8) + i.val) (3072 + j.val) : EReal) := by
  have ht : t.val < 64 := lt_of_lt_of_eq t.isLt N_0
  have e : (iblk m c 3 t : Vec Ideal S256x512 .bf16) (ix2 i j) = (V m c main_v4 : FVec Ideal S16384x10240 .bf16) (ix2 ⟨256 * t.val + i.val, by omega⟩ ⟨3072 + j.val, by omega⟩) := by
    blk_ext [iblk, blk3 t]
  rw [e, v4 _ _ _ _ (by show 3072 + j.val < 6144; omega)]
  rw [show (256 * t.val + i.val) / 2048 = t.val / 8 by omega, show (256 * t.val + i.val) % 2048 = 256 * (t.val % 8) + i.val by omega]

/-- Window 4: columns from 3584. -/
theorem rd4 (t : Fin cfg0.N) (i : Fin 256) (j : Fin 512) : (iblk m c 4 t : Vec Ideal S256x512 .bf16) (ix2 i j)
    = (pX m c (t.val / 8) (256 * (t.val % 8) + i.val) (3584 + j.val) : EReal) := by
  have ht : t.val < 64 := lt_of_lt_of_eq t.isLt N_0
  have e : (iblk m c 4 t : Vec Ideal S256x512 .bf16) (ix2 i j) = (V m c main_v4 : FVec Ideal S16384x10240 .bf16) (ix2 ⟨256 * t.val + i.val, by omega⟩ ⟨3584 + j.val, by omega⟩) := by
    blk_ext [iblk, blk4 t]
  rw [e, v4 _ _ _ _ (by show 3584 + j.val < 6144; omega)]
  rw [show (256 * t.val + i.val) / 2048 = t.val / 8 by omega, show (256 * t.val + i.val) % 2048 = 256 * (t.val % 8) + i.val by omega]

/-- Window 5: columns from 4096. -/
theorem rd5 (t : Fin cfg0.N) (i : Fin 256) (j : Fin 1024) : (iblk m c 5 t : Vec Ideal S256x1024 .bf16) (ix2 i j)
    = (pX m c (t.val / 8) (256 * (t.val % 8) + i.val) (4096 + j.val) : EReal) := by
  have ht : t.val < 64 := lt_of_lt_of_eq t.isLt N_0
  have e : (iblk m c 5 t : Vec Ideal S256x1024 .bf16) (ix2 i j) = (V m c main_v4 : FVec Ideal S16384x10240 .bf16) (ix2 ⟨256 * t.val + i.val, by omega⟩ ⟨4096 + j.val, by omega⟩) := by
    blk_ext [iblk, blk5 t]
  rw [e, v4 _ _ _ _ (by show 4096 + j.val < 6144; omega)]
  rw [show (256 * t.val + i.val) / 2048 = t.val / 8 by omega, show (256 * t.val + i.val) % 2048 = 256 * (t.val % 8) + i.val by omega]

/-- Window 6: columns from 5120. -/
theorem rd6 (t : Fin cfg0.N) (i : Fin 256) (j : Fin 1024) : (iblk m c 6 t : Vec Ideal S256x1024 .bf16) (ix2 i j)
    = (pX m c (t.val / 8) (256 * (t.val % 8) + i.val) (5120 + j.val) : EReal) := by
  have ht : t.val < 64 := lt_of_lt_of_eq t.isLt N_0
  have e : (iblk m c 6 t : Vec Ideal S256x1024 .bf16) (ix2 i j) = (V m c main_v4 : FVec Ideal S16384x10240 .bf16) (ix2 ⟨256 * t.val + i.val, by omega⟩ ⟨5120 + j.val, by omega⟩) := by
    blk_ext [iblk, blk6 t]
  rw [e, v4 _ _ _ _ (by show 5120 + j.val < 6144; omega)]
  rw [show (256 * t.val + i.val) / 2048 = t.val / 8 by omega, show (256 * t.val + i.val) % 2048 = 256 * (t.val % 8) + i.val by omega]

/-- Window 7: the low lanes of the gate. -/
theorem rd7 (t : Fin cfg0.N) (i : Fin 256) (j : Fin 128) : (iblk m c 7 t : Vec Ideal S256x128 .f32) (ix2 i j)
    = (if j.val < 16 then pX m c (t.val / 8) (256 * (t.val % 8) + i.val) (6144 + j.val) else 0 : EReal) := by
  have ht : t.val < 64 := lt_of_lt_of_eq t.isLt N_0
  have e : (iblk m c 7 t : Vec Ideal S256x128 .f32) (ix2 i j) = (V m c main_v6 : FVec Ideal S16384x128 .f32) (ix2 ⟨256 * t.val + i.val, by omega⟩ j) := by
    blk_ext [iblk, blk7 t]
  rw [e, v6]
  rw [show (256 * t.val + i.val) / 2048 = t.val / 8 by omega, show (256 * t.val + i.val) % 2048 = 256 * (t.val % 8) + i.val by omega]

/-- Window 8 holds its whole array. -/
theorem rd8 (t : Fin cfg0.N) (i : Fin 3) (j : Fin 1024) : (iblk m c 8 t : Vec Ideal S3x1024 .f32) (ix2 i j) = (pCW m c i.val j.val : EReal) := by
  have e : (iblk m c 8 t : Vec Ideal S3x1024 .f32) (ix2 i j) = (V m c main_v9 : FVec Ideal S3x1024 .f32) (ix2 i j) := by
    blk_ext [iblk, blk8 t]
  rw [e, v9]

/-- Window 9 holds its whole array. -/
theorem rd9 (t : Fin cfg0.N) (j : Fin 1024) : (iblk m c 9 t : Vec Ideal S1x1024 .f32) (ix2 0 j) = (pCB m c j.val : EReal) := by
  have e : (iblk m c 9 t : Vec Ideal S1x1024 .f32) (ix2 0 j) = (V m c main_v11 : FVec Ideal S1x1024 .f32) (ix2 0 j) := by
    blk_ext [iblk, blk9 t]
  rw [e, v11]

/-- Window 10 holds its whole array. -/
theorem rd10 (t : Fin cfg0.N) (i : Fin 128) (j : Fin 512) : (iblk m c 10 t : Vec Ideal S128x512 .f32) (ix2 i j) = (if i.val < 16 then pW m c i.val j.val else 0 : EReal) := by
  have e : (iblk m c 10 t : Vec Ideal S128x512 .f32) (ix2 i j) = (V m c main_v8 : FVec Ideal S128x512 .f32) (ix2 i j) := by
    blk_ext [iblk, blk10 t]
  rw [e, v8]

/-- Window 11 holds its whole array. -/
theorem rd11 (t : Fin cfg0.N) (j : Fin 512) : (iblk m c 11 t : Vec Ideal S1x512 .f32) (ix2 0 j) = (pB m c j.val : EReal) := by
  have e : (iblk m c 11 t : Vec Ideal S1x512 .f32) (ix2 0 j) = (V m c main_v13 : FVec Ideal S1x512 .f32) (ix2 0 j) := by
    blk_ext [iblk, blk11 t]
  rw [e, v13]

/-- Window 12 holds its whole array. -/
theorem rd12 (t : Fin cfg0.N) (j : Fin 1024) : (iblk m c 12 t : Vec Ideal S1x1024 .f32) (ix2 0 j) = (pG m c j.val : EReal) := by
  have e : (iblk m c 12 t : Vec Ideal S1x1024 .f32) (ix2 0 j) = (V m c main_v15 : FVec Ideal S1x1024 .f32) (ix2 0 j) := by
    blk_ext [iblk, blk12 t]
  rw [e, v15]

/-- The blocks of point `t` are tile `t % 8` of batch `t / 8`, for the mixing part. -/
theorem holds (t : Fin cfg0.N) : Holds (pX m c) (pW m c) (pB m c) (pG m c) (t.val / 8) (t.val % 8) (iblk m c 3 t) (iblk m c 4 t) (iblk m c 5 t) (iblk m c 6 t) (iblk m c 7 t) (iblk m c 10 t) (iblk m c 11 t) (iblk m c 12 t) :=
  ⟨rd3 m c t, rd4 m c t, rd5 m c t, rd6 m c t, rd7 m c t, rd10 m c t, rd11 m c t, rd12 m c t⟩

/-- The blocks of point `t` are tile `t % 8` of batch `t / 8`, for the convolution. -/
theorem cholds (t : Fin cfg0.N) : CHolds (pX m c) (pCW m c) (pCB m c) (t.val / 8) (t.val % 8) (iblk m c 0 t) (iblk m c 1 t) (iblk m c 2 t) (iblk m c 8 t) (iblk m c 9 t) :=
  ⟨fun i j => by rw [rd0, Nat.zero_add], rd1 m c t, rd2 m c t, rd8 m c t, rd9 m c t⟩

end Cert.KernelIdeal.Mix
-- ==== Proof.Mix.Points.lean ====
module
public import proofs.«01_k».proof.Proof.Mix.Inputs
@[expose] public section
set_option maxRecDepth 16384
noncomputable section
namespace Cert.KernelIdeal.Mix
open Cert.KernelIdeal Cert.KernelIdeal.Gen Idealize.ShloMosaic Idealize.ShloMosaic.TcCoe Idealize.SL.Sem Cert.Gla Cert.KernelIdeal.Value
variable (m : (ℓ : Loc nD τ sig) → Buf (Elt Ideal) ℓ) (c : Dev nD)

/-- The state starts at zero. -/
theorem pay1_zero (h : Fin 4) (v : Fin 256) (k : Fin 128) : (k0_pay1 (F := Ideal) : FVec Ideal S4x256x128 .f32) (ix3 h v k) = (0 : EReal) := by
  pointwise [k0_pay1]

/-- The rows before the first are zero. -/
theorem pay2_zero (i : Fin 8) (j : Fin 1024) : (k0_pay2 (F := Ideal) : FVec Ideal S8x1024 .f32) (ix2 i j) = (0 : EReal) := by
  pointwise [k0_pay2]

/-- What a point leaves: its rows of both results, the state after its tile, the last rows of the convolution's input. -/
structure After (t : ℕ) (o : Vec Ideal S256x1024 .bf16 × Vec Ideal S256x1024 .bf16 × Vec Ideal S4x256x128 .f32 × Vec Ideal S264x1024 .f32) : Prop where
  a : ∀ (i : Fin 256) (j : Fin 1024), o.1 (ix2 i j) = ya (pX m c) (pCW m c) (pCB m c) (t / 8) (256 * (t % 8) + i.val) j.val
  b : ∀ (i : Fin 256) (j : Fin 1024), o.2.1 (ix2 i j) = yb (pX m c) (pW m c) (pB m c) (pG m c) (t / 8) (256 * (t % 8) + i.val) (j.val / 256) (j.val % 256)
  s : ∀ h v k, o.2.2.1 (ix3 h v k) = S (pX m c) (pW m c) (pB m c) (t / 8) (4 * (t % 8 + 1)) (128 * h.val + k.val) v.val
  t : ∀ (i : Fin 8) j, 6 ≤ i.val → tail8 o.2.2.2 (ix2 i j) = yc (pX m c) (t / 8) (256 * (t % 8 + 1) + i.val - 6) j.val

/-- A batch's first tile: the state and the rows before it are zero. -/
theorem after_A (t : Fin cfg0.N) (h0 : t.val % 8 = 0) (h1 : ¬1 ≤ t.val % 8) : After m c t.val (outsAt0 m c t.val t.isLt) := by
  have hs : ∀ (h : Fin 4) (v : Fin 256) (k : Fin 128), (k0_pay1 (F := Ideal) : FVec Ideal S4x256x128 .f32) (ix3 h v k) = S (pX m c) (pW m c) (pB m c) (t.val / 8) (4 * (t.val % 8)) (128 * h.val + k.val) v.val := by
    intro h v k; rw [pay1_zero, h0]; rfl
  have hh : ∀ (i : Fin 8) (j : Fin 1024), 6 ≤ i.val → (k0_pay2 (F := Ideal) : FVec Ideal S8x1024 .f32) (ix2 i j) = yc (pX m c) (t.val / 8) (256 * (t.val % 8) + i.val - 6) j.val := by
    intro i j hi; rw [pay2_zero, h0, yc, if_pos (by omega)]
  rw [outsAt0_A m c t h0 h1]
  refine ⟨fun i j => ?_, fun i j => ?_, fun h v k => ?_, fun i j hi => ?_⟩
  · dsimp only; rw [out0_A_13_eq]; exact (cholds m c t).out _ hh i j
  · dsimp only; rw [out0_A_14_eq _ _ _ _ _ _ _ _ _ _ _ _ _ _ _ _ _ _ _ _ _ _ _ _ _ _ _ _ _ _ _ _ _ _ _ _ _ _ _ _ _ _ _ _ _ _ _ _ _ _ _ (ix2 i j) (by exact i.isLt) (by exact j.isLt)]
    refine ((holds m c t).os hs _ _ _ _ _ _).trans ?_
    congr 1
    show 256 * (t.val % 8) + (64 * (i.val / 64) + i.val % 64) = _
    omega
  · dsimp only; rw [sout0_A_0_eq]; exact (holds m c t).sb hs h v k
  · dsimp only; rw [sout0_A_1_eq]; exact (cholds m c t).tail _ hh i j

/-- A later tile goes on from what the one before it left. -/
theorem after_B (t : Fin cfg0.N) (h0 : ¬t.val % 8 = 0) (h1 : 1 ≤ t.val % 8)
    (ih : After m c (t.val - 1) (outsAt0 m c (t.val - 1) (Nat.lt_of_le_of_lt (Nat.sub_le _ _) t.isLt))) : After m c t.val (outsAt0 m c t.val t.isLt) := by
  have e1 : (t.val - 1) / 8 = t.val / 8 := by omega
  have e2 : (t.val - 1) % 8 + 1 = t.val % 8 := by omega
  have hs := ih.s
  have hh := ih.t
  rw [e1, e2] at hs hh
  rw [outsAt0_B m c t h0 h1]
  refine ⟨fun i j => ?_, fun i j => ?_, fun h v k => ?_, fun i j hi => ?_⟩
  · dsimp only; rw [out0_B_13_eq]; exact (cholds m c t).out _ hh i j
  · dsimp only; rw [out0_B_14_eq _ _ _ _ _ _ _ _ _ _ _ _ _ _ _ _ _ _ _ _ _ _ _ _ _ _ _ _ _ _ _ _ _ _ _ _ _ _ _ _ _ _ _ _ _ _ _ _ _ _ _ _ _ (ix2 i j) (by exact i.isLt) (by exact j.isLt)]
    refine ((holds m c t).os hs _ _ _ _ _ _).trans ?_
    congr 1
    show 256 * (t.val % 8) + (64 * (i.val / 64) + i.val % 64) = _
    omega
  · dsimp only; rw [sout0_B_0_eq]; exact (holds m c t).sb hs h v k
  · dsimp only; rw [sout0_B_1_eq]; exact (cholds m c t).tail _ hh i j

/-- Every point leaves its tile of the two results. -/
theorem after_all (n : ℕ) (hn : n < cfg0.N) : After m c n (outsAt0 m c n hn) := by
  induction n with
  | zero => exact after_A m c ⟨0, hn⟩ rfl (by show ¬ 1 ≤ 0 % 8; omega)
  | succ n ih =>
    by_cases h : (n + 1) % 8 = 0
    · exact after_A m c ⟨n + 1, hn⟩ h (by show ¬ 1 ≤ (n + 1) % 8; omega)
    · exact after_B m c ⟨n + 1, hn⟩ h (by show 1 ≤ (n + 1) % 8; omega) (ih _)

/-- The convolution's result after the run. -/
theorem final_a (i : Fin 16384) (j : Fin 1024) : ((dats m 0 c).arrAt 13 cfg0.N : FVec Ideal S16384x1024 .bf16) (ix2 i j)
    = (ya (pX m c) (pCW m c) (pCB m c) (i.val / 2048) (i.val % 2048) j.val : EReal) := by
  rw [final13]
  unfold G13
  have hN : cfg0.N = 64 := N_0
  have e : pt13Of (ix2 i j) = i.val / 256 := by
    show 1 * (i.val / 256 - 0) + 1 * (j.val / 1024 - 0) = _; omega
  rw [dif_pos (by rw [e]; omega), ← outsAt0_sweep _ _ _ (by rw [e]; omega)]
  rw [show loc13Of (ix2 i j) = ix2 ⟨i.val % 256, by omega⟩ ⟨j.val % 1024, by omega⟩ from by funext a; fin_cases a <;> rfl]
  refine ((after_all m c _ _).a _ _).trans ?_
  rw [e]
  dsimp only
  rw [show i.val / 256 / 8 = i.val / 2048 by omega, show 256 * (i.val / 256 % 8) + i.val % 256 = i.val % 2048 by omega, show j.val % 1024 = j.val by omega]

/-- The mixing part's result after the run. -/
theorem final_b (i : Fin 16384) (j : Fin 1024) : ((dats m 0 c).arrAt 14 cfg0.N : FVec Ideal S16384x1024 .bf16) (ix2 i j)
    = (yb (pX m c) (pW m c) (pB m c) (pG m c) (i.val / 2048) (i.val % 2048) (j.val / 256) (j.val % 256) : EReal) := by
  rw [final14]
  unfold G14
  have hN : cfg0.N = 64 := N_0
  have e : pt14Of (ix2 i j) = i.val / 256 := by
    show 1 * (i.val / 256 - 0) + 1 * (j.val / 1024 - 0) = _; omega
  rw [dif_pos (by rw [e]; omega), ← outsAt0_sweep _ _ _ (by rw [e]; omega)]
  rw [show loc14Of (ix2 i j) = ix2 ⟨i.val % 256, by omega⟩ ⟨j.val % 1024, by omega⟩ from by funext a; fin_cases a <;> rfl]
  refine ((after_all m c _ _).b _ _).trans ?_
  rw [e]
  dsimp only
  rw [show i.val / 256 / 8 = i.val / 2048 by omega, show 256 * (i.val / 256 % 8) + i.val % 256 = i.val % 2048 by omega, show j.val % 1024 = j.val by omega]

end Cert.KernelIdeal.Mix
-- ==== Proof.Mix.RefLoop.lean ====
module
public import proofs.«01_k».proof.Proof.Mix.Spec
public import proofs.«01_k».proof.Proof.Gen.ReferenceIdeal.Run
public import Idealize.ShloMosaic.Lib.Pipeline.ValueKit
public import Idealize.ShloMosaic.Lib.StableHlo.ReadAt
public import Idealize.ShloMosaic.Lib.DynamicIndex
@[expose] public section
set_option maxRecDepth 16384
noncomputable section
namespace Cert.ReferenceIdeal.Mix
open Idealize.ShloMosaic Idealize.ShloMosaic.StableHlo Cert.ReferenceIdeal.Gen Cert.ReferenceIdeal.Value Idealize.SL.Sem

open Host Cert
abbrev VV := Valuation τ sig (Elt Ideal)
variable (V : VV)

/-- Buffer 0 of the loop. -/
abbrev r0 (V : VV) : FVec Ideal S32x8x64x4x128 .f32 := V (Proc.devRef .tc main_v77_0)

/-- Buffer 1 of the loop. -/
abbrev r1 (V : VV) : FVec Ideal S32x8x64x4x128 .f32 := V (Proc.devRef .tc main_v77_1)

/-- Buffer 2 of the loop. -/
abbrev r2 (V : VV) : FVec Ideal S32x8x64x4x256 .f32 := V (Proc.devRef .tc main_v77_2)

/-- Buffer 3 of the loop. -/
abbrev r3 (V : VV) : FVec Ideal S32x8x4x128 .f32 := V (Proc.devRef .tc main_v77_3)

/-- Buffer 5 of the loop. -/
abbrev r5 (V : VV) : FVec Ideal S8x4x128x256 .f32 := V (Proc.devRef .tc main_v77_5)

/-- Buffer 6 of the loop. -/
abbrev r6 (V : VV) : FVec Ideal S32x8x64x4x256 .f32 := V (Proc.devRef .tc main_v77_6)

/-- Where a trip's slice of a rank-five array starts. -/
abbrev at5 (w : BitVec 32) : Fin 5 → ℤ := fun k => (((![(fun _ => w), constantI S_ 32 0#32, constantI S_ 32 0#32, constantI S_ 32 0#32, constantI S_ 32 0#32] : Fin 5 → (⟨S_, .i32⟩ : BufTy).Contents (Elt Ideal))) k (Shape.Idx.first h_S_)).toInt

/-- Where a trip's slice of a rank-four array starts. -/
abbrev at4 (w : BitVec 32) : Fin 4 → ℤ := fun k => (((![(fun _ => w), constantI S_ 32 0#32, constantI S_ 32 0#32, constantI S_ 32 0#32] : Fin 4 → (⟨S_, .i32⟩ : BufTy).Contents (Elt Ideal))) k (Shape.Idx.first h_S_)).toInt

theorem at5_eq (n : ℕ) (hn : n < 32) (a : Fin 5) : at5 (BitVec.ofNat 32 n) a = ((if a = 0 then n else 0 : ℕ) : ℤ) := by
  fin_cases a
  · exact Idealize.ShloMosaic.toInt_ofNat_of_lt (by omega)
  all_goals rfl

theorem at4_eq (n : ℕ) (hn : n < 32) (a : Fin 4) : at4 (BitVec.ofNat 32 n) a = ((if a = 0 then n else 0 : ℕ) : ℤ) := by
  fin_cases a
  · exact Idealize.ShloMosaic.toInt_ofNat_of_lt (by omega)
  all_goals rfl

/-- A trip's slice, 128 lanes wide. -/
theorem sl128 (x : FVec Ideal S32x8x64x4x128 .f32) (n : ℕ) (hn : n < 32) :
    (shapeCast S8x64x4x128 (dynamicSlice S1x8x64x4x128 x (at5 (BitVec.ofNat 32 n)) sliceFits_S32x8x64x4x128_S1x8x64x4x128) shapeCasts_S1x8x64x4x128_S8x64x4x128 : FVec Ideal S8x64x4x128 .f32)
      = fun i => x (ix5 ⟨n, hn⟩ (i 0) (i 1) (i 2) (i 3)) := by
  funext i
  idx_vars i
  have hc (a : Fin 5) : clampedStart S32x8x64x4x128 S1x8x64x4x128 rfl (at5 (BitVec.ofNat 32 n)) a = if a = 0 then n else 0 := by
    refine clampedStart_of_le _ _ _ _ (at5_eq n hn a) ?_
    fin_cases a
    · show n + 1 ≤ 32; omega
    all_goals exact Nat.le_of_eq (Nat.zero_add _)
  pointwise
  refine congrArg x ?_
  refine funext fun a => Fin.ext ?_
  fin_cases a
  · exact (hc 0)
  · exact (congrArg (· + _) (hc 1)).trans (Nat.zero_add _)
  · exact (congrArg (· + _) (hc 2)).trans (Nat.zero_add _)
  · exact (congrArg (· + _) (hc 3)).trans (Nat.zero_add _)
  · exact (congrArg (· + _) (hc 4)).trans (Nat.zero_add _)

/-- A trip's slice, 256 lanes wide. -/
theorem sl256 (x : FVec Ideal S32x8x64x4x256 .f32) (n : ℕ) (hn : n < 32) :
    (shapeCast S8x64x4x256 (dynamicSlice S1x8x64x4x256 x (at5 (BitVec.ofNat 32 n)) sliceFits_S32x8x64x4x256_S1x8x64x4x256) shapeCasts_S1x8x64x4x256_S8x64x4x256 : FVec Ideal S8x64x4x256 .f32)
      = fun i => x (ix5 ⟨n, hn⟩ (i 0) (i 1) (i 2) (i 3)) := by
  funext i
  idx_vars i
  have hc (a : Fin 5) : clampedStart S32x8x64x4x256 S1x8x64x4x256 rfl (at5 (BitVec.ofNat 32 n)) a = if a = 0 then n else 0 := by
    refine clampedStart_of_le _ _ _ _ (at5_eq n hn a) ?_
    fin_cases a
    · show n + 1 ≤ 32; omega
    all_goals exact Nat.le_of_eq (Nat.zero_add _)
  pointwise
  refine congrArg x ?_
  refine funext fun a => Fin.ext ?_
  fin_cases a
  · exact (hc 0)
  · exact (congrArg (· + _) (hc 1)).trans (Nat.zero_add _)
  · exact (congrArg (· + _) (hc 2)).trans (Nat.zero_add _)
  · exact (congrArg (· + _) (hc 3)).trans (Nat.zero_add _)
  · exact (congrArg (· + _) (hc 4)).trans (Nat.zero_add _)

/-- A trip's row of last sums. -/
theorem sl4 (x : FVec Ideal S32x8x4x128 .f32) (n : ℕ) (hn : n < 32) :
    (shapeCast S8x4x128 (dynamicSlice S1x8x4x128 x (at4 (BitVec.ofNat 32 n)) sliceFits_S32x8x4x128_S1x8x4x128) shapeCasts_S1x8x4x128_S8x4x128 : FVec Ideal S8x4x128 .f32)
      = fun i => x (ix4 ⟨n, hn⟩ (i 0) (i 1) (i 2)) := by
  funext i
  idx_vars i
  have hc (a : Fin 4) : clampedStart S32x8x4x128 S1x8x4x128 rfl (at4 (BitVec.ofNat 32 n)) a = if a = 0 then n else 0 := by
    refine clampedStart_of_le _ _ _ _ (at4_eq n hn a) ?_
    fin_cases a
    · show n + 1 ≤ 32; omega
    all_goals exact Nat.le_of_eq (Nat.zero_add _)
  pointwise
  refine congrArg x ?_
  refine funext fun a => Fin.ext ?_
  fin_cases a
  · exact (hc 0)
  · exact (congrArg (· + _) (hc 1)).trans (Nat.zero_add _)
  · exact (congrArg (· + _) (hc 2)).trans (Nat.zero_add _)
  · exact (congrArg (· + _) (hc 3)).trans (Nat.zero_add _)

/-- Writing a trip's slice changes that slice. -/
theorem upd (x : FVec Ideal S32x8x64x4x256 .f32) (u : FVec Ideal S1x8x64x4x256 .f32) (n : ℕ) (hn : n < 32) (c : Fin 32) (b : Fin 8) (l : Fin 64) (h : Fin 4) (v : Fin 256) :
    (dynamicUpdateSlice x u (at5 (BitVec.ofNat 32 n)) updateFits_S32x8x64x4x256_S1x8x64x4x256 : FVec Ideal S32x8x64x4x256 .f32) (ix5 c b l h v)
      = if c.val = n then u (ix5 0 b l h v) else x (ix5 c b l h v) := by
  have hc (a : Fin 5) : clampedStart S32x8x64x4x256 S1x8x64x4x256 rfl (at5 (BitVec.ofNat 32 n)) a = if a = 0 then n else 0 := by
    refine clampedStart_of_le _ _ _ _ (at5_eq n hn a) ?_
    fin_cases a
    · show n + 1 ≤ 32; omega
    all_goals exact Nat.le_of_eq (Nat.zero_add _)
  pointwise
  simp only [hc, show ((1 : Fin 5) = 0) = False from by simp, show ((2 : Fin 5) = 0) = False from by simp, show ((3 : Fin 5) = 0) = False from by simp, show ((4 : Fin 5) = 0) = False from by simp, if_true, if_false, Nat.zero_le, and_true, Nat.sub_zero]
  by_cases e : c.val = n
  · rw [dif_pos (by omega), if_pos e]
    refine congrArg (fun z => u (ix5 z b l h v)) (Fin.ext ?_)
    show c.val - n = 0; omega
  · rw [dif_neg (by omega), if_neg e]

/-- The state after one more chunk. -/
theorem st5 (n : ℕ) (hn : n < 32) (h4 : V (Proc.devRef .tc main_v77_4) = fun _ => BitVec.ofNat 32 n) (b : Fin 8) (h : Fin 4) (k : Fin 128) (v : Fin 256) :
    (step_main_v77_5 V : FVec Ideal S8x4x128x256 .f32) (ix4 b h k v)
      = (Ideal.exp (r3 V (ix4 ⟨n, hn⟩ b h k)) * r5 V (ix4 b h k v)
        + ∑ x : Fin 64, r1 V (ix5 ⟨n, hn⟩ b x h k) * r2 V (ix5 ⟨n, hn⟩ b x h v) : EReal) := by
  unfold step_main_v77_5
  rw [h4]
  erw [sl4 _ n hn, sl128 _ n hn, sl256 _ n hn]
  simp only [id]
  pointwise

/-- One chunk reads the state before it. -/
theorem st6 (n : ℕ) (hn : n < 32) (h4 : V (Proc.devRef .tc main_v77_4) = fun _ => BitVec.ofNat 32 n) (c : Fin 32) (b : Fin 8) (l : Fin 64) (h : Fin 4) (v : Fin 256) :
    (step_main_v77_6 V : FVec Ideal S32x8x64x4x256 .f32) (ix5 c b l h v)
      = (if c.val = n then ∑ x : Fin 128, r5 V (ix4 b h x v) * r0 V (ix5 ⟨n, hn⟩ b l h x)
        else r6 V (ix5 c b l h v) : EReal) := by
  unfold step_main_v77_6
  rw [h4]
  erw [sl128 _ n hn]
  refine (upd _ _ n hn c b l h v).trans ?_
  pointwise

/-- The counter after `n` trips. -/
theorem ctr (h0 : V (Proc.devRef .tc main_v77_4) = fun _ => 0#32) (n : ℕ) : STEP^[n] V (Proc.devRef .tc main_v77_4) = fun _ => BitVec.ofNat 32 n := by
  induction n with
  | zero => exact h0
  | succ n ih =>
    rw [Function.iterate_succ_apply', STEP_main_v77_4]
    unfold step_main_v77_4
    rw [ih]
    funext i
    show BitVec.ofNat 32 n + 1#32 = _
    rw [BitVec.ofNat_add]

theorem kept0 (n : ℕ) : r0 (STEP^[n] V) = r0 V := by
  induction n with
  | zero => rfl
  | succ n ih => rw [Function.iterate_succ_apply']; exact (STEP_main_v77_0 _).trans ih

theorem kept1 (n : ℕ) : r1 (STEP^[n] V) = r1 V := by
  induction n with
  | zero => rfl
  | succ n ih => rw [Function.iterate_succ_apply']; exact (STEP_main_v77_1 _).trans ih

theorem kept2 (n : ℕ) : r2 (STEP^[n] V) = r2 V := by
  induction n with
  | zero => rfl
  | succ n ih => rw [Function.iterate_succ_apply']; exact (STEP_main_v77_2 _).trans ih

theorem kept3 (n : ℕ) : r3 (STEP^[n] V) = r3 V := by
  induction n with
  | zero => rfl
  | succ n ih => rw [Function.iterate_succ_apply']; exact (STEP_main_v77_3 _).trans ih

/-- What the loop finds in its buffers when it starts. -/
structure Entry (X W B) : Prop where
  q : ∀ (c : Fin 32) (b : Fin 8) (l : Fin 64) (h : Fin 4) (k : Fin 128), r0 V (ix5 c b l h k)
    = X b.val (64 * c.val + l.val) (3072 + (128 * h.val + k.val)) * Ideal.ofBits .f32 0x3DB504F3#32 * Ideal.exp (Gla.bc X W B b.val c.val 63 (128 * h.val + k.val))
  k : ∀ (c : Fin 32) (b : Fin 8) (l : Fin 64) (h : Fin 4) (k : Fin 128), r1 V (ix5 c b l h k)
    = Gla.kt X W B b.val c.val l.val (128 * h.val + k.val)
  v : ∀ (c : Fin 32) (b : Fin 8) (l : Fin 64) (h : Fin 4) (v : Fin 256), r2 V (ix5 c b l h v)
    = X b.val (64 * c.val + l.val) (4096 + (256 * h.val + v.val))
  a : ∀ (c : Fin 32) (b : Fin 8) (h : Fin 4) (k : Fin 128), r3 V (ix4 c b h k)
    = Gla.bc X W B b.val c.val 63 (128 * h.val + k.val)
  n : V (Proc.devRef .tc main_v77_4) = fun _ => 0#32
  z : ∀ (b : Fin 8) (h : Fin 4) (k : Fin 128) (v : Fin 256), r5 V (ix4 b h k v) = (0 : EReal)

variable {V} {X : ℕ → ℕ → ℕ → EReal} {W : ℕ → ℕ → EReal} {B : ℕ → EReal} (E : Entry V X W B)
include E

/-- The state after `n` trips is the state after `n` chunks. -/
theorem Entry.state (n : ℕ) (hn : n ≤ 32) (b : Fin 8) (h : Fin 4) (k : Fin 128) (v : Fin 256) :
    r5 (STEP^[n] V) (ix4 b h k v) = Gla.S X W B b.val n (128 * h.val + k.val) v.val := by
  induction n with
  | zero => exact E.z b h k v
  | succ n ih =>
    rw [Function.iterate_succ_apply', r5, STEP_main_v77_5]
    rw [st5 _ n (by omega) (ctr V E.n n), kept3, kept1, kept2, ih (by omega), E.a, Gla.S]
    have e : (128 * h.val + k.val) / 128 = h.val := by omega
    refine congrArg₂ _ rfl (Finset.sum_congr rfl fun l _ => ?_)
    rw [E.k, E.v, e]
    exact mul_comm _ _

/-- The chunks read so far. -/
theorem Entry.out (n : ℕ) (hn : n ≤ 32) (c : Fin 32) (hc : c.val < n) (b : Fin 8) (l : Fin 64) (h : Fin 4) (v : Fin 256) :
    r6 (STEP^[n] V) (ix5 c b l h v)
      = ∑ k : Fin 128, Gla.S X W B b.val c.val (128 * h.val + k.val) v.val
        * (X b.val (64 * c.val + l.val) (3072 + (128 * h.val + k.val)) * Ideal.ofBits .f32 0x3DB504F3#32 * Ideal.exp (Gla.bc X W B b.val c.val 63 (128 * h.val + k.val))) := by
  induction n with
  | zero => omega
  | succ n ih =>
    rw [Function.iterate_succ_apply', r6, STEP_main_v77_6]
    rw [st6 _ n (by omega) (ctr V E.n n)]
    by_cases e : c.val = n
    · rw [if_pos e]
      refine Finset.sum_congr rfl fun k _ => ?_
      rw [E.state n (by omega), kept0, E.q]
      simp only [e]
    · rw [if_neg e, ih (by omega) (by omega)]
end Cert.ReferenceIdeal.Mix
-- ==== Proof.Mix.Cumsum.lean ====
module
public import proofs.«01_k».proof.Proof.Mix.Spec
public import proofs.«01_k».proof.Proof.Gen.ReferenceIdeal.Run
public import Idealize.ShloMosaic.Lib.Pipeline.ValueKit
@[expose] public section
set_option maxRecDepth 16384
noncomputable section
namespace Cert.ReferenceIdeal.Mix
open Idealize.ShloMosaic Cert.ReferenceIdeal

/-- Adding a list's values one after another is their sum. -/
theorem foldl_add {ι : Type} (f : ι → EReal) (l : List ι) (a : EReal) : l.foldl (fun r n => r + f n) a = a + (l.map f).sum := by
  induction l generalizing a with
  | nil => simp
  | cons x l ih => rw [List.foldl_cons, ih, List.map_cons, List.sum_cons, add_assoc]

abbrev W : Shape := ⟨5, ![1, 1, 64, 1, 1]⟩

theorem W_at : ∀ n : Fin W.numel, (W.rowMajor.symm n 2).val = n.val := by decide +kernel

/-- The window of 64 rows, 63 of them before the first, sums the rows up to the place's own. -/
theorem cumsum (x : FVec Ideal S8x32x64x4x128 .f32) (v : FVec Ideal S_ .f32) (hv : ∀ i, v i = (0 : EReal)) (h) (hu)
    (j0 : Fin 8) (j1 : Fin 32) (j2 : Fin 64) (j3 : Fin 4) (j4 : Fin 128) :
    (Host.reduceWindowAdd ![1, 1, 64, 1, 1] ![1, 1, 1, 1, 1] ![0, 0, 63, 0, 0] ![0, 0, 0, 0, 0] x v h hu : FVec Ideal S8x32x64x4x128 .f32) (ix5 j0 j1 j2 j3 j4)
      = (∑ n : Fin 64, if n.val ≤ j2.val then x (ix5 j0 j1 n j3 j4) else 0 : EReal) := by
  have hn : W.numel = 64 := by decide
  let p : Fin W.numel → Fin 5 → ℕ := fun n a => (ix5 j0 j1 j2 j3 j4 (a.cast h.1.symm)).val * ![1, 1, 1, 1, 1] a + (W.rowMajor.symm n a).val
  let g : Fin W.numel → EReal := fun n =>
    if hin : ∀ a, ![0, 0, 63, 0, 0] a ≤ p n a ∧ p n a - ![0, 0, 63, 0, 0] a < S8x32x64x4x128.size a then x (fun a => ⟨p n a - ![0, 0, 63, 0, 0] a, (hin a).2⟩) else v (Shape.Idx.first hu)
  have hg : ∀ n : Fin W.numel, g n = if hc : 63 ≤ j2.val + n.val then x (ix5 j0 j1 ⟨j2.val + n.val - 63, by have := n.isLt; omega⟩ j3 j4) else 0 := by
    intro n
    have hz : ∀ a : Fin 5, a ≠ 2 → (W.rowMajor.symm n a).val = 0 := by
      intro a ha
      have := (W.rowMajor.symm n a).isLt
      fin_cases a <;> first | (simp at ha; done) | (simpa using this)
    have h2 := W_at n
    have hp2 : p n 2 = j2.val + n.val := by
      show j2.val * 1 + (W.rowMajor.symm n 2).val = _; rw [h2]; omega
    have hp0 : p n 0 = j0.val := by
      show j0.val * 1 + (W.rowMajor.symm n 0).val = _; rw [hz 0 (by decide)]; omega
    have hp1 : p n 1 = j1.val := by
      show j1.val * 1 + (W.rowMajor.symm n 1).val = _; rw [hz 1 (by decide)]; omega
    have hp3 : p n 3 = j3.val := by
      show j3.val * 1 + (W.rowMajor.symm n 3).val = _; rw [hz 3 (by decide)]; omega
    have hp4 : p n 4 = j4.val := by
      show j4.val * 1 + (W.rowMajor.symm n 4).val = _; rw [hz 4 (by decide)]; omega
    show (if hin : _ then _ else _) = _
    by_cases hc : 63 ≤ j2.val + n.val
    · rw [dif_pos hc, dif_pos (by
        intro a
        fin_cases a
        · show 0 ≤ p n 0 ∧ p n 0 - 0 < 8; omega
        · show 0 ≤ p n 1 ∧ p n 1 - 0 < 32; omega
        · show 63 ≤ p n 2 ∧ p n 2 - 63 < 64; omega
        · show 0 ≤ p n 3 ∧ p n 3 - 0 < 4; omega
        · show 0 ≤ p n 4 ∧ p n 4 - 0 < 128; omega)]
      refine congrArg x (funext fun a => Fin.ext ?_)
      fin_cases a
      · exact hp0
      · exact hp1
      · show p n 2 - 63 = j2.val + n.val - 63; rw [hp2]
      · exact hp3
      · exact hp4
    · rw [dif_neg hc, dif_neg (by
        intro hh
        have := (hh 2).1
        rw [hp2] at this
        exact hc this), hv]
  have e : (Host.reduceWindowAdd ![1, 1, 64, 1, 1] ![1, 1, 1, 1, 1] ![0, 0, 63, 0, 0] ![0, 0, 0, 0, 0] x v h hu : FVec Ideal S8x32x64x4x128 .f32) (ix5 j0 j1 j2 j3 j4)
      = (List.finRange W.numel).foldl (fun r n => r + g n) (v (Shape.Idx.first hu)) := by
    unfold Host.reduceWindowAdd
    rw [Ideal.hostReduceWindowAdd_def]
    unfold Ideal.hostReduceWindowAdd Host.reduceWindow
    dsimp only
    refine congrArg (fun f => List.foldl f (v (Shape.Idx.first hu)) (List.finRange W.numel)) (funext fun r => funext fun n => ?_)
    refine congrArg (fun z => r + z) ?_
    exact dite_congr rfl (fun _ => rfl) (fun _ => rfl)
  rw [e, foldl_add, hv, zero_add, ← Fin.sum_univ_def, Finset.sum_congr rfl fun n _ => hg n]
  clear_value g p
  clear e hg g p
  rw [← Finset.sum_filter_add_sum_filter_not Finset.univ (fun n : Fin W.numel => 63 ≤ j2.val + n.val)]
  rw [Finset.sum_eq_zero (s := Finset.univ.filter fun n : Fin W.numel => ¬ 63 ≤ j2.val + n.val) (fun n hm => dif_neg (Finset.mem_filter.1 hm).2), add_zero, ← Finset.sum_filter]
  refine Finset.sum_bij' (fun n hm => ⟨j2.val + n.val - 63, by have := n.isLt; omega⟩) (fun n hm => ⟨n.val + 63 - j2.val, by have := n.isLt; have := (Finset.mem_filter.1 hm).2; omega⟩) ?_ ?_ ?_ ?_ ?_
  · intro n hm; have := n.isLt; refine Finset.mem_filter.2 ⟨Finset.mem_univ _, ?_⟩; show j2.val + n.val - 63 ≤ j2.val; omega
  · intro n hm; have := (Finset.mem_filter.1 hm).2; refine Finset.mem_filter.2 ⟨Finset.mem_univ _, ?_⟩; show 63 ≤ j2.val + (n.val + 63 - j2.val); omega
  · intro n hm; have := (Finset.mem_filter.1 hm).2; apply Fin.ext; show j2.val + n.val - 63 + 63 - j2.val = n.val; omega
  · intro n hm; have := (Finset.mem_filter.1 hm).2; apply Fin.ext; show j2.val + (n.val + 63 - j2.val) - 63 = n.val; omega
  · intro n hm; exact dif_pos (Finset.mem_filter.1 hm).2
end Cert.ReferenceIdeal.Mix
-- ==== Proof.Mix.RefEntry.lean ====
module
public import proofs.«01_k».proof.Proof.Mix.RefLoop
public import proofs.«01_k».proof.Proof.Mix.Cumsum
public import proofs.«01_k».proof.Proof.Mix.Arr
@[expose] public section
set_option maxRecDepth 16384
noncomputable section
namespace Cert.ReferenceIdeal.Mix
open Idealize.ShloMosaic Idealize.ShloMosaic.StableHlo Cert.ReferenceIdeal.Gen Cert.ReferenceIdeal.Value Idealize.SL.Sem

open Host Cert Cert.Gla
variable (V : VV)

/-- Buffer v6 of the reference. -/
abbrev b6 (V : VV) : FVec Ideal S8x2048x1024 .f32 := V (Proc.devRef .tc main_v6)

/-- Buffer v39 of the reference. -/
abbrev b39 (V : VV) : FVec Ideal S8x2048x1024 .f32 := V (Proc.devRef .tc main_v39)

/-- Buffer v42 of the reference. -/
abbrev b42 (V : VV) : FVec Ideal S4x256 .f32 := V (Proc.devRef .tc main_v42)

/-- Buffer v45 of the reference. -/
abbrev b45 (V : VV) : FVec Ideal S8x32x64x4x128 .f32 := V (Proc.devRef .tc main_v45)

/-- Buffer v46 of the reference. -/
abbrev b46 (V : VV) : FVec Ideal S8x32x64x4x128 .f32 := V (Proc.devRef .tc main_v46)

/-- Buffer v47 of the reference. -/
abbrev b47 (V : VV) : FVec Ideal S8x32x64x4x256 .f32 := V (Proc.devRef .tc main_v47)

/-- Buffer v51 of the reference. -/
abbrev b51 (V : VV) : FVec Ideal S8x2048x512 .f32 := V (Proc.devRef .tc main_v51)

/-- Buffer v52 of the reference. -/
abbrev b52 (V : VV) : FVec Ideal S8x2048x512 .f32 := V (Proc.devRef .tc main_v52)

/-- Buffer v55 of the reference. -/
abbrev b55 (V : VV) : FVec Ideal S8x32x64x4x128 .f32 := V (Proc.devRef .tc main_v55)

/-- Buffer v56 of the reference. -/
abbrev b56 (V : VV) : FVec Ideal S8x32x64x4x128 .f32 := V (Proc.devRef .tc main_v56)

/-- Buffer v70 of the reference. -/
abbrev b70 (V : VV) : FVec Ideal S8x32x64x4x256 .f32 := V (Proc.devRef .tc main_v70)

/-- Buffer v99 of the reference. -/
abbrev b99 (V : VV) : FVec Ideal S16384x1024 .f32 := V (Proc.devRef .tc main_v99)

/-- Buffer v101 of the reference. -/
abbrev b101 (V : VV) : FVec Ideal S16384x1024 .f32 := V (Proc.devRef .tc main_v101)

/-- The projection. -/
abbrev a0 (V : VV) : FVec Ideal S8x2048x10256 .f32 := V (Proc.devRef .tc main_arg0)

/-- The projection, by numbers. -/
abbrev pX : ℕ → ℕ → ℕ → EReal := inX (V (Proc.devRef .tc main_arg0))
/-- The convolution's weight. -/
abbrev pCW : ℕ → ℕ → EReal := inM (V (Proc.devRef .tc main_arg1))
/-- The convolution's bias. -/
abbrev pCB : ℕ → EReal := inR (V (Proc.devRef .tc main_arg2))
/-- The gate's second weight. -/
abbrev pW : ℕ → ℕ → EReal := inM (V (Proc.devRef .tc main_arg3))
/-- The gate's bias. -/
abbrev pB : ℕ → EReal := inR (V (Proc.devRef .tc main_arg4))
/-- The norm's weight, the heads side by side. -/
abbrev pG : ℕ → EReal := fun j => inM (V (Proc.devRef .tc main_arg5)) (j / 256) (j % 256)

/-- The contents after the slices, the convolution and the gate's projection. -/
abbrev V2 : VV := after hostOps0_2 (after hostOps0_1 (after hostOps0 V))

theorem e45 (b : Fin 8) (c : Fin 32) (l : Fin 64) (h : Fin 4) (k : Fin 128) : b45 (V2 V) (ix5 b c l h k)
    = pX V b.val (64 * c.val + l.val) (3072 + (128 * h.val + k.val)) * Ideal.ofBits .f32 0x3DB504F3#32 := by
  unfold b45 V2
  after_reads_at
  refine congrArg (· * _) ?_
  rw [pX, inX_eq _ _ _ _ b.isLt (by omega) (by omega)]
  exact congrArg₂ (fun x y => (V (Proc.devRef .tc main_arg0) : FVec Ideal S8x2048x10256 .f32) (ix3 b x y)) (Fin.ext (by simp only []; omega)) (Fin.ext (by simp only []; omega))

theorem e46 (b : Fin 8) (c : Fin 32) (l : Fin 64) (h : Fin 4) (k : Fin 128) : b46 (V2 V) (ix5 b c l h k)
    = pX V b.val (64 * c.val + l.val) (3584 + (128 * h.val + k.val)) := by
  unfold b46 V2
  after_reads_at
  rw [pX, inX_eq _ _ _ _ b.isLt (by omega) (by omega)]
  exact congrArg₂ (fun x y => (V (Proc.devRef .tc main_arg0) : FVec Ideal S8x2048x10256 .f32) (ix3 b x y)) (Fin.ext (by simp only []; omega)) (Fin.ext (by simp only []; omega))

theorem e47 (b : Fin 8) (c : Fin 32) (l : Fin 64) (h : Fin 4) (k : Fin 256) : b47 (V2 V) (ix5 b c l h k)
    = pX V b.val (64 * c.val + l.val) (4096 + (256 * h.val + k.val)) := by
  unfold b47 V2
  after_reads_at
  rw [pX, inX_eq _ _ _ _ b.isLt (by omega) (by omega)]
  exact congrArg₂ (fun x y => (V (Proc.devRef .tc main_arg0) : FVec Ideal S8x2048x10256 .f32) (ix3 b x y)) (Fin.ext (by simp only []; omega)) (Fin.ext (by simp only []; omega))

theorem e6 (b : Fin 8) (t : Fin 2048) (j : Fin 1024) : b6 (V2 V) (ix3 b t j) = pX V b.val t.val (5120 + j.val) := by
  unfold b6 V2
  after_reads_at
  rw [pX, inX_eq _ _ _ _ b.isLt (by omega) (by omega)]

theorem e42 (h : Fin 4) (v : Fin 256) : b42 (V2 V) (ix2 h v) = inM (V (Proc.devRef .tc main_arg5)) h.val v.val := by
  unfold b42 V2
  after_reads_at
  exact (inM_eq _ _ _ h.isLt v.isLt).symm

theorem e51 (b : Fin 8) (t : Fin 2048) (j : Fin 512) : b51 (V2 V) (ix3 b t j) = zf (pX V) (pW V) (pB V) b.val t.val j.val := by
  unfold b51 V2
  after_reads_at
  rw [zf, pB, inR_eq _ _ j.isLt]
  refine congrArg (· + _) (Finset.sum_congr rfl fun r _ => ?_)
  rw [pX, pW, inX_eq _ _ _ _ b.isLt t.isLt (by omega), inM_eq _ _ _ r.isLt j.isLt]

theorem e39 (b : Fin 8) (t : Fin 2048) (j : Fin 1024) : b39 (V2 V) (ix3 b t j) = ya (pX V) (pCW V) (pCB V) b.val t.val j.val := by
  have hy (s : ℕ) (hs : s < 2050) : (if h : 2 ≤ s ∧ s - 2 < 2048 then a0 V (ix3 b ⟨s - 2, by omega⟩ ⟨j.val, by omega⟩) * a0 V (ix3 b ⟨s - 2, by omega⟩ ⟨2048 + j.val, by omega⟩)
      else (FloatOps.sitofp (F := Ideal) .f32 (0#32) : EReal)) = yc (pX V) b.val s j.val := by
    unfold yc
    by_cases h : s < 2
    · rw [if_pos h, dif_neg (by omega)]; exact sitofp0
    · rw [if_neg h, dif_pos (by omega), pX, inX_eq _ _ _ _ b.isLt (by omega) (by omega), inX_eq _ _ _ _ b.isLt (by omega) (by omega)]
  unfold b39 V2
  after_reads_at
  refine (congrArg₂ (· * ·) rfl (congrArg₂ (· + ·) rfl (congrArg₂ (· + ·) (congrArg₂ (· + ·) (congrArg (· * _) (hy t.val (by omega))) (congrArg (· * _) (hy (1 + t.val) (by omega)))) rfl))).trans ?_
  clear hy
  have y2 : yc (pX V) b.val (t.val + 2) j.val = a0 V (ix3 b t ⟨j.val, by omega⟩) * a0 V (ix3 b t ⟨2048 + j.val, by omega⟩) := by
    rw [yc, if_neg (by omega), pX, inX_eq _ _ _ _ b.isLt (by omega) (by omega), inX_eq _ _ _ _ b.isLt (by omega) (by omega)]; rfl
  rw [ya, y2, Nat.add_comm 1 t.val, pCW, pCB, inM_eq _ _ _ (by omega) j.isLt, inM_eq _ _ _ (by omega) j.isLt, inM_eq _ _ _ (by omega) j.isLt, inR_eq _ _ j.isLt]
  generalize yc (pX V) b.val t.val j.val = y0
  generalize yc (pX V) b.val (t.val + 1) j.val = y1
  refine congrArg₂ (· * ·) (inX_eq _ _ _ _ b.isLt t.isLt (by omega)).symm ?_
  exact (add_assoc _ _ _).symm.trans (congrArg₂ (· + ·) ((add_assoc _ _ _).symm.trans (congrArg₂ (· + ·) (congrArg₂ (· + ·) rfl (mul_comm _ _)) (mul_comm _ _))) (mul_comm _ _))

theorem e52 (b : Fin 8) (t : Fin 2048) (j : Fin 512) : b52 (after hostOps0_3 V) (ix3 b t j) = - (max (- b51 V (ix3 b t j)) 0 + Ideal.log1p (Ideal.exp (-(max (-b51 V (ix3 b t j) - 0) (-(-b51 V (ix3 b t j) - 0)))))) := by
  unfold b52
  after_reads_at
  rw [if_neg (fun h => h rfl)]
  rfl

theorem e55 (b : Fin 8) (c : Fin 32) (l : Fin 64) (h : Fin 4) (k : Fin 128) : b55 (after hostOps0_4 V) (ix5 b c l h k)
    = Ideal.div (b52 V (ix3 b ⟨64 * c.val + l.val, by omega⟩ ⟨128 * h.val + k.val, by omega⟩)) (Ideal.ofBits .f32 0x41800000#32) := by
  unfold b55
  after_reads_at
  refine congrArg (fun z => Ideal.div z _) ?_
  exact congrArg₂ (fun x y => b52 V (ix3 b x y)) (Fin.ext (by simp only []; omega)) (Fin.ext (by simp only []; omega))

theorem e56 (b : Fin 8) (c : Fin 32) (l : Fin 64) (h : Fin 4) (k : Fin 128) : b56 (after hostOps0_5 V) (ix5 b c l h k)
    = ∑ n : Fin 64, if n.val ≤ l.val then b55 V (ix5 b c n h k) else 0 := by
  unfold b56
  after_reads_at
  exact cumsum _ _ (fun i => Ideal.ofBits_zero .f32) _ _ b c l h k

theorem e70 (b : Fin 8) (c : Fin 32) (l : Fin 64) (h : Fin 4) (v : Fin 256) : b70 (after hostOps0_6 V) (ix5 b c l h v)
    = ∑ x : Fin 64, b47 V (ix5 b c x h v) * ∑ k : Fin 128, b45 V (ix5 b c l h k) * (b46 V (ix5 b c x h k) * Ideal.exp (b56 V (ix5 b c 63 h k) - b56 V (ix5 b c x h k))) := by
  unfold b70
  after_reads_at
  all_goals rfl

theorem e770 (c : Fin 32) (b : Fin 8) (l : Fin 64) (h : Fin 4) (k : Fin 128) : r0 (after hostOps0_6 V) (ix5 c b l h k)
    = b45 V (ix5 b c l h k) * Ideal.exp (b56 V (ix5 b c 63 h k)) := by
  unfold r0
  after_reads_at
  simp only [id]
  pointwise

theorem e771 (c : Fin 32) (b : Fin 8) (l : Fin 64) (h : Fin 4) (k : Fin 128) : r1 (after hostOps0_6 V) (ix5 c b l h k)
    = b46 V (ix5 b c l h k) * Ideal.exp (b56 V (ix5 b c 63 h k) - b56 V (ix5 b c l h k)) := by
  unfold r1
  after_reads_at
  simp only [id]
  pointwise

theorem e772 (c : Fin 32) (b : Fin 8) (l : Fin 64) (h : Fin 4) (k : Fin 256) : r2 (after hostOps0_6 V) (ix5 c b l h k) = b47 V (ix5 b c l h k) := by
  unfold r2
  after_reads_at
  simp only [id]
  pointwise

theorem e773 (c : Fin 32) (b : Fin 8) (h : Fin 4) (k : Fin 128) : r3 (after hostOps0_6 V) (ix4 c b h k) = b56 V (ix5 b c 63 h k) := by
  unfold r3
  after_reads_at
  all_goals (simp only [id]; pointwise)

theorem e775 (b : Fin 8) (h : Fin 4) (k : Fin 128) (v : Fin 256) : r5 (after hostOps0_6 V) (ix4 b h k v) = (0 : EReal) := by
  unfold r5
  after_reads_at
  exact Ideal.ofBits_zero .f32

theorem p99 (i : Fin 16384) (j : Fin 1024) : b99 (after hostOps0_9 (after hostOps0_8 (after hostOps0_7 V))) (ix2 i j)
    = b39 V (ix3 ⟨i.val / 2048, by omega⟩ ⟨i.val % 2048, by omega⟩ j) := by
  unfold b99
  after_reads_at

/-- A row's attention before the norm. -/
abbrev oo (b t h v : ℕ) (hb : b < 8) (ht : t < 2048) (hh : h < 4) (hv : v < 256) : EReal :=
  b70 V (ix5 ⟨b, hb⟩ ⟨t / 64, by omega⟩ ⟨t % 64, by omega⟩ ⟨h, hh⟩ ⟨v, hv⟩) + r6 V (ix5 ⟨t / 64, by omega⟩ ⟨b, hb⟩ ⟨t % 64, by omega⟩ ⟨h, hh⟩ ⟨v, hv⟩)

theorem p101 (i : Fin 16384) (j : Fin 1024) : b101 (after hostOps0_9 (after hostOps0_8 (after hostOps0_7 V))) (ix2 i j)
    = (oo V (i.val / 2048) (i.val % 2048) (j.val / 256) (j.val % 256) (by omega) (by omega) (by omega) (by omega)
        * Ideal.rsqrt (Ideal.div (∑ x : Fin 256, oo V (i.val / 2048) (i.val % 2048) (j.val / 256) x.val (by omega) (by omega) (by omega) x.isLt
            * oo V (i.val / 2048) (i.val % 2048) (j.val / 256) x.val (by omega) (by omega) (by omega) x.isLt) (Ideal.ofBits .f32 0x43800000#32)
          + Ideal.ofBits .f32 0x358637BD#32) * b42 V (ix2 ⟨j.val / 256, by omega⟩ ⟨j.val % 256, by omega⟩)
      * (b6 V (ix3 ⟨i.val / 2048, by omega⟩ ⟨i.val % 2048, by omega⟩ ⟨j.val / 256 * 256 + j.val % 256, by omega⟩)
        * Ideal.logistic (b6 V (ix3 ⟨i.val / 2048, by omega⟩ ⟨i.val % 2048, by omega⟩ ⟨j.val / 256 * 256 + j.val % 256, by omega⟩))) : EReal) := by
  unfold b101
  after_reads_at
  rfl

section
variable (hX : ∀ b t j, IsReal (pX V b t j)) (hW : ∀ r j, IsReal (pW V r j)) (hB : ∀ j, IsReal (pB V j))

/-- The contents after the running sums of the gate. -/
abbrev V5 : VV := after hostOps0_5 (after hostOps0_4 (after hostOps0_3 (V2 V)))

theorem k45 : b45 (V5 V) = b45 (V2 V) := by
  unfold b45 V5
  rw [after_of_writes_sub hostOps0_5 _ hostOps0_5_writes (by decide), after_of_writes_sub hostOps0_4 _ hostOps0_4_writes (by decide), after_of_writes_sub hostOps0_3 _ hostOps0_3_writes (by decide)]

theorem k46 : b46 (V5 V) = b46 (V2 V) := by
  unfold b46 V5
  rw [after_of_writes_sub hostOps0_5 _ hostOps0_5_writes (by decide), after_of_writes_sub hostOps0_4 _ hostOps0_4_writes (by decide), after_of_writes_sub hostOps0_3 _ hostOps0_3_writes (by decide)]

theorem k47 : b47 (V5 V) = b47 (V2 V) := by
  unfold b47 V5
  rw [after_of_writes_sub hostOps0_5 _ hostOps0_5_writes (by decide), after_of_writes_sub hostOps0_4 _ hostOps0_4_writes (by decide), after_of_writes_sub hostOps0_3 _ hostOps0_3_writes (by decide)]

include hX hW hB

/-- The running sums of the gate are the kernel's. -/
theorem e56' (b : Fin 8) (c : Fin 32) (l : Fin 64) (h : Fin 4) (k : Fin 128) : b56 (V5 V) (ix5 b c l h k)
    = bc (pX V) (pW V) (pB V) b.val c.val l.val (128 * h.val + k.val) := by
  rw [V5, e56, bc]
  refine Finset.sum_congr rfl fun n _ => ?_
  by_cases hn : n.val ≤ l.val
  · rw [if_pos hn, if_pos hn, one_mul, e55, e52, e51]
    exact lsgRef_eq (zf_real hX hW hB _ _ _)
  · rw [if_neg hn, if_neg hn, zero_mul]

/-- What the loop starts from. -/
theorem entry : Entry (after hostOps0_6 (V5 V)) (pX V) (pW V) (pB V) where
  q c b l h k := by rw [e770, k45, e45, e56' V hX hW hB]; rfl
  k c b l h k := by rw [e771, k46, e46, e56' V hX hW hB, e56' V hX hW hB]; rfl
  v c b l h v := by rw [e772, k47, e47]
  a c b h k := by rw [e773, e56' V hX hW hB]; rfl
  n := by
    after_reads_simp
    rfl
  z b h k v := e775 _ b h k v

end
end Cert.ReferenceIdeal.Mix
-- ==== Proof.Mix.RefFinal.lean ====
module
public import proofs.«01_k».proof.Proof.Mix.RefEntry
@[expose] public section
set_option maxRecDepth 16384
noncomputable section
namespace Cert.ReferenceIdeal.Mix
open Idealize.ShloMosaic Idealize.ShloMosaic.StableHlo Cert.ReferenceIdeal.Gen Cert.ReferenceIdeal.Value Idealize.SL.Sem

open Host Cert Cert.Gla
variable (m : (ℓ : Loc nD τ sig) → Buf (Elt Ideal) ℓ) (c : Dev nD)

/-- What the buffers hold at the start. -/
abbrev V0 : VV := launchContents m c

/-- What the buffers hold when the loop is left. -/
abbrev VL : VV := after condOps (atTrip condOps bodyI (entryContents preI m) 32 c)

/-- The buffers before the loop, stretch by stretch. -/
theorem entry_eq : entryContents preI m c = after hostOps0_6 (V5 (V0 m c)) := by
  simp only [entryContents, afterL_cons, afterL_nil]

/-- The buffers a trip writes. -/
abbrev tripW : List (Ref sig .tc) :=
  condOps_W ++ (while0Ops0_W ++ (while0Ops0_1_W ++ (while0Ops0_2_W ++ (while0Ops0_3_W ++ (while0Ops0_4_W ++ (while0Ops0_5_W ++ while0Ops0_6_W))))))

/-- A buffer no operation of a trip writes is after the loop as before it. -/
theorem left_kept (r : Ref sig .tc) (h : r ∉ tripW) :
    VL m c (Proc.devRef .tc r) = after hostOps0_6 (V5 (V0 m c)) (Proc.devRef .tc r) := by
  simp only [tripW, List.mem_append, not_or] at h
  obtain ⟨h0, h1, h2, h3, h4, h5, h6, h7⟩ := h
  have hc : ∀ X : VV, after condOps X (Proc.devRef .tc r) = X (Proc.devRef .tc r) := fun X => after_of_writes_sub condOps X condOps_writes h0
  have hb : ∀ X : VV, afterL bodyI X (Proc.devRef .tc r) = X (Proc.devRef .tc r) := fun X => by
    simp only [afterL_cons, afterL_nil]
    rw [after_of_writes_sub while0Ops0_6 _ while0Ops0_6_writes h7, after_of_writes_sub while0Ops0_5 _ while0Ops0_5_writes h6,
      after_of_writes_sub while0Ops0_4 _ while0Ops0_4_writes h5, after_of_writes_sub while0Ops0_3 _ while0Ops0_3_writes h4,
      after_of_writes_sub while0Ops0_2 _ while0Ops0_2_writes h3, after_of_writes_sub while0Ops0_1 _ while0Ops0_1_writes h2,
      after_of_writes_sub while0Ops0 _ while0Ops0_writes h1]
  have hk : ∀ k, atTrip condOps bodyI (entryContents preI m) k c (Proc.devRef .tc r) = entryContents preI m c (Proc.devRef .tc r) := by
    intro k
    induction k with
    | zero => rfl
    | succ k ih => exact (hb _).trans ((hc _).trans ih)
  rw [VL, hc, hk, entry_eq]

/-- The four stretches before the loop keep what they do not write. -/
theorem pre_kept (V : VV) (r : Ref sig .tc) (h : r ∉ hostOps0_3_W ++ (hostOps0_4_W ++ (hostOps0_5_W ++ hostOps0_6_W))) :
    after hostOps0_6 (V5 V) (Proc.devRef .tc r) = V2 V (Proc.devRef .tc r) := by
  simp only [List.mem_append, not_or] at h
  obtain ⟨h3, h4, h5, h6⟩ := h
  rw [after_of_writes_sub hostOps0_6 _ hostOps0_6_writes h6, V5, after_of_writes_sub hostOps0_5 _ hostOps0_5_writes h5,
    after_of_writes_sub hostOps0_4 _ hostOps0_4_writes h4, after_of_writes_sub hostOps0_3 _ hostOps0_3_writes h3]

/-- The convolution's rows when the loop is left. -/
theorem l39 : b39 (VL m c) = b39 (V2 (V0 m c)) :=
  (left_kept m c main_v39 (by decide +kernel)).trans (pre_kept _ main_v39 (by decide +kernel))
/-- The norm's weights when the loop is left. -/
theorem l42 : b42 (VL m c) = b42 (V2 (V0 m c)) :=
  (left_kept m c main_v42 (by decide +kernel)).trans (pre_kept _ main_v42 (by decide +kernel))
/-- The output gate's rows when the loop is left. -/
theorem l6 : b6 (VL m c) = b6 (V2 (V0 m c)) :=
  (left_kept m c main_v6 (by decide +kernel)).trans (pre_kept _ main_v6 (by decide +kernel))
/-- The rows within the chunks when the loop is left. -/
theorem l70 : b70 (VL m c) = b70 (after hostOps0_6 (V5 (V0 m c))) := left_kept m c main_v70 (by decide +kernel)
/-- The rows across the chunks when the loop is left. -/
theorem l6' : r6 (VL m c) = r6 (STEP^[32] (after hostOps0_6 (V5 (V0 m c)))) := by
  have h := atK_agree m c 32 main_v77_6 (by decide)
  rw [entry_eq] at h
  exact ((cond_keeps _) main_v77_6 (by decide)).trans h

/-- The last two stretches' results. -/
abbrev VF : VV := finalContents condOps preI bodyI postI 32 m c
theorem final_eq : VF m c = after hostOps0_9 (after hostOps0_8 (after hostOps0_7 (VL m c))) := by
  simp only [VF, finalContents, afterL_cons, afterL_nil]

/-- The reference's first result: the gated short convolution. -/
theorem ref_a (i : Fin 16384) (j : Fin 1024) : b99 (VF m c) (ix2 i j)
    = ya (pX (V0 m c)) (pCW (V0 m c)) (pCB (V0 m c)) (i.val / 2048) (i.val % 2048) j.val := by
  rw [final_eq, p99, l39, e39]

section
variable (hX : ∀ b t j, IsReal (pX (V0 m c) b t j)) (hW : ∀ r j, IsReal (pW (V0 m c) r j)) (hB : ∀ j, IsReal (pB (V0 m c) j))
include hX hW hB

/-- The attention's row before the norm: within the chunk, and from the chunks before it. -/
theorem oo_eq (b t h v : ℕ) (hb : b < 8) (ht : t < 2048) (hh : h < 4) (hv : v < 256) : oo (VL m c) b t h v hb ht hh hv
    = od (pX (V0 m c)) (pW (V0 m c)) (pB (V0 m c)) b t h v := by
  have h6 := (entry (V0 m c) hX hW hB).out 32 le_rfl ⟨t / 64, by omega⟩ (show t / 64 < 32 by omega) ⟨b, hb⟩ ⟨t % 64, by omega⟩ ⟨h, hh⟩ ⟨v, hv⟩
  have ht' : 64 * (t / 64) + t % 64 = t := by omega
  rw [od_eq hX hW hB, oo, l70, l6', h6, e70]
  simp only [ht']
  refine congrArg₂ (· + ·) ?_ ?_
  · refine Finset.sum_congr rfl fun l _ => ?_
    rw [k47, e47]
    refine congrArg _ (Finset.sum_congr rfl fun k _ => ?_)
    rw [k45, k46, e45, e46, e56' (V0 m c) hX hW hB, e56' (V0 m c) hX hW hB]
    simp only [ht']
    rfl
  · refine Finset.sum_congr rfl fun k _ => ?_
    rfl

/-- The reference's second result: the normalized, weighted, gated attention. -/
theorem ref_b (i : Fin 16384) (j : Fin 1024) : b101 (VF m c) (ix2 i j)
    = yb (pX (V0 m c)) (pW (V0 m c)) (pB (V0 m c)) (pG (V0 m c)) (i.val / 2048) (i.val % 2048) (j.val / 256) (j.val % 256) := by
  rw [final_eq, p101, l42, l6, e42, e6, yb]
  simp only [oo_eq m c hX hW hB]
  have hj : j.val / 256 * 256 + j.val % 256 = 256 * (j.val / 256) + j.val % 256 := by omega
  have hg : pG (V0 m c) (256 * (j.val / 256) + j.val % 256) = inM (V0 m c (Proc.devRef .tc main_arg5)) (j.val / 256) (j.val % 256) := by
    rw [pG, show (256 * (j.val / 256) + j.val % 256) / 256 = j.val / 256 by omega, show (256 * (j.val / 256) + j.val % 256) % 256 = j.val % 256 by omega]
  rw [hg]
  simp only [hj]

end
end Cert.ReferenceIdeal.Mix
-- ==== Proof.Mix.Claims.lean ====
module
public import proofs.«01_k».proof.Defs
public import proofs.«01_k».proof.Proof.Mix.Points
public import proofs.«01_k».proof.Proof.Mix.RefFinal
public import proofs.«01_k».proof.Proof.Gen.Kernel.Frame
public import proofs.«01_k».proof.Proof.Gen.Pre_all_finite
public import Idealize.ShloMosaic.Lib.ReduceAll
public import Idealize.ShloMosaic.Lib.Quiescent
@[expose] public section
set_option maxRecDepth 16384
noncomputable section
namespace Cert.Mix
open Idealize.ShloMosaic Idealize.ShloMosaic.StableHlo Idealize.SL.Sem Cert.Gla

/-- The bit pattern of plus infinity reads as the top of the extended reals. -/
theorem inf_top : (FloatOps.ofBits (F := Ideal) .f32 0x7F800000#32 : EReal) = ⊤ := by
  show Ideal.ofBits .f32 0x7F800000#32 = ⊤
  simp [Ideal.ofBits, Ideal.ieee]

/-- An element whose absolute value compares below plus infinity is a real number. -/
theorem real_of_cmp {s : Shape} {x : FVec Ideal s .f32} {y : FVec Ideal s .f32} (hy : ∀ i, y i = (⊤ : EReal)) {i : s.Idx}
    (h : cmpf .olt (Host.absf x) y i = 1#1) : IsReal (x i) := by
  refine isReal_of_abs_lt ?_
  rw [← hy i]
  by_contra hn
  have : cmpf .olt (Host.absf x) y i = BitVec.ofBool (decide ((max (x i) (-(x i)) : EReal) < y i)) := rfl
  rw [this, decide_eq_false hn] at h
  exact absurd h (by decide)

/-- The precondition, read back: the arrays it names hold real numbers. -/
theorem reals (a0 : FVec Ideal Pre_all_finite.S8x2048x10256 .f32) (a1 : FVec Ideal Pre_all_finite.S1x3x1024 .f32) (a2 : FVec Ideal Pre_all_finite.S1x1024 .f32)
    (a3 : FVec Ideal Pre_all_finite.S1x16x512 .f32) (a4 : FVec Ideal Pre_all_finite.S1x512 .f32) (a5 : FVec Ideal Pre_all_finite.S1x4x256 .f32)
    (h : Pre_all_finite.fn (F := Ideal) a0 a1 a2 a3 a4 a5 = fun _ => 1#1) :
    (∀ i, IsReal (a0 i)) ∧ (∀ i, IsReal (a3 i)) ∧ (∀ i, IsReal (a4 i)) := by
  have h0 := congrFun h (Shape.Idx.first Pre_all_finite.Gen.h_S_)
  unfold Pre_all_finite.fn at h0
  obtain ⟨h01, h2⟩ := IntOp.andi_eq_one.1 h0
  obtain ⟨h0, h1⟩ := IntOp.andi_eq_one.1 h01
  haveI : Subsingleton Pre_all_finite.S_.Idx := ⟨fun a b => funext fun i => i.elim0⟩
  exact ⟨fun i => real_of_cmp (fun _ => inf_top) (Host.reduce_andi_all _ _ _ _ _ h0 i),
    fun i => real_of_cmp (fun _ => inf_top) (Host.reduce_andi_all _ _ _ _ _ h1 i),
    fun i => real_of_cmp (fun _ => inf_top) (Host.reduce_andi_all _ _ _ _ _ h2 i)⟩

/-- The reference's arguments are not written. -/
theorem ref_arg (m : (ℓ : Loc ReferenceIdeal.nD ReferenceIdeal.τ ReferenceIdeal.sig) → Buf (Elt Ideal) ℓ) (c : Dev ReferenceIdeal.nD) (r : Ref ReferenceIdeal.sig .tc)
    (h : r ∉ ReferenceIdeal.Mix.tripW) (h1 : r ∉ ReferenceIdeal.Value.hostOps0_3_W ++ (ReferenceIdeal.Value.hostOps0_4_W ++ (ReferenceIdeal.Value.hostOps0_5_W ++ ReferenceIdeal.Value.hostOps0_6_W)))
    (h2 : r ∉ ReferenceIdeal.Value.hostOps0_W ++ (ReferenceIdeal.Value.hostOps0_1_W ++ ReferenceIdeal.Value.hostOps0_2_W))
    (h3 : ∀ V : ReferenceIdeal.Mix.VV, after ReferenceIdeal.Gen.hostOps0_9 (after ReferenceIdeal.Gen.hostOps0_8 (after ReferenceIdeal.Gen.hostOps0_7 V)) (Proc.devRef .tc r) = V (Proc.devRef .tc r)) :
    ReferenceIdeal.Mix.VF m c (Proc.devRef .tc r) = m ((c.tc : Thread ReferenceIdeal.nD ReferenceIdeal.τ).loc r) := by
  simp only [List.mem_append, not_or] at h2
  rw [ReferenceIdeal.Mix.final_eq, h3,
    ReferenceIdeal.Mix.left_kept m c r h, ReferenceIdeal.Mix.pre_kept _ r h1, ReferenceIdeal.Mix.V2,
    after_of_writes_sub _ _ ReferenceIdeal.Value.hostOps0_2_writes h2.2.2,
    after_of_writes_sub _ _ ReferenceIdeal.Value.hostOps0_1_writes h2.2.1, after_of_writes_sub _ _ ReferenceIdeal.Value.hostOps0_writes h2.1]

/-- The reference's run: its two results at the last contents, its arguments as they were. -/
theorem ref_run (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => ∀ c : Dev ReferenceIdeal.nD,
      r.2.mem ((c.tc : Thread ReferenceIdeal.nD ReferenceIdeal.τ).loc ReferenceIdeal.main_v99) = ReferenceIdeal.Mix.VF m c (Proc.devRef .tc ReferenceIdeal.main_v99)
      ∧ r.2.mem ((c.tc : Thread ReferenceIdeal.nD ReferenceIdeal.τ).loc ReferenceIdeal.main_v101) = ReferenceIdeal.Mix.VF m c (Proc.devRef .tc ReferenceIdeal.main_v101)
      ∧ r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4)
      ∧ r.2.mem ((c.tc : Thread ReferenceIdeal.nD ReferenceIdeal.τ).loc ReferenceIdeal.main_arg5) = m ((c.tc : Thread ReferenceIdeal.nD ReferenceIdeal.τ).loc ReferenceIdeal.main_arg5)) := by
  refine θ_run_mono (ReferenceIdeal.Value.run_fold (F := Ideal) m g) fun r h c => ?_
  have ha : ∀ b : Ref ReferenceIdeal.sig .tc, (Proc.devRef .tc b : DevRef ReferenceIdeal.τ ReferenceIdeal.sig).isScoped = false →
      r.2.mem ((c.tc : Thread ReferenceIdeal.nD ReferenceIdeal.τ).loc b) = ReferenceIdeal.Mix.VF m c (Proc.devRef .tc b) := fun b hb => h c b hb
  exact ⟨ha _ rfl, ha _ rfl,
    (ha _ rfl).trans (ref_arg m c _ (by decide +kernel) (by decide +kernel) (by decide +kernel) fun V => by after_reads_simp),
    (ha _ rfl).trans (ref_arg m c _ (by decide +kernel) (by decide +kernel) (by decide +kernel) fun V => by after_reads_simp),
    (ha _ rfl).trans (ref_arg m c _ (by decide +kernel) (by decide +kernel) (by decide +kernel) fun V => by after_reads_simp),
    (ha _ rfl).trans (ref_arg m c _ (by decide +kernel) (by decide +kernel) (by decide +kernel) fun V => by after_reads_simp),
    (ha _ rfl).trans (ref_arg m c _ (by decide +kernel) (by decide +kernel) (by decide +kernel) fun V => by after_reads_simp),
    (ha _ rfl).trans (ref_arg m c _ (by decide +kernel) (by decide +kernel) (by decide +kernel) fun V => by after_reads_simp)⟩

/-- The kernel runs, keeps its arguments, and leaves every counter at zero. -/
theorem frame_kernel : Cert.quiescent_Kernel := fun m g _ => Cert.Kernel.Gen.frame m g

/-- So does its idealization. -/
theorem frame_ideal : Cert.quiescent_KernelIdeal := fun m g _ => Cert.KernelIdeal.Gen.frame m g

/-- The reference runs, keeps its arguments, and has no counter. -/
theorem frame_ref : Cert.quiescent_ReferenceIdeal := fun m g _ =>
  θ_run_mono (ref_run m g) fun r h => ⟨fun c => (h c).2.2, sem_eq_zero_of_no_sems (by decide) r.2⟩

/-- The kernel's two results are the reference's over the extended reals. -/
theorem values : Cert.algebraic_KernelIdeal_ReferenceIdeal_pre_all_finite := by
  intro m g m' g' hpre hagree
  refine ⟨_, _, Cert.KernelIdeal.Value.run_blocks m g, θ_run_mono (ref_run m' g') fun r h c => ?_⟩
  obtain ⟨hX, hW, hB⟩ := reals _ _ _ _ _ _ (hpre c)
  obtain ⟨e0, e1, e2, e3, e4, e5⟩ := hagree c
  have x0 : ReferenceIdeal.Mix.pX (ReferenceIdeal.Mix.V0 m' c) = KernelIdeal.Mix.pX m c := congrArg inX e0
  have x1 : ReferenceIdeal.Mix.pCW (ReferenceIdeal.Mix.V0 m' c) = KernelIdeal.Mix.pCW m c := congrArg inM e1
  have x2 : ReferenceIdeal.Mix.pCB (ReferenceIdeal.Mix.V0 m' c) = KernelIdeal.Mix.pCB m c := congrArg inR e2
  have x3 : ReferenceIdeal.Mix.pW (ReferenceIdeal.Mix.V0 m' c) = KernelIdeal.Mix.pW m c := congrArg inM e3
  have x4 : ReferenceIdeal.Mix.pB (ReferenceIdeal.Mix.V0 m' c) = KernelIdeal.Mix.pB m c := congrArg inR e4
  have x5 : ReferenceIdeal.Mix.pG (ReferenceIdeal.Mix.V0 m' c) = KernelIdeal.Mix.pG m c :=
    congrArg (fun a : FVec Ideal KernelIdeal.S1x4x256 .f32 => fun j : ℕ => inM a (j / 256) (j % 256)) e5
  refine ⟨(h c).1.trans ?_, (h c).2.1.trans ?_, (h c).2.2⟩
  · funext i
    rw [show i = ix2 (i 0) (i 1) from funext fun k => by fin_cases k <;> rfl]
    refine (ReferenceIdeal.Mix.ref_a m' c _ _).trans ?_
    rw [x0, x1, x2]
    exact (KernelIdeal.Mix.final_a m c _ _).symm
  · funext i
    rw [show i = ix2 (i 0) (i 1) from funext fun k => by fin_cases k <;> rfl]
    refine (ReferenceIdeal.Mix.ref_b m' c (by rw [x0]; exact inX_real hX) (by rw [x3]; exact inM_real hW) (by rw [x4]; exact inR_real hB) _ _).trans ?_
    rw [x0, x3, x4, x5]
    exact (KernelIdeal.Mix.final_b m c _ _).symm

end Cert.Mix
-- ==== Proof.InProj.Body.lean ====
module
public import proofs.«01_k».proof.Proof.Gen.InProjIdeal.Frame
public import Idealize.ShloMosaic.Lib.VecWindow
public import Idealize.ShloMosaic.Lib.Pipeline.ValueKit
@[expose] public section
set_option maxRecDepth 16384
noncomputable section
namespace Cert.InProjIdeal.Pj
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.InProjIdeal.Gen
variable {F : FTy → Type} [FloatOps F]
local notation "𝕄" => MT nD τ sig Unit (Elt F) ℕ (UR sig nD τ) ℕ

/-- A block of rows, each divided by its root mean square and times the weight, rounded to bf16. -/
def hval (x : Vec F S1024x2048 .f32) (g : Vec F S1x2048 .f32) : FVec F S1024x2048 .bf16 :=
  truncf .bf16 (mulf (mulf x (broadcastTo S1024x2048 (rsqrt (addf (divf
    (shapeCast S1024x1 (multiReduction .add [1] S1024 (mulf x x) 0x00000000#32 reduces_S1024x2048_S1024 (.inl rfl) rfl) shapeCasts_S1024_S1024x1)
    (broadcast S1024x1 (Scalar.ofBits .f32 0x45000000#32))) (broadcast S1024x1 (Scalar.ofBits .f32 0x358637BD#32)))) broadcasts_S1024x1_S1024x2048))
    (broadcastTo S1024x2048 g broadcasts_S1x2048_S1024x2048)) bitsLt_bf16_f32

/-- The normalized rows against the 128 columns of the decay's low-rank factor. -/
def aval (h : FVec F S1024x2048 .bf16) (wa : Vec F S2048x128 .bf16) : FVec F S1024x128 .f32 :=
  matmul dot_S1024x2048_S2048x128_S1024x128_1_0_0_1_n_n none h wa (constant S1024x128 .f32 0x00000000#32)

/-- The normalized rows against 1024 columns of the projection, rounded to bf16. -/
def pval (h : FVec F S1024x2048 .bf16) (w : Vec F S2048x1024 .bf16) : FVec F S1024x1024 .bf16 :=
  truncf .bf16 (matmul dot_S1024x2048_S2048x1024_S1024x1024_1_0_0_1_n_n none h w (constant S1024x1024 .f32 0x00000000#32)) bitsLt_bf16_f32

set_option maxHeartbeats 1000000 in
/-- The body where it starts a row block: the rows are normalized into the scratch, both products are stored. -/
theorem run_first (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x1024 .bf16) (harg4 : arg4.IsWhole)
    (arg5 : Memref sig .tc .vmem S2048x128 .bf16) (harg5 : arg5.IsWhole) (arg6 : Memref sig .tc .vmem S1024x1024 .bf16) (harg6 : arg6.IsWhole)
    (arg7 : Memref sig .tc .vmem S1024x128 .f32) (harg7 : arg7.IsWhole) (arg8 : Memref sig .tc .vmem S1024x2048 .bf16) (harg8 : arg8.IsWhole)
    (hc : k0_cond1 i = 1#1)
    (x : Vec F S1024x2048 .f32) (g : Vec F S1x2048 .f32) (w : Vec F S2048x1024 .bf16) (wa : Vec F S2048x128 .bf16)
    (E : Set ℕ) (K : PUnit → sProp 𝕄) :
    iprop(owns (c : Thread nD τ) arg2 fullShare x ∗ owns (c : Thread nD τ) arg3 fullShare g ∗ owns (c : Thread nD τ) arg4 fullShare w
        ∗ owns (c : Thread nD τ) arg5 fullShare wa ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x ∗ owns (c : Thread nD τ) arg3 fullShare g ∗ owns (c : Thread nD τ) arg4 fullShare w
          ∗ owns (c : Thread nD τ) arg5 fullShare wa ∗ owns (c : Thread nD τ) arg6 fullShare (pval (hval x g) w)
          ∗ owns (c : Thread nD τ) arg7 fullShare (aval (hval x g) wa) ∗ owns (c : Thread nD τ) arg8 fullShare (hval x g)) -∗ K ⟨⟩))
      ⊢ wp frame (wpE (defs₀ (F := F)) Variants.none c none) E
          (cc0_inproj i arg2 harg2 arg3 harg3 arg4 harg4 arg5 harg5 arg6 harg6 arg7 harg7 arg8 harg8) K := by
  sl_unfold [cc0_inproj]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3
  have e0 : View.readAt (Elt F) arg2.view (Rect.unit ![0, 0] S1024x2048.size inb_S1024x2048_S1024x2048_0_0).toLoadRect (harg2.unread x) = x := (View.readAt_full _ _ _).trans hf0
  have e1 : View.readAt (Elt F) arg3.view (Rect.unit ![0, 0] S1x2048.size inb_S1x2048_S1x2048_0_0).toLoadRect (harg3.unread g) = g := (View.readAt_full _ _ _).trans hf1
  have e2 : View.readAt (Elt F) arg4.view (Rect.unit ![0, 0] S2048x1024.size inb_S2048x1024_S2048x1024_0_0).toLoadRect (harg4.unread w) = w := (View.readAt_full _ _ _).trans hf2
  have e3 : View.readAt (Elt F) arg5.view (Rect.unit ![0, 0] S2048x128.size inb_S2048x128_S2048x128_0_0).toLoadRect (harg5.unread wa) = wa := (View.readAt_full _ _ _).trans hf3
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    rw [View.read_writes_full]
    rw [View.readCov_full]
    try rw [e0, e1]
    try rw [e2]
    simp only [shapeCast_id]
    rfl
  isplitl [H5]
  · iexists _; isplitr
    swap; · iexact H5
    ipureintro
    sl_unfold_run_names
    rw [View.read_writes_full]
    try rw [e0, e1]
    try rw [e3]
    simp only [shapeCast_id]
    rfl
  iexists _; isplitr
  swap; · iexact H6
  ipureintro
  sl_unfold_run_names
  rw [View.read_writes_full]
  try rw [e0, e1]
  simp only [shapeCast_id]
  rfl

set_option maxHeartbeats 1000000 in
/-- The body at every other point: the scratch still holds the normalized rows, one product is stored. -/
theorem run_rest (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x1024 .bf16) (harg4 : arg4.IsWhole)
    (arg5 : Memref sig .tc .vmem S2048x128 .bf16) (harg5 : arg5.IsWhole) (arg6 : Memref sig .tc .vmem S1024x1024 .bf16) (harg6 : arg6.IsWhole)
    (arg7 : Memref sig .tc .vmem S1024x128 .f32) (harg7 : arg7.IsWhole) (arg8 : Memref sig .tc .vmem S1024x2048 .bf16) (harg8 : arg8.IsWhole)
    (hc : ¬k0_cond1 i = 1#1) (w : Vec F S2048x1024 .bf16) (h : Vec F S1024x2048 .bf16)
    (E : Set ℕ) (K : PUnit → sProp 𝕄) :
    iprop(owns (c : Thread nD τ) arg4 fullShare w ∗ (∃ d, owns (c : Thread nD τ) arg6 fullShare d) ∗ owns (c : Thread nD τ) arg8 fullShare h
        ∗ (iprop(owns (c : Thread nD τ) arg4 fullShare w ∗ owns (c : Thread nD τ) arg6 fullShare (pval h w)
          ∗ owns (c : Thread nD τ) arg8 fullShare h) -∗ K ⟨⟩))
      ⊢ wp frame (wpE (defs₀ (F := F)) Variants.none c none) E
          (cc0_inproj i arg2 harg2 arg3 harg3 arg4 harg4 arg5 harg5 arg6 harg6 arg7 harg7 arg8 harg8) K := by
  sl_unfold [cc0_inproj]
  unfold owns
  iintro ⟨⟨%f2, %hf2, H2⟩, ⟨%d4, %f4, -, H4⟩, ⟨%f6, %hf6, H6⟩, Hk⟩
  obtain rfl := harg4.eq_unread hf2; obtain rfl := harg8.eq_unread hf6
  have e2 : View.readAt (Elt F) arg4.view (Rect.unit ![0, 0] S2048x1024.size inb_S2048x1024_S2048x1024_0_0).toLoadRect (harg4.unread w) = w := (View.readAt_full _ _ _).trans hf2
  have e6 : View.readAt (Elt F) arg8.view (Rect.unit ![0, 0] S1024x2048.size inb_S1024x2048_S1024x2048_0_0).toLoadRect (harg8.unread h) = h := (View.readAt_full _ _ _).trans hf6
  sl_exec (disch := sl_exact hc)
  sl_step
  iapply Hk
  isplitl [H2]
  · iexists _; isplitr; · ipureintro; exact harg4.read_unread _
    iexact H2
  isplitl [H4]
  · iexists _; isplitr
    swap; · iexact H4
    ipureintro
    sl_unfold_run_names
    rw [View.read_writes_full]
    try rw [e2]
    try rw [e6]
    simp only [shapeCast_id]
    rfl
  iexists _; isplitr; · ipureintro; exact harg8.read_unread _
  iexact H6

end Cert.InProjIdeal.Pj
end
-- ==== Proof.InProj.Run.lean ====
module
public import proofs.«01_k».proof.Proof.InProj.Body
public import Idealize.ShloMosaic.Lib.Pipeline.TableIdle
@[expose] public section
set_option maxRecDepth 16384
noncomputable section
namespace Cert.InProjIdeal.Pj
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)

/-- Each window's current staging memref at a point. -/
abbrev ms0 (t : Fin cfg0.N) : Memref sig .tc .vmem S1024x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S2048x1024 .bf16 := win0_2.stage (cfg0.slots t 2)
abbrev ms3 (t : Fin cfg0.N) : Memref sig .tc .vmem S2048x128 .bf16 := win0_3.stage (cfg0.slots t 3)
abbrev ms4 (t : Fin cfg0.N) : Memref sig .tc .vmem S1024x1024 .bf16 := win0_4.stage (cfg0.slots t 4)
abbrev ms5 (t : Fin cfg0.N) : Memref sig .tc .vmem S1024x128 .f32 := win0_5.stage (cfg0.slots t 5)
/-- The scratch the kernel carries between points. -/
abbrev scM : Memref sig .tc .vmem S1024x2048 .bf16 := Memref.whole cc0_scratch0

/-- The normalized rows of a point's row block. -/
def hAt (c : Dev nD) (t : Fin cfg0.N) : FVec F S1024x2048 .bf16 := hval (iblk m c 0 t) (iblk m c 1 t)

/-- The body starts a row block exactly at the points divisible by ten. -/
theorem hcond : ∀ t : Fin cfg0.N, k0_cond1 (grid0.coords t) = 1#1 ↔ t.val % 10 = 0 :=
  (by decide +kernel : ∀ t : Fin grid0.N, k0_cond1 (grid0.coords t) = 1#1 ↔ t.val % 10 = 0)

/-- The block of the rows a point works on: row block `t / 10`. -/
theorem blk0 (t : Fin cfg0.N) : win0_0.index t = ![t.val / 10, 0] := by revert t; decide +kernel

/-- One entry of the rows a point works on. -/
theorem rd0 (c : Dev nD) (t : Fin cfg0.N) (i : Fin 1024) (j : Fin 2048) (h : t.val / 10 * 1024 + i.val < 16384) :
    (iblk m c 0 t : Vec F S1024x2048 .f32) (ix2 i j) = (V m c main_v0 : Vec F S16384x2048 .f32) (ix2 ⟨t.val / 10 * 1024 + i.val, h⟩ j) := by
  blk_ext [iblk, blk0 t]

theorem hAt_prev (c : Dev nD) (t : Fin cfg0.N) (ht : ¬t.val % 10 = 0) : hAt m c t = hAt m c ⟨t.val - 1, by omega⟩ := by
  have h0 : (iblk m c 0 t : Vec F S1024x2048 .f32) = iblk m c 0 ⟨t.val - 1, by omega⟩ := by
    have hN : t.val < 160 := lt_of_lt_of_eq t.isLt (show cfg0.N = 160 from N_0)
    funext i
    obtain ⟨a, b, rfl⟩ : ∃ (a : Fin 1024) (b : Fin 2048), i = ix2 a b := ⟨i 0, i 1, funext fun k => by fin_cases k <;> rfl⟩
    have e : t.val / 10 = (t.val - 1) / 10 := by omega
    rw [rd0 m c t a b (by omega), rd0 m c ⟨t.val - 1, by omega⟩ a b (by dsimp only; omega)]
    simp only [e]
  have h1 : (iblk m c 1 t : Vec F S1x2048 .f32) = iblk m c 1 ⟨t.val - 1, by omega⟩ := rfl
  unfold hAt; rw [h0, h1]

/-- The invariant: after a point the scratch holds the normalized rows of its row block. -/
def PhiS (c : Dev nD) : (n : ℕ) → n ≤ cfg0.N → sProp 𝕄
  | 0, _ => Pipeline.ΦA spec0 c
  | n + 1, hn => iprop(owns (c : Thread nD τ) scM fullShare (hAt m c ⟨n, hn⟩) ∗ (∃ r, prngReg c r))

theorem PhiS_pos (c : Dev nD) (n : ℕ) (h : n ≤ cfg0.N) (hz : n ≠ 0) :
    PhiS m c n h = iprop(owns (c : Thread nD τ) scM fullShare (hAt m c ⟨n - 1, by omega⟩) ∗ (∃ r, prngReg c r)) := by
  cases n with
  | zero => exact absurd rfl hz
  | succ n => rfl

/-- Before any point the invariant gives the scratch at some contents. -/
theorem PhiS_any (c : Dev nD) (n : ℕ) (h : n ≤ cfg0.N) :
    PhiS m c n h ⊢ iprop((∃ d, owns (c : Thread nD τ) scM fullShare d) ∗ (∃ r, prngReg c r)) := by
  cases n with
  | zero =>
    unfold PhiS Pipeline.ΦA; rw [scopedRest0_eq]; simp only [scM, owns_whole]
    exact .rfl
  | succ n =>
    unfold PhiS
    iintro ⟨H, Hg⟩
    isplitl [H]
    · iexists _; iexact H
    iexact Hg

/-- What each window's buffer holds after the body: an input its block, the outputs the two products. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => pval (hAt m c t) (iblk m c 2 t)
    | ⟨5, _⟩ => aval (hAt m c t) (iblk m c 3 t)
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = pval (hAt m c t) (iblk m c 2 t) := by dsimp only [dats]
theorem after_5 (c : Dev nD) (t : Fin cfg0.N) : (dats m 0 c).after 5 t = aval (hAt m c t) (iblk m c 3 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- Where nothing has been stored since the last write-back: at the points divisible by ten. -/
theorem fresh_5 (n : ℕ) (hn : n ≤ cfg0.N) : cfg0.fresh 5 n = decide (n % 10 = 0) :=
  Cfg.fresh_tab (cfg := cfg0) 5 (fun n => decide (n % 10 = 0)) rfl
    (by decide +kernel : ∀ t : Fin grid0.N, decide ((t.val + 1) % 10 = 0) = (win0_5.flush t || (idle0 5 (grid0.coords t) && decide (t.val % 10 = 0)))) n hn

theorem aAt_prev (c : Dev nD) (t : Fin cfg0.N) (ht : ¬t.val % 10 = 0) :
    (dats m 0 c).after 5 t = (dats m 0 c).after 5 ⟨t.val - 1, by omega⟩ := by
  rw [after_5, after_5, hAt_prev m c t ht]; rfl

/-- At a point that does not start a row block the second output's buffer holds the row block's product already. -/
theorem before_5 (c : Dev nD) (t : Fin cfg0.N) (ht : ¬t.val % 10 = 0) (d) :
    (dats m 0 c).before 5 t d = aval (hAt m c t) (iblk m c 3 t) := by
  rw [(dats m 0 c).before_out_traj 5 rfl (fun _ _ => rfl) (fun t hz _ hf => aAt_prev m c t (by
      rw [fresh_5 _ (Nat.le_of_lt t.isLt)] at hf; simpa using hf)) t.val t rfl d,
    fresh_5 _ (Nat.le_of_lt t.isLt), if_neg (by simpa using ht), ← aAt_prev m c t ht, after_5]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    after_0, after_1, after_2, after_3, after_4, after_5,
    show (dats m 0 c).Φ t.succ = iprop(owns (c : Thread nD τ) scM fullShare (hAt m c t) ∗ (∃ r, prngReg c r)) from rfl,
    show (dats m 0 c).Φ t.castSucc = PhiS m c t.val (Nat.le_of_lt t.isLt) from by dsimp only [dats]; exact Pipeline.Dat.Φ_castSucc (PhiS m c) t]
  by_cases h0 : t.val % 10 = 0
  · iintro ⟨HP, Ho, ⟨%d0, H0⟩, ⟨%d1, H1⟩, ⟨%d2, H2⟩, ⟨%d3, H3⟩, ⟨%d4, H4⟩, ⟨%d5, H5⟩⟩
    ihave HP := PhiS_any m c _ _ $$ HP
    icases HP with ⟨HS, Hg⟩
    iapply (run_first c (grid0.coords t) _ _ _ _ _ _ _ _ _ _ _ _ _ _ ((hcond t).mpr h0) (iblk m c 0 t) (iblk m c 1 t) (iblk m c 2 t) (iblk m c 3 t))
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · simp only [before_5 m c t h0]
    rw [PhiS_pos m c _ _ (fun h => h0 (by rw [h])), ← hAt_prev m c t h0]
    iintro ⟨⟨HS, Hg⟩, Ho, ⟨%d0, H0⟩, ⟨%d1, H1⟩, ⟨%d2, H2⟩, ⟨%d3, H3⟩, ⟨%d4, H4⟩, ⟨%d5, H5⟩⟩
    iapply (run_rest c (grid0.coords t) _ _ _ _ _ _ _ _ _ _ _ _ _ _ (fun h => h0 ((hcond t).mp h)) (iblk m c 2 t) (hAt m c t))
    isplitl [H2]; · iexact H2
    isplitl [H4]; · iexists _; iexact H4
    isplitl [HS]; · iexact HS
    iintro ⟨H2, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

/-- The second output's buffer left at its row block's product is what the obligation asks there, idle or not. -/
theorem leaves_5 (c : Dev nD) (t : Fin cfg0.N) :
    (owns (c : Thread nD τ) (ms5 t) fullShare ((dats m 0 c).after 5 t) : sProp 𝕄) ⊢ (dats m 0 c).leavesExact 5 t := by
  by_cases h0 : t.val % 10 = 0
  · have hi : cfg0.idle 5 (cfg0.grid.coords t) = false := by
      show (!(k0_cond1 (grid0.coords t) == 1#1)) = false
      rw [(hcond t).mpr h0]; rfl
    unfold Dat.leavesExact; rewrite [hi]; exact .rfl
  · have hi : cfg0.idle 5 (cfg0.grid.coords t) = true := by
      show (!(k0_cond1 (grid0.coords t) == 1#1)) = true
      simpa using fun h => h0 ((hcond t).mp h)
    unfold Dat.leavesExact; rewrite [hi]; dsimp only
    cases hf : (cfg0.win 5).flush t
    · dsimp only
      iintro H
      iexists (fun _ => Classical.arbitrary _)
      rw [before_5 m c t h0, after_5]
      iexact H
    · exact .rfl

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  exact sep_mono .rfl (sep_mono .rfl (sep_mono .rfl (sep_mono .rfl (sep_mono .rfl (sep_mono .rfl (sep_mono .rfl (leaves_5 m c t)))))))

theorem hin (c : Dev nD) : Pipeline.ΦA spec0 c ⊢ (dats m 0 c).Φ 0 := .rfl

theorem hout (c : Dev nD) : (dats m 0 c).Φ (Fin.last cfg0.N) ⊢ Pipeline.ΦA spec0 c := by
  refine (PhiS_any m c cfg0.N le_rfl).trans ?_
  unfold Pipeline.ΦA; rw [scopedRest0_eq]; simp only [scM, owns_whole]
  exact .rfl

set_option backward.isDefEq.respectTransparency.types false in
/-- Every execution ends with the arrays at what the proof data says, and every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun _ _ => by unfold Dat.share; split <;> rfl)
    (howed := fun _ _ => rfl) (V := V m) (hmain := hmain m Variants.none) (hA := A_eq m) (hin := hin m) (hout := hout m)

end Cert.InProjIdeal.Pj
end
-- ==== Proof.InProj.Spec.lean ====
module
public import proofs.«01_k».proof.Proof.Mix.Arr
@[expose] public section
noncomputable section
namespace Cert.Proj
open Idealize.ShloMosaic Cert.Gla

/-- An entry of the normalized rows: divided by the row's root mean square, times the weight. -/
def nrm (X : ℕ → ℕ → ℕ → EReal) (G : ℕ → EReal) (b t k : ℕ) : EReal :=
  X b t k * Ideal.rsqrt (Ideal.div (∑ x : Fin 2048, X b t x.val * X b t x.val) (Ideal.ofBits .f32 0x45000000#32)
    + Ideal.ofBits .f32 0x358637BD#32) * G k

/-- An entry of the projection: a normalized row against a column of the weight. -/
def prj (X : ℕ → ℕ → ℕ → EReal) (G : ℕ → EReal) (W : ℕ → ℕ → EReal) (b t n : ℕ) : EReal :=
  ∑ k : Fin 2048, nrm X G b t k.val * W k.val n

/-- The column of the projection that stands at column `j` once the decay's 16 columns are cut out. -/
def col (j : ℕ) : ℕ := if j < 6144 then j else j + 16

/-- An entry of the projection over the arrays it is read from. -/
theorem prj_eq {nb nt nn : ℕ} (a : (⟨3, ![nb, nt, 2048]⟩ : Shape).Idx → EReal) (g : (⟨2, ![1, 2048]⟩ : Shape).Idx → EReal)
    (w : (⟨3, ![1, 2048, nn]⟩ : Shape).Idx → EReal) (b t n : ℕ) (hb : b < nb) (ht : t < nt) (hn : n < nn) :
    prj (inX a) (inR g) (inM w) b t n = ∑ k : Fin 2048, a (ix3 ⟨b, hb⟩ ⟨t, ht⟩ k)
      * Ideal.rsqrt (Ideal.div (∑ x : Fin 2048, a (ix3 ⟨b, hb⟩ ⟨t, ht⟩ x) * a (ix3 ⟨b, hb⟩ ⟨t, ht⟩ x)) (Ideal.ofBits .f32 0x45000000#32)
        + Ideal.ofBits .f32 0x358637BD#32) * g (ix2 0 k) * w (ix3 0 k ⟨n, hn⟩) := by
  have e : ∀ k : Fin 2048, inX a b t k.val = a (ix3 ⟨b, hb⟩ ⟨t, ht⟩ k) := fun k => inX_eq _ _ _ _ hb ht k.isLt
  unfold prj nrm
  refine Finset.sum_congr rfl fun k _ => ?_
  simp only [e]
  rw [inR_eq g k.val k.isLt, inM_eq w k.val n k.isLt hn]

end Cert.Proj
end
-- ==== Proof.InProj.Value.lean ====
module
public import proofs.«01_k».proof.Proof.InProj.Run
public import proofs.«01_k».proof.Proof.InProj.Spec
public import Idealize.ShloMosaic.Lib.StableHlo.ReadAt
@[expose] public section
set_option maxRecDepth 16384
noncomputable section
namespace Cert.InProjIdeal.Pj
open Idealize.ShloMosaic Idealize.ShloMosaic.TcCoe Idealize.SL.Sem Cert.InProjIdeal Cert.InProjIdeal.Gen Cert.Gla Cert.Proj
variable (m : (ℓ : Loc nD τ sig) → Buf (Elt Ideal) ℓ) (c : Dev nD)

/-- The layer's input in memory, by numbers. -/
abbrev pX : ℕ → ℕ → ℕ → EReal := inX (m (c, Proc.devRef .tc main_arg0))
/-- The norm's weight in memory. -/
abbrev pG : ℕ → EReal := inR (m (c, Proc.devRef .tc main_arg1))
/-- The projection's weight in memory. -/
abbrev pW : ℕ → ℕ → EReal := inM (m (c, Proc.devRef .tc main_arg2))

/-- The rows the first window is cut from. -/
theorem v0 (i : Fin 16384) (j : Fin 2048) : (V m c main_v0 : FVec Ideal S16384x2048 .f32) (ix2 i j) = (pX m c (i.val / 2048) (i.val % 2048) j.val : EReal) := by
  unfold V
  simp only [List.flatten_cons, List.flatten_nil, List.append_nil, StableHlo.after_append]
  after_reads_at
  exact (inX_eq _ _ _ _ (by omega) (by omega) (by omega)).symm

/-- The norm's weight as the kernel takes it. -/
theorem v10 (j : Fin 2048) : (V m c main_v10 : FVec Ideal S1x2048 .f32) (ix2 0 j) = (pG m c j.val : EReal) := by
  unfold V
  simp only [List.flatten_cons, List.flatten_nil, List.append_nil, StableHlo.after_append]
  after_reads_at
  exact (inR_eq _ _ (by omega)).symm

/-- The first operations: the columns before the decay's. -/
theorem v2 (i : Fin 2048) (j : Fin 6144) : (StableHlo.upto hostOps0 (fun b => m (c, b)) 4 (Proc.devRef .tc main_v2) : FVec Ideal S2048x6144 .f32) (ix2 i j) = (pW m c i.val j.val : EReal) := by
  after_reads_at
  exact (inM_eq _ _ _ (by omega) (by omega)).symm

/-- The first operations: the columns after the decay's. -/
theorem v3 (i : Fin 2048) (j : Fin 4096) : (StableHlo.upto hostOps0 (fun b => m (c, b)) 4 (Proc.devRef .tc main_v3) : FVec Ideal S2048x4096 .f32) (ix2 i j) = (pW m c i.val (6160 + j.val) : EReal) := by
  after_reads_at
  exact (inM_eq _ _ _ (by omega) (by omega)).symm

/-- The weight's columns without the decay's. -/
theorem v5 (i : Fin 2048) (j : Fin 10240) : (V m c main_v5 : FVec Ideal S2048x10240 .bf16) (ix2 i j) = (pW m c i.val (col j.val) : EReal) := by
  unfold V col
  simp only [List.flatten_cons, List.flatten_nil, List.append_nil, StableHlo.after_append]
  after_reads_at
  split
  · exact v2 m c i ⟨j.val, by omega⟩
  · refine (v3 m c i ⟨j.val - 6144, by omega⟩).trans (congrArg _ ?_)
    show 6160 + (j.val - 6144) = j.val + 16
    omega

/-- The weight's columns for the decay, padded with zeros. -/
theorem v8 (i : Fin 2048) (j : Fin 128) : (V m c main_v8 : FVec Ideal S2048x128 .bf16) (ix2 i j) = (if j.val < 16 then pW m c i.val (6144 + j.val) else 0 : EReal) := by
  unfold V
  simp only [List.flatten_cons, List.flatten_nil, List.append_nil, StableHlo.after_append]
  after_reads_at
  by_cases h : j.val < 16
  · simp only [h, ↓reduceDIte, ↓reduceIte]; exact (inM_eq _ _ _ (by omega) (by omega)).symm
  · simp only [h, ↓reduceDIte, ↓reduceIte]; exact sitofp0

/-- One entry of a block of normalized rows. -/
theorem hval_apply (x : FVec Ideal S1024x2048 .f32) (g : FVec Ideal S1x2048 .f32) (j0 : Fin 1024) (j1 : Fin 2048) :
    (hval (F := Ideal) x g (ix2 j0 j1) : EReal) = x (ix2 j0 j1) *
          Ideal.rsqrt (Ideal.div (∑ q, x (ix2 j0 q) * x (ix2 j0 q)) (Ideal.ofBits .f32 0x45000000#32) + Ideal.ofBits .f32 0x358637BD#32) *
        g (ix2 0 j1) := by
  pointwise [hval]

/-- One entry of a block of the decay's columns. -/
theorem aval_apply (h : FVec Ideal S1024x2048 .bf16) (w : FVec Ideal S2048x128 .bf16) (j0 : Fin 1024) (j1 : Fin 128) :
    aval h w (ix2 j0 j1) = ∑ q, h (ix2 j0 q) * w (ix2 q j1) := by
  pointwise [aval]

/-- One entry of a block of the projection. -/
theorem pval_apply (h : FVec Ideal S1024x2048 .bf16) (w : FVec Ideal S2048x1024 .bf16) (j0 : Fin 1024) (j1 : Fin 1024) :
    pval h w (ix2 j0 j1) = ∑ q, h (ix2 j0 q) * w (ix2 q j1) := by
  pointwise [pval]

theorem blk1 (t : Fin cfg0.N) : win0_1.index t = ![0, 0] := by revert t; decide +kernel
theorem blk2 (t : Fin cfg0.N) : win0_2.index t = ![0, t.val % 10] := by revert t; decide +kernel
theorem blk3 (t : Fin cfg0.N) : win0_3.index t = ![0, 0] := by revert t; decide +kernel
theorem blk4 (t : Fin cfg0.N) : win0_4.index t = ![t.val / 10, t.val % 10] := by revert t; decide +kernel
theorem blk5 (t : Fin cfg0.N) : win0_5.index t = ![t.val / 10, 0] := by revert t; decide +kernel

theorem rd1 (t : Fin cfg0.N) (j : Fin 2048) : (iblk m c 1 t : Vec Ideal S1x2048 .f32) (ix2 0 j) = (V m c main_v10 : Vec Ideal S1x2048 .f32) (ix2 0 j) := by
  blk_ext [iblk, blk1 t]
theorem rd2 (t : Fin cfg0.N) (i : Fin 2048) (j : Fin 1024) (h : t.val % 10 * 1024 + j.val < 10240) :
    (iblk m c 2 t : Vec Ideal S2048x1024 .bf16) (ix2 i j) = (V m c main_v5 : Vec Ideal S2048x10240 .bf16) (ix2 i ⟨t.val % 10 * 1024 + j.val, h⟩) := by
  blk_ext [iblk, blk2 t]
theorem rd3 (t : Fin cfg0.N) (i : Fin 2048) (j : Fin 128) :
    (iblk m c 3 t : Vec Ideal S2048x128 .bf16) (ix2 i j) = (V m c main_v8 : Vec Ideal S2048x128 .bf16) (ix2 i j) := by
  blk_ext [iblk, blk3 t]

/-- The normalized rows a point works on. -/
theorem hAt_apply (t : Fin cfg0.N) (i : Fin 1024) (k : Fin 2048) (b s : ℕ) (hb : (t.val / 10 * 1024 + i.val) / 2048 = b) (hs : (t.val / 10 * 1024 + i.val) % 2048 = s) :
    hAt m c t (ix2 i k) = nrm (pX m c) (pG m c) b s k.val := by
  have hN : t.val < 160 := lt_of_lt_of_eq t.isLt (show cfg0.N = 160 from N_0)
  have e : ∀ q : Fin 2048, (iblk m c 0 t : Vec Ideal S1024x2048 .f32) (ix2 i q) = (pX m c b s q.val : EReal) := fun q => by
    rw [rd0 m c t i q (by omega), v0]; dsimp only; rw [hb, hs]
  unfold hAt nrm
  rw [hval_apply, e, rd1, v10]
  refine congrArg (fun z : EReal => _ * Ideal.rsqrt (Ideal.div z _ + _) * _) (Finset.sum_congr rfl fun q _ => ?_)
  rw [e]

/-- What a point writes into the projection. -/
theorem p_apply (t : Fin cfg0.N) (i : Fin 1024) (j : Fin 1024) :
    pval (hAt m c t) (iblk m c 2 t) (ix2 i j)
      = prj (pX m c) (pG m c) (pW m c) ((t.val / 10 * 1024 + i.val) / 2048) ((t.val / 10 * 1024 + i.val) % 2048) (col (t.val % 10 * 1024 + j.val)) := by
  rw [pval_apply]; unfold prj
  refine Finset.sum_congr rfl fun q _ => ?_
  rw [hAt_apply m c t i q _ _ rfl rfl, rd2 m c t q j (by omega), v5]

/-- What a point writes into the decay's columns. -/
theorem a_apply (t : Fin cfg0.N) (i : Fin 1024) (j : Fin 128) :
    aval (hAt m c t) (iblk m c 3 t) (ix2 i j)
      = if j.val < 16 then prj (pX m c) (pG m c) (pW m c) ((t.val / 10 * 1024 + i.val) / 2048) ((t.val / 10 * 1024 + i.val) % 2048) (6144 + j.val) else 0 := by
  rw [aval_apply]
  split
  · rename_i hj
    unfold prj
    refine Finset.sum_congr rfl fun q _ => ?_
    rw [hAt_apply m c t i q _ _ rfl rfl, rd3, v8, if_pos hj]
  · rename_i hj
    refine Finset.sum_eq_zero fun q _ => ?_
    rw [rd3, v8, if_neg hj]; exact mul_zero _

/-- The projection without the decay's columns. -/
def G4 : Buf (Elt Ideal) ((c : Thread nD τ).loc main_v11_0) := fun i : S16384x10240.Idx =>
  prj (pX m c) (pG m c) (pW m c) ((i 0).val / 2048) ((i 0).val % 2048) (col (i 1).val)

/-- The decay's columns, padded with zeros. -/
def G5 : Buf (Elt Ideal) ((c : Thread nD τ).loc main_v11_1) := fun i : S16384x128.Idx => show EReal from
  if (i 1).val < 16 then prj (pX m c) (pG m c) (pW m c) ((i 0).val / 2048) ((i 0).val % 2048) (6144 + (i 1).val) else 0

theorem flushed4 (t : Fin cfg0.N) : (dats m 0 c).flushed 4 t = ((cfg0.win 4).blk t).view.read (Elt Ideal) (G4 m c) := by
  show (cfg0.win 4).cut (grid0.coords t) ((dats m 0 c).after 4 t) = _
  rw [after_4]
  funext y
  have hb0 : (((cfg0.win 4).blk t).view.emb y 0).val = win0_4.index t (0 : Fin 2) * 1024 + 1 * (y 0).val := rfl
  have hb1 : (((cfg0.win 4).blk t).view.emb y 1).val = win0_4.index t (1 : Fin 2) * 1024 + 1 * (y 1).val := rfl
  rw [blk4 t] at hb0 hb1
  have hb0 : (((cfg0.win 4).blk t).view.emb y 0).val = t.val / 10 * 1024 + (y 0).val := hb0.trans (by simp)
  have hb1 : (((cfg0.win 4).blk t).view.emb y 1).val = t.val % 10 * 1024 + (y 1).val := hb1.trans (by simp)
  show pval (hAt m c t) (iblk m c 2 t) ((cfg0.win 4).xinj (grid0.coords t) y) = G4 m c (((cfg0.win 4).blk t).view.emb y)
  unfold G4
  rw [hb0, hb1]
  refine Eq.trans (congrArg _ ?_) (p_apply m c t (y 0) (y 1))
  funext a; fin_cases a <;> rfl

theorem flushed5 (t : Fin cfg0.N) : (dats m 0 c).flushed 5 t = ((cfg0.win 5).blk t).view.read (Elt Ideal) (G5 m c) := by
  show (cfg0.win 5).cut (grid0.coords t) ((dats m 0 c).after 5 t) = _
  rw [after_5]
  funext y
  have hb0 : (((cfg0.win 5).blk t).view.emb y 0).val = win0_5.index t (0 : Fin 2) * 1024 + 1 * (y 0).val := rfl
  have hb1 : (((cfg0.win 5).blk t).view.emb y 1).val = win0_5.index t (1 : Fin 2) * 128 + 1 * (y 1).val := rfl
  rw [blk5 t] at hb0 hb1
  have hb0 : (((cfg0.win 5).blk t).view.emb y 0).val = t.val / 10 * 1024 + (y 0).val := hb0.trans (by simp)
  have hb1 : (((cfg0.win 5).blk t).view.emb y 1).val = (y 1).val := hb1.trans (by simp)
  show aval (hAt m c t) (iblk m c 3 t) ((cfg0.win 5).xinj (grid0.coords t) y) = G5 m c (((cfg0.win 5).blk t).view.emb y)
  unfold G5
  rw [hb0, hb1]
  refine Eq.trans (congrArg _ ?_) (a_apply m c t (y 0) (y 1))
  funext a; fin_cases a <;> rfl

theorem mem_blk4 (t : Fin cfg0.N) (i : S16384x10240.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v11_0).slice (win0_4.rect t)).set ↔ _
  rw [View.set_slice_whole, Rect.mem_set_unit]
  exact Iff.rfl

theorem mem_blk5 (t : Fin cfg0.N) (i : S16384x128.Idx) :
    i ∈ ((cfg0.win 5).blk t).view.set ↔ ∀ a : Fin 2, win0_5.index t a * S1024x128.size a ≤ (i a).val ∧ (i a).val < win0_5.index t a * S1024x128.size a + S1024x128.size a := by
  show i ∈ ((View.whole main_v11_1).slice (win0_5.rect t)).set ↔ _
  rw [View.set_slice_whole, Rect.mem_set_unit]
  exact Iff.rfl

/-- The first result after the run. -/
theorem final4 : (dats m 0 c).arrAt 4 cfg0.N = G4 m c :=
  (dats m 0 c).arrAt_eq_of_cover 4 _ (fun t _ => flushed4 m c t) fun (i : S16384x10240.Idx) => by
    have h0 : (i 0).val < 16384 := (i 0).isLt
    have h1 : (i 1).val < 10240 := (i 1).isLt
    have hN : cfg0.N = 160 := N_0
    refine ⟨⟨(i 0).val / 1024 * 10 + (i 1).val / 1024, by omega⟩, flush0_4 _, (mem_blk4 _ i).2 ?_⟩
    rw [blk4]; intro a
    fin_cases a
    · show ((i 0).val / 1024 * 10 + (i 1).val / 1024) / 10 * 1024 ≤ (i 0).val ∧ (i 0).val < ((i 0).val / 1024 * 10 + (i 1).val / 1024) / 10 * 1024 + 1024
      omega
    · show ((i 0).val / 1024 * 10 + (i 1).val / 1024) % 10 * 1024 ≤ (i 1).val ∧ (i 1).val < ((i 0).val / 1024 * 10 + (i 1).val / 1024) % 10 * 1024 + 1024
      omega

/-- The second result after the run. -/
theorem final5 : (dats m 0 c).arrAt 5 cfg0.N = G5 m c :=
  (dats m 0 c).arrAt_eq_of_cover 5 _ (fun t _ => flushed5 m c t) fun (i : S16384x128.Idx) => by
    have h0 : (i 0).val < 16384 := (i 0).isLt
    have h1 : (i 1).val < 128 := (i 1).isLt
    have hN : cfg0.N = 160 := N_0
    refine ⟨⟨(i 0).val / 1024 * 10 + 9, by omega⟩, (flush0_5 _).2 (by show ((i 0).val / 1024 * 10 + 9) % 10 = 9; omega), (mem_blk5 _ i).2 ?_⟩
    rw [blk5]; intro a
    fin_cases a
    · show ((i 0).val / 1024 * 10 + 9) / 10 * 1024 ≤ (i 0).val ∧ (i 0).val < ((i 0).val / 1024 * 10 + 9) / 10 * 1024 + 1024
      omega
    · show 0 * 128 ≤ (i 1).val ∧ (i 1).val < 0 * 128 + 128
      omega

end Cert.InProjIdeal.Pj
end
-- ==== Proof.InProj.RefValue.lean ====
module
public import proofs.«01_k».proof.Proof.Gen.InProjRefIdeal.Run
public import proofs.«01_k».proof.Proof.InProj.Spec
public import Idealize.ShloMosaic.Lib.StableHlo.ReadAt
@[expose] public section
set_option maxRecDepth 16384
noncomputable section
namespace Cert.InProjRefIdeal.Pj
open Idealize.ShloMosaic Idealize.ShloMosaic.TcCoe Idealize.SL.Sem Cert.InProjRefIdeal Cert.InProjRefIdeal.Gen Cert.Gla Cert.Proj
open Idealize.ShloMosaic.StableHlo
variable (m : (ℓ : Loc nD τ sig) → Buf (Elt Ideal) ℓ) (c : Dev nD)

/-- The layer's input in memory, by numbers. -/
abbrev pX : ℕ → ℕ → ℕ → EReal := inX (m (c, Proc.devRef .tc main_arg0))
/-- The norm's weight in memory. -/
abbrev pG : ℕ → EReal := inR (m (c, Proc.devRef .tc main_arg1))
/-- The projection's weight in memory. -/
abbrev pW : ℕ → ℕ → EReal := inM (m (c, Proc.devRef .tc main_arg2))

/-- The columns before the decay's. -/
theorem v17 (i : Fin 16384) (j : Fin 6144) : (upto Value.ops (fun b => m (c, b)) 23 (Proc.devRef .tc main_v17) : FVec Ideal S16384x6144 .f32) (ix2 i j)
    = (prj (pX m c) (pG m c) (pW m c) (i.val / 2048) (i.val % 2048) j.val : EReal) := by
  after_reads_at
  exact (prj_eq _ _ _ _ _ _ (by omega) (by omega) (by omega)).symm

/-- The columns after the decay's. -/
theorem v19 (i : Fin 16384) (j : Fin 4096) : (upto Value.ops (fun b => m (c, b)) 23 (Proc.devRef .tc main_v19) : FVec Ideal S16384x4096 .f32) (ix2 i j)
    = (prj (pX m c) (pG m c) (pW m c) (i.val / 2048) (i.val % 2048) (6160 + j.val) : EReal) := by
  after_reads_at
  exact (prj_eq _ _ _ _ _ _ (by omega) (by omega) (by omega)).symm

/-- The first result: the projection without the decay's columns. -/
theorem v21 (i : Fin 16384) (j : Fin 10240) : (after Value.ops (fun b => m (c, b)) (Proc.devRef .tc main_v21) : FVec Ideal S16384x10240 .bf16) (ix2 i j)
    = (prj (pX m c) (pG m c) (pW m c) (i.val / 2048) (i.val % 2048) (col j.val) : EReal) := by
  after_reads_at
  unfold col
  split
  · exact v17 m c i ⟨j.val, by omega⟩
  · refine (v19 m c i ⟨j.val - 6144, by omega⟩).trans (congrArg _ ?_)
    show 6160 + (j.val - 6144) = j.val + 16
    omega

/-- The second result: the decay's columns, padded with zeros. -/
theorem v22 (i : Fin 16384) (j : Fin 128) : (after Value.ops (fun b => m (c, b)) (Proc.devRef .tc main_v22) : FVec Ideal S16384x128 .f32) (ix2 i j)
    = (if j.val < 16 then prj (pX m c) (pG m c) (pW m c) (i.val / 2048) (i.val % 2048) (6144 + j.val) else 0 : EReal) := by
  after_reads_at
  by_cases h : j.val < 16
  · simp only [h, ↓reduceDIte, ↓reduceIte]
    exact (prj_eq _ _ _ _ _ _ (by omega) (by omega) (by omega)).symm
  · simp only [h, ↓reduceDIte, ↓reduceIte]; exact sitofp0

/-- The reference's run: its two results, its arguments as they were. -/
theorem ref_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21) = after Value.ops (fun b => m (c, b)) (Proc.devRef .tc main_v21)
      ∧ r.2.mem ((c.tc : Thread nD τ).loc main_v22) = after Value.ops (fun b => m (c, b)) (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine θ_run_mono (run_seq Value.scopedRefs_eq Value.scopedSems_eq defs main (fun _ => Value.ops) Value.main_eq (fun _ => Value.ops_sub) m ρ) fun r h c => ?_
  exact ⟨h c main_v21, h c main_v22, (h c main_arg0).trans (by after_reads_simp), (h c main_arg1).trans (by after_reads_simp), (h c main_arg2).trans (by after_reads_simp)⟩

end Cert.InProjRefIdeal.Pj
end
-- ==== Proof.InProj.Claims.lean ====
module
public import proofs.«01_k».proof.Defs
public import proofs.«01_k».proof.Proof.InProj.Value
public import proofs.«01_k».proof.Proof.InProj.RefValue
public import proofs.«01_k».proof.Proof.Gen.InProj.Frame
public import Idealize.ShloMosaic.Lib.Quiescent
@[expose] public section
set_option maxRecDepth 16384
noncomputable section
namespace Cert.Proj
open Idealize.ShloMosaic Idealize.ShloMosaic.StableHlo Idealize.SL.Sem Cert.Gla

/-- At any floats the call runs, leaves its two arrays at what the proof data says, keeps its arguments, and every
    counter ends at zero. -/
theorem run_all {F : FTy → Type} [FloatOps F] (m : (ℓ : Loc InProjIdeal.nD InProjIdeal.τ InProjIdeal.sig) → Buf (Elt F) ℓ) (g : Dev InProjIdeal.nD → PrngReg) :
    θ_run (InProjIdeal.defs (F := F)) (onTc (τ := InProjIdeal.τ) (InProjIdeal.main (F := F))) ⟨m, fun _ => 0, g⟩ (fun r => (∀ c : Dev InProjIdeal.nD,
      r.2.mem ((c.tc : Thread InProjIdeal.nD InProjIdeal.τ).loc InProjIdeal.main_v11_0) = (InProjIdeal.Pj.dats m 0 c).arrAt 4 InProjIdeal.cfg0.N
      ∧ r.2.mem ((c.tc : Thread InProjIdeal.nD InProjIdeal.τ).loc InProjIdeal.main_v11_1) = (InProjIdeal.Pj.dats m 0 c).arrAt 5 InProjIdeal.cfg0.N
      ∧ r.2.mem ((c.tc : Thread InProjIdeal.nD InProjIdeal.τ).loc InProjIdeal.main_arg0) = m ((c.tc : Thread InProjIdeal.nD InProjIdeal.τ).loc InProjIdeal.main_arg0)
      ∧ r.2.mem ((c.tc : Thread InProjIdeal.nD InProjIdeal.τ).loc InProjIdeal.main_arg1) = m ((c.tc : Thread InProjIdeal.nD InProjIdeal.τ).loc InProjIdeal.main_arg1)
      ∧ r.2.mem ((c.tc : Thread InProjIdeal.nD InProjIdeal.τ).loc InProjIdeal.main_arg2) = m ((c.tc : Thread InProjIdeal.nD InProjIdeal.τ).loc InProjIdeal.main_arg2))
      ∧ r.2.sem = fun _ => 0) :=
  θ_run_mono (InProjIdeal.Pj.run_main m g) fun r h => ⟨fun c =>
    ⟨(h.1 c).1 4, (h.1 c).1 5,
      ((h.1 c).2 InProjIdeal.main_arg0 (Pipeline.mem_restRefs_of InProjIdeal.main_arg0 (by decide) (by decide))).trans (InProjIdeal.Gen.V_main_arg0 m c),
      ((h.1 c).2 InProjIdeal.main_arg1 (Pipeline.mem_restRefs_of InProjIdeal.main_arg1 (by decide) (by decide))).trans (InProjIdeal.Gen.V_main_arg1 m c),
      ((h.1 c).2 InProjIdeal.main_arg2 (Pipeline.mem_restRefs_of InProjIdeal.main_arg2 (by decide) (by decide))).trans (InProjIdeal.Gen.V_main_arg2 m c)⟩, h.2⟩

/-- The kernel and its idealization have the same bodies. -/
theorem defs₀_same : InProj.defs₀ (F := Bits) = InProjIdeal.defs₀ (F := Bits) := by
  unfold InProj.defs₀ InProjIdeal.defs₀
  congr 1
  funext n x
  match n, x with
  | 0, x => exact rfl

/-- So they have the same calls. -/
theorem defs_same : InProj.defs (F := Bits) = InProjIdeal.defs (F := Bits) := by
  unfold InProj.defs InProjIdeal.defs
  rw [defs₀_same]
  rfl

/-- And the same program. -/
theorem main_same : InProj.main (F := Bits) = InProjIdeal.main (F := Bits) := by
  funext c; rw [InProj.Gen.main_chain, InProjIdeal.Gen.main_chain]; rfl

/-- The projection's call runs, keeps its arguments, and leaves every counter at zero. -/
theorem frame_kernel : Cert.quiescent_InProj := fun m g _ => by
  have h := θ_run_mono (run_all (F := Bits) m g) fun _ h => (⟨fun c => (h.1 c).2.2, h.2⟩ : _ ∧ _)
  rw [← defs_same, ← main_same] at h
  exact h

/-- So does its idealization. -/
theorem frame_ideal : Cert.quiescent_InProjIdeal := fun m g _ =>
  θ_run_mono (run_all (F := Ideal) m g) fun _ h => ⟨fun c => (h.1 c).2.2, h.2⟩

/-- The reference runs, keeps its arguments, and has no counter. -/
theorem frame_ref : Cert.quiescent_InProjRefIdeal := fun m g _ =>
  θ_run_mono (InProjRefIdeal.Pj.ref_run m g) fun r h => ⟨fun c => (h c).2.2, sem_eq_zero_of_no_sems (by decide) r.2⟩

/-- The call's two results are the reference's over the extended reals. -/
theorem values : Cert.algebraic_InProjIdeal_InProjRefIdeal := by
  intro m g m' g' _ hagree
  refine ⟨_, _, θ_run_mono (run_all (F := Ideal) m g) fun r h => h.1, θ_run_mono (InProjRefIdeal.Pj.ref_run m' g') fun r h c => ?_⟩
  obtain ⟨e0, e1, e2⟩ := hagree c
  have x0 : InProjRefIdeal.Pj.pX m' c = InProjIdeal.Pj.pX m c := congrArg inX e0
  have x1 : InProjRefIdeal.Pj.pG m' c = InProjIdeal.Pj.pG m c := congrArg inR e1
  have x2 : InProjRefIdeal.Pj.pW m' c = InProjIdeal.Pj.pW m c := congrArg inM e2
  refine ⟨(h c).1.trans ?_, (h c).2.1.trans ?_, (h c).2.2⟩
  · rw [InProjIdeal.Pj.final4]
    funext i
    rw [show i = ix2 (i 0) (i 1) from funext fun k => by fin_cases k <;> rfl]
    refine (InProjRefIdeal.Pj.v21 m' c _ _).trans ?_
    rw [x0, x1, x2]
    rfl
  · rw [InProjIdeal.Pj.final5]
    funext i
    rw [show i = ix2 (i 0) (i 1) from funext fun k => by fin_cases k <;> rfl]
    refine (InProjRefIdeal.Pj.v22 m' c _ _).trans ?_
    rw [x0, x1, x2]
    rfl

end Cert.Proj
end
-- ==== Proof.Experts.Body.lean ====
module
public import proofs.«01_k».proof.Proof.Gen.ExpertsIdeal.Launch
public import proofs.«01_k».proof.Proof.Gen.ExpertsIdeal.Skeleton
public import Idealize.ShloMosaic.Lib.VecWindow
public import Idealize.ShloMosaic.Lib.Pipeline.ValueKit
public import Idealize.ShloMosaic.Lib.Pipeline.ReadBack
@[expose] public section
set_option maxRecDepth 16384
noncomputable section
namespace Cert.ExpertsIdeal.Ex
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.ExpertsIdeal.Gen
variable {F : FTy → Type} [FloatOps F]
local notation "𝕄" => MT nD τ sig Unit (Elt F) ℕ (UR sig nD τ) ℕ

/-- The one entry of the number of used tiles, as a body reads it. -/
theorem word_read (arg3 : Memref sig .tc .smem S1 .i32) (harg3 : arg3.IsWhole) (nv : Vec F S1 .i32) :
    (arg3.access (Rect.unit ![0] S1.size inb_S1_S1_0)).read (Elt F) (harg3.unread nv) (Shape.Idx.first (numel1_S1.symm ▸ Nat.one_pos)) = nv (ix1 0) := by
  have h : View.readAt (Elt F) arg3.view (Rect.unit ![0] S1.size inb_S1_S1_0).toLoadRect (harg3.unread nv) = nv := (View.readAt_full _ _ _).trans (harg3.read_unread _)
  have h2 := congrFun h (Shape.Idx.first (numel1_S1.symm ▸ Nat.one_pos))
  refine Eq.trans h2 (congrArg nv (funext fun a => ?_))
  match a with
  | 0 => exact Subsingleton.elim (α := Fin 1) _ _

set_option maxHeartbeats 1000000 in
/-- The body at a point of a tile past the used ones that does not end its tile: only the number of used tiles is read. -/
theorem run_skip (c : Dev nD) (i : grid0.Coords) (arg2 : Memref sig .tc .smem S96 .i32) (harg2 : arg2.IsWhole) (arg3 : Memref sig .tc .smem S1 .i32) (harg3 : arg3.IsWhole) (arg4 : Memref sig .tc .vmem S1024x2048 .f32) (harg4 : arg4.IsWhole)
    (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole)
    (arg8 : Memref sig .tc .vmem S1x1x256 .f32) (harg8 : arg8.IsWhole) (arg9 : Memref sig .tc .vmem S1x1x256 .f32) (harg9 : arg9.IsWhole) (arg10 : Memref sig .tc .vmem S1x1x2048 .f32) (harg10 : arg10.IsWhole)
    (arg11 : Memref sig .tc .vmem S1024x2048 .f32) (harg11 : arg11.IsWhole) (arg12 : Memref sig .tc .vmem S1024x2048 .bf16) (harg12 : arg12.IsWhole) (arg13 : Memref sig .tc .vmem S2048x512 .bf16) (harg13 : arg13.IsWhole)
    (q : PosShare TreeShare) (nv : Vec F S1 .i32)
    (hc1 : ¬k0_cond1 i (nv (ix1 0)) = 1#1) (hc2 : ¬k0_cond2 i (nv (ix1 0)) = 1#1)
    (E : Set ℕ) (K : PUnit → sProp 𝕄) :
    iprop(owns (c : Thread nD τ) arg3 q nv ∗ (owns (c : Thread nD τ) arg3 q nv -∗ K ⟨⟩))
      ⊢ wp frame (wpE (defs₀ (F := F)) Variants.none c none) E
          (cc0_experts i arg2 harg2 arg3 harg3 arg4 harg4 arg5 harg5 arg6 harg6 arg7 harg7 arg8 harg8 arg9 harg9 arg10 harg10 arg11 harg11 arg12 harg12 arg13 harg13) K := by
  sl_unfold [cc0_experts]
  unfold owns
  iintro ⟨⟨%f, %hf, H⟩, Hk⟩
  obtain rfl := harg3.eq_unread hf
  have e3 : (arg3.access (Rect.unit ![0] S1.size inb_S1_S1_0)).read (Elt F) (harg3.unread nv) (Shape.Idx.first (numel1_S1.symm ▸ Nat.one_pos)) = nv (ix1 0) := by
    rw [word_read arg3 harg3 nv]
  rw [← e3] at hc1 hc2
  sl_exec (disch := first | sl_exact hc1 | sl_exact hc2)
  sl_step
  iapply Hk
  iexists _; isplitr
  · ipureintro; exact hf
  iexact H

set_option maxHeartbeats 4000000 in
/-- The body at the last point of a tile past the used ones: the tile is filled with zeros. -/
theorem run_zero (c : Dev nD) (i : grid0.Coords) (arg2 : Memref sig .tc .smem S96 .i32) (harg2 : arg2.IsWhole) (arg3 : Memref sig .tc .smem S1 .i32) (harg3 : arg3.IsWhole) (arg4 : Memref sig .tc .vmem S1024x2048 .f32) (harg4 : arg4.IsWhole)
    (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole)
    (arg8 : Memref sig .tc .vmem S1x1x256 .f32) (harg8 : arg8.IsWhole) (arg9 : Memref sig .tc .vmem S1x1x256 .f32) (harg9 : arg9.IsWhole) (arg10 : Memref sig .tc .vmem S1x1x2048 .f32) (harg10 : arg10.IsWhole)
    (arg11 : Memref sig .tc .vmem S1024x2048 .f32) (harg11 : arg11.IsWhole) (arg12 : Memref sig .tc .vmem S1024x2048 .bf16) (harg12 : arg12.IsWhole) (arg13 : Memref sig .tc .vmem S2048x512 .bf16) (harg13 : arg13.IsWhole)
    (q : PosShare TreeShare) (nv : Vec F S1 .i32)
    (hc1 : k0_cond1 i (nv (ix1 0)) = 1#1) (hc2 : ¬k0_cond2 i (nv (ix1 0)) = 1#1)
    (E : Set ℕ) (K : PUnit → sProp 𝕄) :
    iprop(owns (c : Thread nD τ) arg3 q nv ∗ (∃ d, owns (c : Thread nD τ) arg11 fullShare d)
        ∗ (iprop(owns (c : Thread nD τ) arg3 q nv ∗ owns (c : Thread nD τ) arg11 fullShare (k0_pay1 (F := F))) -∗ K ⟨⟩))
      ⊢ wp frame (wpE (defs₀ (F := F)) Variants.none c none) E
          (cc0_experts i arg2 harg2 arg3 harg3 arg4 harg4 arg5 harg5 arg6 harg6 arg7 harg7 arg8 harg8 arg9 harg9 arg10 harg10 arg11 harg11 arg12 harg12 arg13 harg13) K := by
  sl_unfold [cc0_experts]
  unfold owns
  iintro ⟨⟨%f, %hf, H⟩, ⟨%d4, %f4, -, H4⟩, Hk⟩
  obtain rfl := harg3.eq_unread hf
  have e3 : (arg3.access (Rect.unit ![0] S1.size inb_S1_S1_0)).read (Elt F) (harg3.unread nv) (Shape.Idx.first (numel1_S1.symm ▸ Nat.one_pos)) = nv (ix1 0) := by
    rw [word_read arg3 harg3 nv]
  rw [← e3] at hc1 hc2
  sl_exec (disch := first | sl_exact hc1 | sl_exact hc2)
  sl_step
  iapply Hk
  isplitl [H]
  · iexists _; isplitr
    · ipureintro; exact hf
    iexact H
  iexists _; isplitr
  swap; · iexact H4
  ipureintro
  sl_unfold_run_names
  rw [View.read_writes_full]

/-- The scratch holding a block of gate columns beside a block of up columns, both rounded to bf16. -/
def wcat (wg wu : Vec F S1x2048x256 .f32) : Vec F S2048x512 .bf16 :=
  View.canon [⟨Rect.unit (s := S2048x512) ![0, 256] S2048x256.size inb_S2048x512_S2048x256_0_256, k0_pay6 wu⟩,
    ⟨Rect.unit (s := S2048x512) ![0, 0] S2048x256.size inb_S2048x512_S2048x256_0_0, k0_pay5 wg⟩]

/-- The activations of one tile on 256 hidden columns, rounded to bf16. -/
def act (xb : Vec F S1024x2048 .bf16) (w : Vec F S2048x512 .bf16) (bg bu : Vec F S1x1x256 .f32) : FVec F S1024x256 .bf16 :=
  k0_pay11 (k0_pay8 xb w bu) (k0_pay9 xb w bg) (FloatOps.ofBits FTy.f32 0x40E00000#32) (k0_pay10 (F := F))

/-- The tile with 256 hidden columns' share of the second product added, 512 output columns at a time. -/
def oacc (o : Vec F S1024x2048 .f32) (a : FVec F S1024x256 .bf16) (wd : Vec F S1x256x2048 .f32) : Vec F S1024x2048 .f32 :=
  View.canon [
    ⟨Rect.unit (s := S1024x2048) ![0, 1536] S1024x512.size inb_S1024x2048_S1024x512_0_1536,
      k0_pay2 a (View.ld o (Rect.unit (s := S1024x2048) ![0, 1536] S1024x512.size inb_S1024x2048_S1024x512_0_1536)) (View.ld wd (Rect.unit (s := S1x256x2048) ![0, 0, 1536] S1x256x512.size inb_S1x256x2048_S1x256x512_0_0_1536))⟩,
    ⟨Rect.unit (s := S1024x2048) ![0, 1024] S1024x512.size inb_S1024x2048_S1024x512_0_1024,
      k0_pay2 a (View.ld o (Rect.unit (s := S1024x2048) ![0, 1024] S1024x512.size inb_S1024x2048_S1024x512_0_1024)) (View.ld wd (Rect.unit (s := S1x256x2048) ![0, 0, 1024] S1x256x512.size inb_S1x256x2048_S1x256x512_0_0_1024))⟩,
    ⟨Rect.unit (s := S1024x2048) ![0, 512] S1024x512.size inb_S1024x2048_S1024x512_0_512,
      k0_pay2 a (View.ld o (Rect.unit (s := S1024x2048) ![0, 512] S1024x512.size inb_S1024x2048_S1024x512_0_512)) (View.ld wd (Rect.unit (s := S1x256x2048) ![0, 0, 512] S1x256x512.size inb_S1x256x2048_S1x256x512_0_0_512))⟩,
    ⟨Rect.unit (s := S1024x2048) ![0, 0] S1024x512.size inb_S1024x2048_S1024x512_0_0,
      k0_pay2 a (View.ld o (Rect.unit (s := S1024x2048) ![0, 0] S1024x512.size inb_S1024x2048_S1024x512_0_0)) (View.ld wd (Rect.unit (s := S1x256x2048) ![0, 0, 0] S1x256x512.size inb_S1x256x2048_S1x256x512_0_0_0))⟩]

/-- Later writes that cover a place decide what it reads. -/
theorem canon_append_left {s : Shape} {e : EltTy} (L' : List (View.Piece (Elt F) s e)) (y : s.Idx) :
    ∀ (L : List (View.Piece (Elt F) s e)), (∃ p ∈ L, y ∈ p.1.set) → View.canon (L ++ L') y = View.canon L y
  | [], h => by obtain ⟨p, hp, _⟩ := h; simp at hp
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_left L' y L ?_
      obtain ⟨q, hq, hy⟩ := h
      rcases List.mem_cons.mp hq with rfl | hq
      · exact absurd hy hm
      · exact ⟨q, hq, hy⟩

/-- The two halves of the scratch's columns cover it. -/
theorem cover_w (p q : S2048x256.Idx → Elt F .bf16) (y : S2048x512.Idx) :
    ∃ z ∈ ([⟨Rect.unit (s := S2048x512) ![0, 256] S2048x256.size inb_S2048x512_S2048x256_0_256, p⟩,
      ⟨Rect.unit (s := S2048x512) ![0, 0] S2048x256.size inb_S2048x512_S2048x256_0_0, q⟩] : List (View.Piece (Elt F) S2048x512 .bf16)), y ∈ z.1.set := by
  have h0 : (y 0).val < 2048 := (y 0).isLt
  have h1 : (y 1).val < 512 := (y 1).isLt
  by_cases h : (y 1).val < 256
  · refine ⟨_, List.mem_cons_of_mem _ (List.mem_singleton.mpr rfl), ?_⟩
    rw [Rect.mem_set_unit]; intro a
    match a with
    | 0 => exact ⟨Nat.zero_le _, by simpa using h0⟩
    | 1 => exact ⟨Nat.zero_le _, by simpa using h⟩
  · refine ⟨_, List.mem_cons_self, ?_⟩
    rw [Rect.mem_set_unit]; intro a
    match a with
    | 0 => exact ⟨Nat.zero_le _, by simpa using h0⟩
    | 1 => exact ⟨by simpa using h, by simpa using h1⟩

/-- The four groups of 512 output columns cover the tile. -/
theorem cover_o (p q r t : S1024x512.Idx → Elt F .f32) (y : S1024x2048.Idx) :
    ∃ z ∈ ([⟨Rect.unit (s := S1024x2048) ![0, 1536] S1024x512.size inb_S1024x2048_S1024x512_0_1536, p⟩,
      ⟨Rect.unit (s := S1024x2048) ![0, 1024] S1024x512.size inb_S1024x2048_S1024x512_0_1024, q⟩,
      ⟨Rect.unit (s := S1024x2048) ![0, 512] S1024x512.size inb_S1024x2048_S1024x512_0_512, r⟩,
      ⟨Rect.unit (s := S1024x2048) ![0, 0] S1024x512.size inb_S1024x2048_S1024x512_0_0, t⟩] : List (View.Piece (Elt F) S1024x2048 .f32)), y ∈ z.1.set := by
  have h0 : (y 0).val < 1024 := (y 0).isLt
  have h1 : (y 1).val < 2048 := (y 1).isLt
  by_cases c1 : 1536 ≤ (y 1).val
  · refine ⟨_, List.mem_cons_self, ?_⟩
    rw [Rect.mem_set_unit]; intro a
    match a with
    | 0 => exact ⟨Nat.zero_le _, by simpa using h0⟩
    | 1 => exact ⟨by simpa using c1, by simpa using h1⟩
  by_cases c2 : 1024 ≤ (y 1).val
  · refine ⟨_, List.mem_cons_of_mem _ List.mem_cons_self, ?_⟩
    rw [Rect.mem_set_unit]; intro a
    match a with
    | 0 => exact ⟨Nat.zero_le _, by simpa using h0⟩
    | 1 => exact ⟨by simpa using c2, by simp; omega⟩
  by_cases c3 : 512 ≤ (y 1).val
  · refine ⟨_, List.mem_cons_of_mem _ (List.mem_cons_of_mem _ List.mem_cons_self), ?_⟩
    rw [Rect.mem_set_unit]; intro a
    match a with
    | 0 => exact ⟨Nat.zero_le _, by simpa using h0⟩
    | 1 => exact ⟨by simpa using c3, by simp; omega⟩
  · refine ⟨_, List.mem_cons_of_mem _ (List.mem_cons_of_mem _ (List.mem_cons_of_mem _ List.mem_cons_self)), ?_⟩
    rw [Rect.mem_set_unit]; intro a
    match a with
    | 0 => exact ⟨Nat.zero_le _, by simpa using h0⟩
    | 1 => exact ⟨Nat.zero_le _, by simp; omega⟩

/-- The four groups over an earlier fill of the whole tile cover it too. -/
theorem cover_o5 (p q r t : S1024x512.Idx → Elt F .f32) (w : S1024x2048.Idx → Elt F .f32) (y : S1024x2048.Idx) :
    ∃ z ∈ ([⟨Rect.unit (s := S1024x2048) ![0, 1536] S1024x512.size inb_S1024x2048_S1024x512_0_1536, p⟩,
      ⟨Rect.unit (s := S1024x2048) ![0, 1024] S1024x512.size inb_S1024x2048_S1024x512_0_1024, q⟩,
      ⟨Rect.unit (s := S1024x2048) ![0, 512] S1024x512.size inb_S1024x2048_S1024x512_0_512, r⟩,
      ⟨Rect.unit (s := S1024x2048) ![0, 0] S1024x512.size inb_S1024x2048_S1024x512_0_0, t⟩,
      ⟨Rect.unit (s := S1024x2048) ![0, 0] S1024x2048.size inb_S1024x2048_S1024x2048_0_0, w⟩] : List (View.Piece (Elt F) S1024x2048 .f32)), y ∈ z.1.set := by
  obtain ⟨z, hz, hy⟩ := cover_o p q r t y
  exact ⟨z, List.mem_append_left [_] hz, hy⟩

/-- What the tile reads after the four groups are stored over an earlier fill: the four groups. -/
theorem canon_o5 (p q r t : S1024x512.Idx → Elt F .f32) (w : S1024x2048.Idx → Elt F .f32) :
    View.canon ([⟨Rect.unit (s := S1024x2048) ![0, 1536] S1024x512.size inb_S1024x2048_S1024x512_0_1536, p⟩,
      ⟨Rect.unit (s := S1024x2048) ![0, 1024] S1024x512.size inb_S1024x2048_S1024x512_0_1024, q⟩,
      ⟨Rect.unit (s := S1024x2048) ![0, 512] S1024x512.size inb_S1024x2048_S1024x512_0_512, r⟩,
      ⟨Rect.unit (s := S1024x2048) ![0, 0] S1024x512.size inb_S1024x2048_S1024x512_0_0, t⟩,
      ⟨Rect.unit (s := S1024x2048) ![0, 0] S1024x2048.size inb_S1024x2048_S1024x2048_0_0, w⟩] : List (View.Piece (Elt F) S1024x2048 .f32))
    = View.canon ([⟨Rect.unit (s := S1024x2048) ![0, 1536] S1024x512.size inb_S1024x2048_S1024x512_0_1536, p⟩,
      ⟨Rect.unit (s := S1024x2048) ![0, 1024] S1024x512.size inb_S1024x2048_S1024x512_0_1024, q⟩,
      ⟨Rect.unit (s := S1024x2048) ![0, 512] S1024x512.size inb_S1024x2048_S1024x512_0_512, r⟩,
      ⟨Rect.unit (s := S1024x2048) ![0, 0] S1024x512.size inb_S1024x2048_S1024x512_0_0, t⟩] : List (View.Piece (Elt F) S1024x2048 .f32)) := by
  funext y
  exact canon_append_left [⟨Rect.unit (s := S1024x2048) ![0, 0] S1024x2048.size inb_S1024x2048_S1024x2048_0_0, w⟩] y
    [⟨Rect.unit (s := S1024x2048) ![0, 1536] S1024x512.size inb_S1024x2048_S1024x512_0_1536, p⟩,
      ⟨Rect.unit (s := S1024x2048) ![0, 1024] S1024x512.size inb_S1024x2048_S1024x512_0_1024, q⟩,
      ⟨Rect.unit (s := S1024x2048) ![0, 512] S1024x512.size inb_S1024x2048_S1024x512_0_512, r⟩,
      ⟨Rect.unit (s := S1024x2048) ![0, 0] S1024x512.size inb_S1024x2048_S1024x512_0_0, t⟩] (cover_o p q r t y)

/-- A load of the second weight's block through a rectangle reads that block. -/
theorem wd_read (arg7 : Memref sig .tc .vmem S1x256x2048 .f32) (harg7 : arg7.IsWhole) (wd : Vec F S1x256x2048 .f32) (r : Rect S1x256x2048) :
    View.readAt (Elt F) arg7.view r.toLoadRect (harg7.unread wd) = View.ld wd r := by
  funext j
  have h := congrFun (harg7.read_unread wd) (r.toLoadRect.idx j)
  exact h

/-- A load of the tile through a rectangle reads the tile there. -/
theorem o_read (arg11 : Memref sig .tc .vmem S1024x2048 .f32) (harg11 : arg11.IsWhole) (o : Vec F S1024x2048 .f32) (r : Rect S1024x2048) :
    View.readAt (Elt F) arg11.view r.toLoadRect (harg11.unread o) = View.ld o r := by
  funext j
  have h := congrFun (harg11.read_unread o) (r.toLoadRect.idx j)
  exact h

/-- The four additions to the tile are one and the same. -/
theorem pay3_eq (a : FVec F S1024x256 .bf16) (o : Vec F S1024x512 .f32) (w : Vec F S1x256x512 .f32) : k0_pay3 a o w = k0_pay2 a o w := by
  unfold k0_pay3 k0_pay2; simp only [shapeCast_id]

/-- The four additions to the tile are one and the same. -/
theorem pay13_eq (a b : FVec F S1024x256 .f32) (x : F .f32) (d : FVec F S1024x256 .f32) (o : Vec F S1024x512 .f32) (w : Vec F S1x256x512 .f32) :
    k0_pay13 a b x d o w = k0_pay2 (k0_pay11 a b x d) o w := by
  unfold k0_pay13 k0_pay2; simp only [shapeCast_id]

/-- The four additions to the tile are one and the same. -/
theorem pay14_eq (a b : FVec F S1024x256 .f32) (x : F .f32) (d : FVec F S1024x256 .f32) (o : Vec F S1024x512 .f32) (w : Vec F S1x256x512 .f32) :
    k0_pay14 a b x d o w = k0_pay2 (k0_pay11 a b x d) o w := by
  unfold k0_pay14 k0_pay2; simp only [shapeCast_id]

/-- A cast of a block to its own shape changes nothing. -/
theorem pay15_eq (o : Vec F S1024x512 .f32) : k0_pay15 o = o := by
  unfold k0_pay15; simp only [shapeCast_id]

/-- The scratch read whole after both halves were stored. -/
theorem wcat_read (arg13 : Memref sig .tc .vmem S2048x512 .bf16) (wg wu : Vec F S1x2048x256 .f32) :
    arg13.view.readCov [⟨Rect.unit (s := S2048x512) ![0, 256] S2048x256.size inb_S2048x512_S2048x256_0_256, k0_pay6 wu⟩,
      ⟨Rect.unit (s := S2048x512) ![0, 0] S2048x256.size inb_S2048x512_S2048x256_0_0, k0_pay5 wg⟩]
      (Rect.unit ![0, 0] S2048x512.size inb_S2048x512_S2048x512_0_0).toLoadRect = wcat wg wu :=
  (View.readAt_full _ _ _).trans (View.read_writes_eq_canon _ _ _ (cover_w _ _))

/-- Columns 0 to 511 of the tile, read before they are stored over a fill, hold the fill. -/
theorem fill_read0 (arg11 : Memref sig .tc .vmem S1024x2048 .f32) (w : Vec F S1024x2048 .f32) :
    arg11.view.readCov ([⟨Rect.unit (s := S1024x2048) ![0, 0] S1024x2048.size inb_S1024x2048_S1024x2048_0_0, w⟩] : List (View.Piece (Elt F) S1024x2048 .f32)) (Rect.unit (s := S1024x2048) ![0, 0] S1024x512.size inb_S1024x2048_S1024x512_0_0).toLoadRect = View.ld w (Rect.unit (s := S1024x2048) ![0, 0] S1024x512.size inb_S1024x2048_S1024x512_0_0) := by
  exact View.readCov_fill _ _ _ _ _ (by decide)

/-- Columns 512 to 1023 of the tile, read before they are stored over a fill, hold the fill. -/
theorem fill_read1 (arg11 : Memref sig .tc .vmem S1024x2048 .f32) (p0 : S1024x512.Idx → Elt F .f32) (w : Vec F S1024x2048 .f32) :
    arg11.view.readCov ([⟨Rect.unit (s := S1024x2048) ![0, 0] S1024x512.size inb_S1024x2048_S1024x512_0_0, p0⟩, ⟨Rect.unit (s := S1024x2048) ![0, 0] S1024x2048.size inb_S1024x2048_S1024x2048_0_0, w⟩] : List (View.Piece (Elt F) S1024x2048 .f32)) (Rect.unit (s := S1024x2048) ![0, 512] S1024x512.size inb_S1024x2048_S1024x512_0_512).toLoadRect = View.ld w (Rect.unit (s := S1024x2048) ![0, 512] S1024x512.size inb_S1024x2048_S1024x512_0_512) := by
  rw [View.readCov_skip _ _ _ _ _ (by decide)]
  exact View.readCov_fill _ _ _ _ _ (by decide)

/-- Columns 1024 to 1535 of the tile, read before they are stored over a fill, hold the fill. -/
theorem fill_read2 (arg11 : Memref sig .tc .vmem S1024x2048 .f32) (p0 p1 : S1024x512.Idx → Elt F .f32) (w : Vec F S1024x2048 .f32) :
    arg11.view.readCov ([⟨Rect.unit (s := S1024x2048) ![0, 512] S1024x512.size inb_S1024x2048_S1024x512_0_512, p1⟩, ⟨Rect.unit (s := S1024x2048) ![0, 0] S1024x512.size inb_S1024x2048_S1024x512_0_0, p0⟩, ⟨Rect.unit (s := S1024x2048) ![0, 0] S1024x2048.size inb_S1024x2048_S1024x2048_0_0, w⟩] : List (View.Piece (Elt F) S1024x2048 .f32)) (Rect.unit (s := S1024x2048) ![0, 1024] S1024x512.size inb_S1024x2048_S1024x512_0_1024).toLoadRect = View.ld w (Rect.unit (s := S1024x2048) ![0, 1024] S1024x512.size inb_S1024x2048_S1024x512_0_1024) := by
  rw [View.readCov_skip _ _ _ _ _ (by decide)]
  rw [View.readCov_skip _ _ _ _ _ (by decide)]
  exact View.readCov_fill _ _ _ _ _ (by decide)

/-- Columns 1536 to 2047 of the tile, read before they are stored over a fill, hold the fill. -/
theorem fill_read3 (arg11 : Memref sig .tc .vmem S1024x2048 .f32) (p0 p1 p2 : S1024x512.Idx → Elt F .f32) (w : Vec F S1024x2048 .f32) :
    arg11.view.readCov ([⟨Rect.unit (s := S1024x2048) ![0, 1024] S1024x512.size inb_S1024x2048_S1024x512_0_1024, p2⟩, ⟨Rect.unit (s := S1024x2048) ![0, 512] S1024x512.size inb_S1024x2048_S1024x512_0_512, p1⟩, ⟨Rect.unit (s := S1024x2048) ![0, 0] S1024x512.size inb_S1024x2048_S1024x512_0_0, p0⟩, ⟨Rect.unit (s := S1024x2048) ![0, 0] S1024x2048.size inb_S1024x2048_S1024x2048_0_0, w⟩] : List (View.Piece (Elt F) S1024x2048 .f32)) (Rect.unit (s := S1024x2048) ![0, 1536] S1024x512.size inb_S1024x2048_S1024x512_0_1536).toLoadRect = View.ld w (Rect.unit (s := S1024x2048) ![0, 1536] S1024x512.size inb_S1024x2048_S1024x512_0_1536) := by
  rw [View.readCov_skip _ _ _ _ _ (by decide)]
  rw [View.readCov_skip _ _ _ _ _ (by decide)]
  rw [View.readCov_skip _ _ _ _ _ (by decide)]
  exact View.readCov_fill _ _ _ _ _ (by decide)

end Cert.ExpertsIdeal.Ex
end
-- ==== Proof.Experts.BodyFirst.lean ====
module
public import proofs.«01_k».proof.Proof.Gen.ExpertsIdeal.Launch
public import proofs.«01_k».proof.Proof.Gen.ExpertsIdeal.Skeleton
public import Idealize.ShloMosaic.Lib.VecWindow
public import Idealize.ShloMosaic.Lib.Pipeline.ValueKit
public import Idealize.ShloMosaic.Lib.Pipeline.ReadBack
public import proofs.«01_k».proof.Proof.Experts.Body
@[expose] public section
set_option maxRecDepth 16384
noncomputable section
namespace Cert.ExpertsIdeal.Ex
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.ExpertsIdeal.Gen
variable {F : FTy → Type} [FloatOps F]
local notation "𝕄" => MT nD τ sig Unit (Elt F) ℕ (UR sig nD τ) ℕ

set_option maxHeartbeats 4000000 in
/-- The body at the first point of a used tile: the rows are rounded into the scratch, and the tile starts from the expert's output bias. -/
theorem run_first (c : Dev nD) (i : grid0.Coords) (arg2 : Memref sig .tc .smem S96 .i32) (harg2 : arg2.IsWhole) (arg3 : Memref sig .tc .smem S1 .i32) (harg3 : arg3.IsWhole) (arg4 : Memref sig .tc .vmem S1024x2048 .f32) (harg4 : arg4.IsWhole)
    (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole)
    (arg8 : Memref sig .tc .vmem S1x1x256 .f32) (harg8 : arg8.IsWhole) (arg9 : Memref sig .tc .vmem S1x1x256 .f32) (harg9 : arg9.IsWhole) (arg10 : Memref sig .tc .vmem S1x1x2048 .f32) (harg10 : arg10.IsWhole)
    (arg11 : Memref sig .tc .vmem S1024x2048 .f32) (harg11 : arg11.IsWhole) (arg12 : Memref sig .tc .vmem S1024x2048 .bf16) (harg12 : arg12.IsWhole) (arg13 : Memref sig .tc .vmem S2048x512 .bf16) (harg13 : arg13.IsWhole)
    (q : PosShare TreeShare) (nv : Vec F S1 .i32)
    (hc1 : ¬k0_cond1 i (nv (ix1 0)) = 1#1) (hc2 : k0_cond2 i (nv (ix1 0)) = 1#1) (hc4 : k0_cond4 i = 1#1)
    (x : Vec F S1024x2048 .f32) (wg : Vec F S1x2048x256 .f32) (wu : Vec F S1x2048x256 .f32) (wd : Vec F S1x256x2048 .f32)
    (bg : Vec F S1x1x256 .f32) (bu : Vec F S1x1x256 .f32) (bd : Vec F S1x1x2048 .f32)
    (E : Set ℕ) (K : PUnit → sProp 𝕄) :
    iprop(owns (c : Thread nD τ) arg3 q nv ∗ owns (c : Thread nD τ) arg4 fullShare x ∗ owns (c : Thread nD τ) arg5 fullShare wg ∗ owns (c : Thread nD τ) arg6 fullShare wu ∗ owns (c : Thread nD τ) arg7 fullShare wd ∗ owns (c : Thread nD τ) arg8 fullShare bg ∗ owns (c : Thread nD τ) arg9 fullShare bu ∗ owns (c : Thread nD τ) arg10 fullShare bd
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg3 q nv ∗ owns (c : Thread nD τ) arg4 fullShare x ∗ owns (c : Thread nD τ) arg5 fullShare wg ∗ owns (c : Thread nD τ) arg6 fullShare wu ∗ owns (c : Thread nD τ) arg7 fullShare wd ∗ owns (c : Thread nD τ) arg8 fullShare bg ∗ owns (c : Thread nD τ) arg9 fullShare bu ∗ owns (c : Thread nD τ) arg10 fullShare bd ∗ owns (c : Thread nD τ) arg11 fullShare (oacc (k0_pay12 bd) (act (k0_pay4 x) (wcat wg wu) bg bu) wd)
          ∗ owns (c : Thread nD τ) arg12 fullShare (k0_pay4 x) ∗ owns (c : Thread nD τ) arg13 fullShare (wcat wg wu)) -∗ K ⟨⟩))
      ⊢ wp frame (wpE (defs₀ (F := F)) Variants.none c none) E
          (cc0_experts i arg2 harg2 arg3 harg3 arg4 harg4 arg5 harg5 arg6 harg6 arg7 harg7 arg8 harg8 arg9 harg9 arg10 harg10 arg11 harg11 arg12 harg12 arg13 harg13) K := by
  sl_unfold [cc0_experts]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  have e4 : View.readAt (Elt F) arg4.view (Rect.unit ![0, 0] S1024x2048.size inb_S1024x2048_S1024x2048_0_0).toLoadRect (harg4.unread x) = x := (View.readAt_full _ _ _).trans hf4
  have e5 : View.readAt (Elt F) arg5.view (Rect.unit ![0, 0, 0] S1x2048x256.size inb_S1x2048x256_S1x2048x256_0_0_0).toLoadRect (harg5.unread wg) = wg := (View.readAt_full _ _ _).trans hf5
  have e6 : View.readAt (Elt F) arg6.view (Rect.unit ![0, 0, 0] S1x2048x256.size inb_S1x2048x256_S1x2048x256_0_0_0).toLoadRect (harg6.unread wu) = wu := (View.readAt_full _ _ _).trans hf6
  have e8 : View.readAt (Elt F) arg8.view (Rect.unit ![0, 0, 0] S1x1x256.size inb_S1x1x256_S1x1x256_0_0_0).toLoadRect (harg8.unread bg) = bg := (View.readAt_full _ _ _).trans hf8
  have e9 : View.readAt (Elt F) arg9.view (Rect.unit ![0, 0, 0] S1x1x256.size inb_S1x1x256_S1x1x256_0_0_0).toLoadRect (harg9.unread bu) = bu := (View.readAt_full _ _ _).trans hf9
  have e10 : View.readAt (Elt F) arg10.view (Rect.unit ![0, 0, 0] S1x1x2048.size inb_S1x1x2048_S1x1x2048_0_0_0).toLoadRect (harg10.unread bd) = bd := (View.readAt_full _ _ _).trans hf10
  have e3 : (arg3.access (Rect.unit ![0] S1.size inb_S1_S1_0)).read (Elt F) (harg3.unread nv) (Shape.Idx.first (numel1_S1.symm ▸ Nat.one_pos)) = nv (ix1 0) := by
    rw [word_read arg3 harg3 nv]
  rw [← e3] at hc1 hc2
  sl_exec (disch := first | sl_exact hc1 | sl_exact hc2 | sl_exact hc4)
  sl_step
  iapply Hk
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H10]
  · iexists _; isplitr
    · ipureintro; exact harg10.read_unread _
    iexact H10
  isplitl [H11]
  · iexists _; isplitr
    swap; · iexact H11
    ipureintro
    sl_unfold_run_names
    rw [View.readCov_full, wcat_read]
    rw [fill_read0, fill_read1, fill_read2, fill_read3]
    rw [wd_read, wd_read, wd_read, wd_read]
    rw [pay3_eq, pay13_eq, pay14_eq, pay15_eq]
    rw [View.read_writes_eq_canon _ _ _ (cover_o5 _ _ _ _ _), canon_o5]
    unfold oacc act
    rfl
  isplitl [H12]
  · iexists _; isplitr
    swap; · iexact H12
    ipureintro
    sl_unfold_run_names
    rw [View.read_writes_full]
  iexists _; isplitr
  swap; · iexact H13
  ipureintro
  sl_unfold_run_names
  exact View.read_writes_eq_canon _ _ _ (cover_w _ _)

end Cert.ExpertsIdeal.Ex
end
-- ==== Proof.Experts.BodyRest.lean ====
module
public import proofs.«01_k».proof.Proof.Gen.ExpertsIdeal.Launch
public import proofs.«01_k».proof.Proof.Gen.ExpertsIdeal.Skeleton
public import Idealize.ShloMosaic.Lib.VecWindow
public import Idealize.ShloMosaic.Lib.Pipeline.ValueKit
public import Idealize.ShloMosaic.Lib.Pipeline.ReadBack
public import proofs.«01_k».proof.Proof.Experts.Body
@[expose] public section
set_option maxRecDepth 16384
noncomputable section
namespace Cert.ExpertsIdeal.Ex
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.ExpertsIdeal.Gen
variable {F : FTy → Type} [FloatOps F]
local notation "𝕄" => MT nD τ sig Unit (Elt F) ℕ (UR sig nD τ) ℕ

set_option maxHeartbeats 4000000 in
/-- The body at a later point of a used tile: the scratch still holds the rounded rows, and the tile gains one share of the second product. -/
theorem run_rest (c : Dev nD) (i : grid0.Coords) (arg2 : Memref sig .tc .smem S96 .i32) (harg2 : arg2.IsWhole) (arg3 : Memref sig .tc .smem S1 .i32) (harg3 : arg3.IsWhole) (arg4 : Memref sig .tc .vmem S1024x2048 .f32) (harg4 : arg4.IsWhole)
    (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole)
    (arg8 : Memref sig .tc .vmem S1x1x256 .f32) (harg8 : arg8.IsWhole) (arg9 : Memref sig .tc .vmem S1x1x256 .f32) (harg9 : arg9.IsWhole) (arg10 : Memref sig .tc .vmem S1x1x2048 .f32) (harg10 : arg10.IsWhole)
    (arg11 : Memref sig .tc .vmem S1024x2048 .f32) (harg11 : arg11.IsWhole) (arg12 : Memref sig .tc .vmem S1024x2048 .bf16) (harg12 : arg12.IsWhole) (arg13 : Memref sig .tc .vmem S2048x512 .bf16) (harg13 : arg13.IsWhole)
    (q : PosShare TreeShare) (nv : Vec F S1 .i32)
    (hc1 : ¬k0_cond1 i (nv (ix1 0)) = 1#1) (hc2 : k0_cond2 i (nv (ix1 0)) = 1#1) (hc4 : ¬k0_cond4 i = 1#1)
    (wg : Vec F S1x2048x256 .f32) (wu : Vec F S1x2048x256 .f32) (wd : Vec F S1x256x2048 .f32)
    (bg : Vec F S1x1x256 .f32) (bu : Vec F S1x1x256 .f32) (o : Vec F S1024x2048 .f32) (xb : Vec F S1024x2048 .bf16)
    (E : Set ℕ) (K : PUnit → sProp 𝕄) :
    iprop(owns (c : Thread nD τ) arg3 q nv ∗ owns (c : Thread nD τ) arg5 fullShare wg ∗ owns (c : Thread nD τ) arg6 fullShare wu ∗ owns (c : Thread nD τ) arg7 fullShare wd ∗ owns (c : Thread nD τ) arg8 fullShare bg ∗ owns (c : Thread nD τ) arg9 fullShare bu
        ∗ owns (c : Thread nD τ) arg11 fullShare o ∗ owns (c : Thread nD τ) arg12 fullShare xb ∗ (∃ d, owns (c : Thread nD τ) arg13 fullShare d)
        ∗ (iprop(owns (c : Thread nD τ) arg3 q nv ∗ owns (c : Thread nD τ) arg5 fullShare wg ∗ owns (c : Thread nD τ) arg6 fullShare wu ∗ owns (c : Thread nD τ) arg7 fullShare wd ∗ owns (c : Thread nD τ) arg8 fullShare bg ∗ owns (c : Thread nD τ) arg9 fullShare bu ∗ owns (c : Thread nD τ) arg11 fullShare (oacc o (act xb (wcat wg wu) bg bu) wd)
          ∗ owns (c : Thread nD τ) arg12 fullShare xb ∗ owns (c : Thread nD τ) arg13 fullShare (wcat wg wu)) -∗ K ⟨⟩))
      ⊢ wp frame (wpE (defs₀ (F := F)) Variants.none c none) E
          (cc0_experts i arg2 harg2 arg3 harg3 arg4 harg4 arg5 harg5 arg6 harg6 arg7 harg7 arg8 harg8 arg9 harg9 arg10 harg10 arg11 harg11 arg12 harg12 arg13 harg13) K := by
  sl_unfold [cc0_experts]
  unfold owns
  iintro ⟨⟨%f3, %hf3, H3⟩, ⟨%f5, %hf5, H5⟩, ⟨%f6, %hf6, H6⟩, ⟨%f7, %hf7, H7⟩, ⟨%f8, %hf8, H8⟩, ⟨%f9, %hf9, H9⟩, ⟨%f11, %hf11, H11⟩, ⟨%f12, %hf12, H12⟩, ⟨%d13, %f13, -, H13⟩, Hk⟩
  obtain rfl := harg3.eq_unread hf3
  obtain rfl := harg5.eq_unread hf5
  obtain rfl := harg6.eq_unread hf6
  obtain rfl := harg7.eq_unread hf7
  obtain rfl := harg8.eq_unread hf8
  obtain rfl := harg9.eq_unread hf9
  obtain rfl := harg11.eq_unread hf11
  obtain rfl := harg12.eq_unread hf12
  have e5 : View.readAt (Elt F) arg5.view (Rect.unit ![0, 0, 0] S1x2048x256.size inb_S1x2048x256_S1x2048x256_0_0_0).toLoadRect (harg5.unread wg) = wg := (View.readAt_full _ _ _).trans hf5
  have e6 : View.readAt (Elt F) arg6.view (Rect.unit ![0, 0, 0] S1x2048x256.size inb_S1x2048x256_S1x2048x256_0_0_0).toLoadRect (harg6.unread wu) = wu := (View.readAt_full _ _ _).trans hf6
  have e8 : View.readAt (Elt F) arg8.view (Rect.unit ![0, 0, 0] S1x1x256.size inb_S1x1x256_S1x1x256_0_0_0).toLoadRect (harg8.unread bg) = bg := (View.readAt_full _ _ _).trans hf8
  have e9 : View.readAt (Elt F) arg9.view (Rect.unit ![0, 0, 0] S1x1x256.size inb_S1x1x256_S1x1x256_0_0_0).toLoadRect (harg9.unread bu) = bu := (View.readAt_full _ _ _).trans hf9
  have e12 : View.readAt (Elt F) arg12.view (Rect.unit ![0, 0] S1024x2048.size inb_S1024x2048_S1024x2048_0_0).toLoadRect (harg12.unread xb) = xb := (View.readAt_full _ _ _).trans hf12
  have e3 : (arg3.access (Rect.unit ![0] S1.size inb_S1_S1_0)).read (Elt F) (harg3.unread nv) (Shape.Idx.first (numel1_S1.symm ▸ Nat.one_pos)) = nv (ix1 0) := by
    rw [word_read arg3 harg3 nv]
  rw [← e3] at hc1 hc2
  sl_exec (disch := first | sl_exact hc1 | sl_exact hc2 | sl_exact hc4)
  sl_step
  iapply Hk
  isplitl [H3]
  · iexists _; isplitr
    · ipureintro; exact harg3.read_unread _
    iexact H3
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H11]
  · iexists _; isplitr
    swap; · iexact H11
    ipureintro
    sl_unfold_run_names
    rw [wcat_read]
    rw [o_read, o_read, o_read, o_read]
    rw [wd_read, wd_read, wd_read, wd_read]
    rw [pay3_eq, pay13_eq, pay14_eq, pay15_eq]
    rw [View.read_writes_eq_canon _ _ _ (cover_o _ _ _ _)]
    unfold oacc act
    rfl
  isplitl [H12]
  · iexists _; isplitr
    swap; · iexact H12
    ipureintro
    exact harg12.read_unread _
  iexists _; isplitr
  swap; · iexact H13
  ipureintro
  sl_unfold_run_names
  exact View.read_writes_eq_canon _ _ _ (cover_w _ _)

end Cert.ExpertsIdeal.Ex
end
-- ==== Proof.Experts.Tab.lean ====
module
public import proofs.«01_k».proof.Proof.Gen.ExpertsIdeal.Launch
public import Idealize.ShloMosaic.Lib.Pipeline.Frame
@[expose] public section
set_option maxRecDepth 16384
noncomputable section
namespace Cert.ExpertsIdeal.Ex
open Idealize.ShloMosaic Idealize.ShloMosaic.TcCoe
open Cert.ExpertsIdeal.Gen
variable {F : FTy → Type} [FloatOps F]
variable (m : (ℓ : Loc nD τ sig) → Buf (Elt F) ℓ)

/-- What a buffer holds when the kernel is called: the host operations before it have run. -/
abbrev V (c : Dev nD) (b : Ref sig .tc) : Buf (Elt F) ((c : Thread nD τ).loc b) :=
  StableHlo.after hostOps0 (fun b => m (c, b)) b

/-- The two tables the kernel is called with: each tile's expert, and the number of used tiles. -/
def tbl : pre0.Contents (Elt F) := fun
  | 0 => V m 0 main_v22
  | 1 => V m 0 main_arg1
  | ⟨_ + 2, h⟩ => absurd h (Nat.not_lt.2 (Nat.le_add_left _ _))

/-- Each entry of the first table names one of the 32 experts. -/
def TeOk : Prop := ∀ x : S96.Idx, ((V m 0 main_v22 : Vec F S96 .i32) x : BitVec 32).toNat < 32

theorem at0_lt (h : TeOk m) (r : Rect S96) (h1 : r.shape.numel = 1) : ((tbl m).at 0 r h1 : BitVec 32).toNat < 32 := h _

theorem fb_lt (b : BitVec 1) (n : ℕ) (h : n < 8) : (Scalar.select b (BitVec.ofNat 32 n) 7#32).toNat < 8 := by
  unfold Scalar.select
  split
  · rw [BitVec.toNat_ofNat]; omega
  · decide

theorem fb8_lt (b : BitVec 1) (n : ℕ) (h : n < 8) : (Scalar.addi 8#32 (Scalar.select b (BitVec.ofNat 32 n) 7#32)).toNat < 16 := by
  have := fb_lt b n h
  show (8#32 + _ : BitVec 32).toNat < 16
  rw [BitVec.toNat_add, show (8#32).toNat = 8 from rfl]
  omega

theorem row_lt (nu : BitVec 32) (n : ℕ) (h : n < 96) :
    (Scalar.maxsi (Scalar.minsi (BitVec.ofNat 32 n) (Scalar.subi nu 1#32)) 0#32).toNat < 96 := by
  have hn : (BitVec.ofNat 32 n).toInt = n := by
    rw [BitVec.toInt_eq_toNat_cond, BitVec.toNat_ofNat]; omega
  generalize Scalar.subi nu 1#32 = y
  have hmin : (Scalar.minsi (BitVec.ofNat 32 n) y).toInt ≤ n := by
    unfold Scalar.minsi IntOp.minsi
    split
    · omega
    · rename_i hh; simp only [BitVec.slt, decide_eq_true_eq, hn] at hh; omega
  generalize Scalar.minsi (BitVec.ofNat 32 n) y = z at hmin
  unfold Scalar.maxsi IntOp.maxsi
  split
  · rename_i hh
    simp only [BitVec.slt, decide_eq_true_eq] at hh
    rw [BitVec.toInt_eq_toNat_cond] at hmin
    rw [BitVec.toInt_eq_toNat_cond, BitVec.toInt_eq_toNat_cond] at hh
    have := z.isLt
    rw [show (0#32).toNat = 0 from rfl] at hh
    split at hmin <;> split at hh <;> simp_all <;> omega
  · exact (by decide : (0#32).toNat < 96)

/-- The number of used tiles, as the index maps read it. -/
def nuOf (pf : pre0.Contents (Elt F)) : BitVec 32 := pf.at 1 (Rect.unit (s := S1) ![0] S1.size inb_S1_S1_0) numel1_S1
/-- The expert of a point's tile, as the index maps read it. -/
def teOf (pf : pre0.Contents (Elt F)) (i : grid0.Coords) : BitVec 32 :=
  pf.at 0 (Rect.unit (s := S96) ![(Scalar.indexCast (BitVec.ofNat 32 (i 0).val)).toNat] S1.size (k0_off1_inb i)) numel1_S1
/-- The block of rows a point works on. -/
def rowOf (pf : pre0.Contents (Elt F)) (i : grid0.Coords) : BitVec 32 :=
  Scalar.maxsi (Scalar.minsi (BitVec.ofNat 32 (i 0).val) (Scalar.subi (nuOf pf) 1#32)) 0#32
/-- The block of hidden columns a point works on. -/
def fbOf (pf : pre0.Contents (Elt F)) (i : grid0.Coords) : BitVec 32 :=
  Scalar.select (Scalar.cmpi .slt (BitVec.ofNat 32 (i 0).val) (nuOf pf)) (BitVec.ofNat 32 (i 1).val) 7#32

theorem t0_eq (pf : pre0.Contents (Elt F)) (i : grid0.Coords) : cc0_transform_0 inb_S1_S1_0 numel1_S1 pf i = ![(rowOf pf i).toNat, 0] := rfl
theorem t1_eq (pf : pre0.Contents (Elt F)) (i : grid0.Coords) : cc0_transform_1 k0_off1_inb numel1_S1 inb_S1_S1_0 pf i = ![(teOf pf i).toNat, 0, (fbOf pf i).toNat] := rfl
theorem t2_eq (pf : pre0.Contents (Elt F)) (i : grid0.Coords) : cc0_transform_2 k0_off1_inb numel1_S1 inb_S1_S1_0 pf i = ![(teOf pf i).toNat, 0, (Scalar.addi 8#32 (fbOf pf i)).toNat] := rfl
theorem t3_eq (pf : pre0.Contents (Elt F)) (i : grid0.Coords) : cc0_transform_3 k0_off1_inb numel1_S1 inb_S1_S1_0 pf i = ![(teOf pf i).toNat, (fbOf pf i).toNat, 0] := rfl
theorem t4_eq (pf : pre0.Contents (Elt F)) (i : grid0.Coords) : cc0_transform_4 k0_off1_inb numel1_S1 inb_S1_S1_0 pf i = ![(teOf pf i).toNat, 0, (fbOf pf i).toNat] := rfl
theorem t5_eq (pf : pre0.Contents (Elt F)) (i : grid0.Coords) : cc0_transform_5 k0_off1_inb numel1_S1 inb_S1_S1_0 pf i = ![(teOf pf i).toNat, 0, (Scalar.addi 8#32 (fbOf pf i)).toNat] := rfl
theorem t6_eq (pf : pre0.Contents (Elt F)) (i : grid0.Coords) : cc0_transform_6 k0_off1_inb numel1_S1 pf i = ![(teOf pf i).toNat, 0, 0] := rfl
theorem b0 (x : ℕ) (hx : x < 96) : ∀ a, ((![x, 0] : Fin 2 → ℕ) a + 1) * S1024x2048.size a ≤ S98304x2048.size a := by
  have s0 : S1024x2048.size = ![1024, 2048] := rfl
  have s1 : S98304x2048.size = ![98304, 2048] := rfl
  rw [s0, s1]; intro a; fin_cases a <;> simp <;> omega
theorem b1 (x : ℕ) (hx : x < 32) (y : ℕ) (hy : y < 16) : ∀ a, ((![x, 0, y] : Fin 3 → ℕ) a + 1) * S1x2048x256.size a ≤ S32x2048x4096.size a := by
  have s0 : S1x2048x256.size = ![1, 2048, 256] := rfl
  have s1 : S32x2048x4096.size = ![32, 2048, 4096] := rfl
  rw [s0, s1]; intro a; fin_cases a <;> simp <;> omega
theorem b2 (x : ℕ) (hx : x < 32) (y : ℕ) (hy : y < 16) : ∀ a, ((![x, 0, y] : Fin 3 → ℕ) a + 1) * S1x2048x256.size a ≤ S32x2048x4096.size a := by
  have s0 : S1x2048x256.size = ![1, 2048, 256] := rfl
  have s1 : S32x2048x4096.size = ![32, 2048, 4096] := rfl
  rw [s0, s1]; intro a; fin_cases a <;> simp <;> omega
theorem b3 (x : ℕ) (hx : x < 32) (y : ℕ) (hy : y < 8) : ∀ a, ((![x, y, 0] : Fin 3 → ℕ) a + 1) * S1x256x2048.size a ≤ S32x2048x2048.size a := by
  have s0 : S1x256x2048.size = ![1, 256, 2048] := rfl
  have s1 : S32x2048x2048.size = ![32, 2048, 2048] := rfl
  rw [s0, s1]; intro a; fin_cases a <;> simp <;> omega
theorem b4 (x : ℕ) (hx : x < 32) (y : ℕ) (hy : y < 16) : ∀ a, ((![x, 0, y] : Fin 3 → ℕ) a + 1) * S1x1x256.size a ≤ S32x1x4096.size a := by
  have s0 : S1x1x256.size = ![1, 1, 256] := rfl
  have s1 : S32x1x4096.size = ![32, 1, 4096] := rfl
  rw [s0, s1]; intro a; fin_cases a <;> simp <;> omega
theorem b5 (x : ℕ) (hx : x < 32) (y : ℕ) (hy : y < 16) : ∀ a, ((![x, 0, y] : Fin 3 → ℕ) a + 1) * S1x1x256.size a ≤ S32x1x4096.size a := by
  have s0 : S1x1x256.size = ![1, 1, 256] := rfl
  have s1 : S32x1x4096.size = ![32, 1, 4096] := rfl
  rw [s0, s1]; intro a; fin_cases a <;> simp <;> omega
theorem b6 (x : ℕ) (hx : x < 32) : ∀ a, ((![x, 0, 0] : Fin 3 → ℕ) a + 1) * S1x1x2048.size a ≤ S32x1x2048.size a := by
  have s0 : S1x1x2048.size = ![1, 1, 2048] := rfl
  have s1 : S32x1x2048.size = ![32, 1, 2048] := rfl
  rw [s0, s1]; intro a; fin_cases a <;> simp <;> omega

/-- With every tile's expert one of the 32, every block the kernel names lies inside its array. -/
theorem ok_of (h : TeOk m) : ok0 (tbl m) := by
  have l0 (i : grid0.Coords) : (i 0).val < 96 := (i 0).isLt
  have l1 (i : grid0.Coords) : (i 1).val < 8 := (i 1).isLt
  have he (i : grid0.Coords) : (teOf (tbl m) i).toNat < 32 := at0_lt m h _ numel1_S1
  have hf (i : grid0.Coords) : (fbOf (tbl m) i).toNat < 8 := fb_lt _ _ (l1 i)
  have hf' (i : grid0.Coords) : (fbOf (tbl m) i).toNat < 16 := lt_trans (hf i) (by omega)
  have hg (i : grid0.Coords) : (Scalar.addi 8#32 (fbOf (tbl m) i)).toNat < 16 := fb8_lt _ _ (l1 i)
  have hr (i : grid0.Coords) : (rowOf (tbl m) i).toNat < 96 := row_lt _ _ (l0 i)
  refine ⟨fun i => ⟨?_, .inl rfl⟩, fun i => ⟨?_, .inl rfl⟩, fun i => ⟨?_, .inl rfl⟩, fun i => ⟨?_, .inl rfl⟩,
    fun i => ⟨?_, .inl rfl⟩, fun i => ⟨?_, .inl rfl⟩, fun i => ⟨?_, .inl rfl⟩⟩
  · rw [t0_eq]; exact b0 _ (hr i)
  · rw [t1_eq]; exact b1 _ (he i) _ (hf' i)
  · rw [t2_eq]; exact b2 _ (he i) _ (hg i)
  · rw [t3_eq]; exact b3 _ (he i) _ (hf i)
  · rw [t4_eq]; exact b4 _ (he i) _ (hf' i)
  · rw [t5_eq]; exact b5 _ (he i) _ (hg i)
  · rw [t6_eq]; exact b6 _ (he i)

end Cert.ExpertsIdeal.Ex
end
-- ==== Proof.Experts.Run.lean ====
module
public import proofs.«01_k».proof.Proof.Experts.BodyFirst
public import proofs.«01_k».proof.Proof.Experts.BodyRest
public import proofs.«01_k».proof.Proof.Experts.Tab
public import Idealize.ShloMosaic.Lib.Pipeline.TableIdle
@[expose] public section
set_option maxRecDepth 16384
noncomputable section
namespace Cert.ExpertsIdeal.Ex
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen
variable {F : FTy → Type} [FloatOps F]
local notation "𝕄" => MT nD τ sig Unit (Elt F) ℕ (UR sig nD τ) ℕ
variable (m : (ℓ : Loc nD τ sig) → Buf (Elt F) ℓ) (ρ : Dev nD → PrngReg) (ha : TeOk m)

/-- The tables' contents, with what the region checks of them. -/
def adm : (pcfg0 (F := F)).Adm := ⟨tbl m, ok_of m ha⟩
/-- The kernel's grid and windows at these tables. -/
abbrev cfgA : Cfg sig Λ₀ := cfg0 (adm m ha)
abbrev pcs : Fin 1 → Cfg sig Λ₀ := Pipeline.pin pcfgs fun _ => adm m ha

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A window's block of its array at a point. -/
def iblk (c : Dev nD) (w : Fin (cfgA m ha).W) (t : Fin (cfgA m ha).N) : (((cfgA m ha).win w).xblock ((cfgA m ha).grid.coords t)).Idx → Elt F ((cfgA m ha).win w).elt :=
  (((cfgA m ha).win w).blk t).view.read (Elt F) (V m c (Pipeline.arrRef spec0 w))

/-- Each window's current staging memref at a point. -/
abbrev ms0 (t : Fin (cfgA m ha).N) : Memref sig .tc .vmem S1024x2048 .f32 := spec0_0.stage ((cfgA m ha).slots t 0)
abbrev ms1 (t : Fin (cfgA m ha).N) : Memref sig .tc .vmem S1x2048x256 .f32 := spec0_1.stage ((cfgA m ha).slots t 1)
abbrev ms2 (t : Fin (cfgA m ha).N) : Memref sig .tc .vmem S1x2048x256 .f32 := spec0_2.stage ((cfgA m ha).slots t 2)
abbrev ms3 (t : Fin (cfgA m ha).N) : Memref sig .tc .vmem S1x256x2048 .f32 := spec0_3.stage ((cfgA m ha).slots t 3)
abbrev ms4 (t : Fin (cfgA m ha).N) : Memref sig .tc .vmem S1x1x256 .f32 := spec0_4.stage ((cfgA m ha).slots t 4)
abbrev ms5 (t : Fin (cfgA m ha).N) : Memref sig .tc .vmem S1x1x256 .f32 := spec0_5.stage ((cfgA m ha).slots t 5)
abbrev ms6 (t : Fin (cfgA m ha).N) : Memref sig .tc .vmem S1x1x2048 .f32 := spec0_6.stage ((cfgA m ha).slots t 6)
abbrev ms7 (t : Fin (cfgA m ha).N) : Memref sig .tc .vmem S1024x2048 .f32 := spec0_7.stage ((cfgA m ha).slots t 7)
/-- The two scratches the kernel carries between points. -/
abbrev scX : Memref sig .tc .vmem S1024x2048 .bf16 := Memref.whole cc0_scratch0
abbrev scW : Memref sig .tc .vmem S2048x512 .bf16 := Memref.whole cc0_scratch1
/-- The number of used tiles. -/
abbrev nu : Vec F S1 .i32 := (V m 0 main_arg1 : Vec F S1 .i32)

/-- Whether a point's tile is used. -/
def used (t : Fin (cfgA m ha).N) : Prop := k0_cond2 (grid0.coords t) (nu m (ix1 0)) = 1#1

/-- Blocks the body reads, at their shapes. -/
abbrev bx (c : Dev nD) (t : Fin (cfgA m ha).N) : Vec F S1024x2048 .f32 := iblk m ha c 0 t
abbrev bwg (c : Dev nD) (t : Fin (cfgA m ha).N) : Vec F S1x2048x256 .f32 := iblk m ha c 1 t
abbrev bwu (c : Dev nD) (t : Fin (cfgA m ha).N) : Vec F S1x2048x256 .f32 := iblk m ha c 2 t
abbrev bwd (c : Dev nD) (t : Fin (cfgA m ha).N) : Vec F S1x256x2048 .f32 := iblk m ha c 3 t
abbrev bbg (c : Dev nD) (t : Fin (cfgA m ha).N) : Vec F S1x1x256 .f32 := iblk m ha c 4 t
abbrev bbu (c : Dev nD) (t : Fin (cfgA m ha).N) : Vec F S1x1x256 .f32 := iblk m ha c 5 t
abbrev bbd (c : Dev nD) (t : Fin (cfgA m ha).N) : Vec F S1x1x2048 .f32 := iblk m ha c 6 t

/-- The rounded rows of a point's block. -/
def xbAt (c : Dev nD) (t : Fin (cfgA m ha).N) : FVec F S1024x2048 .bf16 := k0_pay4 (bx m ha c t)
/-- The activations at a point. -/
def actAt (c : Dev nD) (t : Fin (cfgA m ha).N) : FVec F S1024x256 .bf16 :=
  act (xbAt m ha c t) (wcat (bwg m ha c t) (bwu m ha c t)) (bbg m ha c t) (bbu m ha c t)
/-- What the tile holds after a point of a used tile. -/
def accN (c : Dev nD) : (n : ℕ) → n < (cfgA m ha).N → Vec F S1024x2048 .f32
  | 0, h => oacc (k0_pay12 (bbd m ha c ⟨0, h⟩)) (actAt m ha c ⟨0, h⟩) (bwd m ha c ⟨0, h⟩)
  | n + 1, h => oacc (if (n + 1) % 8 = 0 then k0_pay12 (bbd m ha c ⟨n + 1, h⟩) else accN c n (Nat.lt_of_succ_lt h))
      (actAt m ha c ⟨n + 1, h⟩) (bwd m ha c ⟨n + 1, h⟩)

theorem accN_first (c : Dev nD) (t : Fin (cfgA m ha).N) (h : t.val % 8 = 0) :
    accN m ha c t.val t.isLt = oacc (k0_pay12 (bbd m ha c t)) (actAt m ha c t) (bwd m ha c t) := by
  obtain ⟨n, hn⟩ := t
  cases n with
  | zero => rfl
  | succ n => unfold accN; rw [if_pos h]

theorem accN_rest (c : Dev nD) (t : Fin (cfgA m ha).N) (h : ¬t.val % 8 = 0) :
    accN m ha c t.val t.isLt = oacc (accN m ha c (t.val - 1) (by omega)) (actAt m ha c t) (bwd m ha c t) := by
  obtain ⟨n, hn⟩ := t
  cases n with
  | zero => exact absurd rfl h
  | succ n => conv_lhs => unfold accN
              rw [if_neg h]; rfl

/-- Where a point lies on the grid. -/
theorem coord0 : ∀ t : Fin grid0.N, (grid0.coords t 0).val = t.val / 8 := by decide +kernel
theorem coord1 : ∀ t : Fin grid0.N, (grid0.coords t 1).val = t.val % 8 := by decide +kernel

theorem cond4_iff (t : Fin (cfgA m ha).N) : k0_cond4 (grid0.coords t) = 1#1 ↔ t.val % 8 = 0 := by
  revert t
  exact (by decide +kernel : ∀ t : Fin grid0.N, k0_cond4 (grid0.coords t) = 1#1 ↔ t.val % 8 = 0)

open Classical in
/-- The output block after a point: the running tile where it is used, zeros where it is not. -/
def outAt (c : Dev nD) (t : Fin (cfgA m ha).N) : Vec F S1024x2048 .f32 :=
  if used m ha t then accN m ha c t.val t.isLt else k0_pay1

/-- The tables as the body holds them. -/
abbrev tabs (c : Dev nD) : sProp 𝕄 := Pipeline.ΦT pre0 (adm m ha).1 c

/-- The invariant: after a point of a used tile the first scratch holds its rounded rows. -/
def PhiS (c : Dev nD) (n : ℕ) (hn : n ≤ (cfgA m ha).N) : sProp 𝕄 :=
  iprop((∃ d, ⌜∀ h : n ≠ 0, used m ha ⟨n - 1, by omega⟩ → d = xbAt m ha c ⟨n - 1, by omega⟩⌝ ∗ owns (c : Thread nD τ) scX fullShare d)
    ∗ (∃ d, owns (c : Thread nD τ) scW fullShare d) ∗ (∃ r, prngReg c r) ∗ tabs m ha c)

/-- What each window's buffer holds after the body: an input its block, the output `outAt`. -/
def dats (_ : Fin 1) (c : Dev nD) : Dat τ (Elt F) Unit ℕ (UR sig nD τ) ℕ (cfgA m ha) c where
  A w := V m c (Pipeline.arrRef spec0 w)
  after w t := match w with
    | ⟨0, _⟩ => iblk m ha c 0 t
    | ⟨1, _⟩ => iblk m ha c 1 t
    | ⟨2, _⟩ => iblk m ha c 2 t
    | ⟨3, _⟩ => iblk m ha c 3 t
    | ⟨4, _⟩ => iblk m ha c 4 t
    | ⟨5, _⟩ => iblk m ha c 5 t
    | ⟨6, _⟩ => iblk m ha c 6 t
    | ⟨7, _⟩ => outAt m ha c t
  Φ t := PhiS m ha c t.val (Nat.le_of_lt_succ t.isLt)
  q _ := fullShare
  owed _ := 0

theorem A_eq (c : Dev nD) (w : Fin (cfgA m ha).W) : (dats m ha 0 c).A w = V m c (Pipeline.arrRef spec0 w) := by dsimp only [dats]
theorem after_0 (c : Dev nD) (t : Fin (cfgA m ha).N) : (dats m ha 0 c).after 0 t = iblk m ha c 0 t := by dsimp only [dats]; rfl
theorem before_0 (c : Dev nD) (t : Fin (cfgA m ha).N) (d) : (dats m ha 0 c).before 0 t d = iblk m ha c 0 t :=
  ((dats m ha 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (c : Dev nD) (t : Fin (cfgA m ha).N) : (dats m ha 0 c).after 1 t = iblk m ha c 1 t := by dsimp only [dats]; rfl
theorem before_1 (c : Dev nD) (t : Fin (cfgA m ha).N) (d) : (dats m ha 0 c).before 1 t d = iblk m ha c 1 t :=
  ((dats m ha 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (c : Dev nD) (t : Fin (cfgA m ha).N) : (dats m ha 0 c).after 2 t = iblk m ha c 2 t := by dsimp only [dats]; rfl
theorem before_2 (c : Dev nD) (t : Fin (cfgA m ha).N) (d) : (dats m ha 0 c).before 2 t d = iblk m ha c 2 t :=
  ((dats m ha 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (c : Dev nD) (t : Fin (cfgA m ha).N) : (dats m ha 0 c).after 3 t = iblk m ha c 3 t := by dsimp only [dats]; rfl
theorem before_3 (c : Dev nD) (t : Fin (cfgA m ha).N) (d) : (dats m ha 0 c).before 3 t d = iblk m ha c 3 t :=
  ((dats m ha 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem after_4 (c : Dev nD) (t : Fin (cfgA m ha).N) : (dats m ha 0 c).after 4 t = iblk m ha c 4 t := by dsimp only [dats]; rfl
theorem before_4 (c : Dev nD) (t : Fin (cfgA m ha).N) (d) : (dats m ha 0 c).before 4 t d = iblk m ha c 4 t :=
  ((dats m ha 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem after_5 (c : Dev nD) (t : Fin (cfgA m ha).N) : (dats m ha 0 c).after 5 t = iblk m ha c 5 t := by dsimp only [dats]; rfl
theorem before_5 (c : Dev nD) (t : Fin (cfgA m ha).N) (d) : (dats m ha 0 c).before 5 t d = iblk m ha c 5 t :=
  ((dats m ha 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem after_6 (c : Dev nD) (t : Fin (cfgA m ha).N) : (dats m ha 0 c).after 6 t = iblk m ha c 6 t := by dsimp only [dats]; rfl
theorem before_6 (c : Dev nD) (t : Fin (cfgA m ha).N) (d) : (dats m ha 0 c).before 6 t d = iblk m ha c 6 t :=
  ((dats m ha 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem after_7 (c : Dev nD) (t : Fin (cfgA m ha).N) : (dats m ha 0 c).after 7 t = outAt m ha c t := by dsimp only [dats]; rfl

end Cert.ExpertsIdeal.Ex
end
-- ==== Proof.Experts.RunB.lean ====
module
public import proofs.«01_k».proof.Proof.Experts.Run
public import Idealize.ShloMosaic.Lib.Pipeline.ValueKit.Geometry
@[expose] public section
set_option maxRecDepth 16384
noncomputable section
namespace Cert.ExpertsIdeal.Ex
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen
variable {F : FTy → Type} [FloatOps F]
local notation "𝕄" => MT nD τ sig Unit (Elt F) ℕ (UR sig nD τ) ℕ
variable (m : (ℓ : Loc nD τ sig) → Buf (Elt F) ℓ) (ρ : Dev nD → PrngReg) (ha : TeOk m)

/-- A point's row block. -/
abbrev rowN (t : Fin (cfgA m ha).N) : ℕ := (rowOf (tbl m) (grid0.coords t)).toNat
/-- A point's expert. -/
abbrev teN (t : Fin (cfgA m ha).N) : ℕ := (teOf (tbl m) (grid0.coords t)).toNat
/-- A point's block of hidden columns. -/
abbrev fbN (t : Fin (cfgA m ha).N) : ℕ := (fbOf (tbl m) (grid0.coords t)).toNat

theorem rowN_lt (t : Fin (cfgA m ha).N) : rowN m ha t < 96 := row_lt _ _ (grid0.coords t 0).isLt
theorem teN_lt (t : Fin (cfgA m ha).N) : teN m ha t < 32 := at0_lt m ha _ numel1_S1
theorem fbN_lt (t : Fin (cfgA m ha).N) : fbN m ha t < 8 := fb_lt _ _ (grid0.coords t 1).isLt
theorem fb8N (t : Fin (cfgA m ha).N) : (Scalar.addi 8#32 (fbOf (tbl m) (grid0.coords t))).toNat = 8 + fbN m ha t := by
  have := fbN_lt m ha t
  show (8#32 + _ : BitVec 32).toNat = _
  rw [BitVec.toNat_add, show (8#32).toNat = 8 from rfl]
  unfold fbN at *
  omega

theorem ixw0 (t : Fin (cfgA m ha).N) : ((pcfg0 (F := F)).win (adm m ha) 0).index t = ![rowN m ha t, 0] := rfl
theorem ixw1 (t : Fin (cfgA m ha).N) : ((pcfg0 (F := F)).win (adm m ha) 1).index t = ![teN m ha t, 0, fbN m ha t] := rfl
theorem ixw2 (t : Fin (cfgA m ha).N) : ((pcfg0 (F := F)).win (adm m ha) 2).index t = ![teN m ha t, 0, 8 + fbN m ha t] := by rw [← fb8N]; rfl
theorem ixw3 (t : Fin (cfgA m ha).N) : ((pcfg0 (F := F)).win (adm m ha) 3).index t = ![teN m ha t, fbN m ha t, 0] := rfl
theorem ixw4 (t : Fin (cfgA m ha).N) : ((pcfg0 (F := F)).win (adm m ha) 4).index t = ![teN m ha t, 0, fbN m ha t] := rfl
theorem ixw5 (t : Fin (cfgA m ha).N) : ((pcfg0 (F := F)).win (adm m ha) 5).index t = ![teN m ha t, 0, 8 + fbN m ha t] := by rw [← fb8N]; rfl
theorem ixw6 (t : Fin (cfgA m ha).N) : ((pcfg0 (F := F)).win (adm m ha) 6).index t = ![teN m ha t, 0, 0] := rfl
theorem ixw7 (t : Fin (cfgA m ha).N) : ((pcfg0 (F := F)).win (adm m ha) 7).index t = ![t.val / 8, 0] := by
  show cc0_transform_7 (grid0.coords t) = _
  revert t
  exact (by decide +kernel : ∀ t : Fin grid0.N, cc0_transform_7 (grid0.coords t) = ![t.val / 8, 0])

theorem rd0 (c : Dev nD) (t : Fin (cfgA m ha).N) (i : Fin 1024) (j : Fin 2048) (h : rowN m ha t * 1024 + i.val < 98304) :
    bx m ha c t (ix2 i j) = (V m c main_arg2 : Vec F S98304x2048 .f32) (ix2 ⟨rowN m ha t * 1024 + i.val, h⟩ j) := by
  blk_ext [bx, iblk, ixw0]
  · exact (congrArg (fun v : Fin 2 → ℕ => v 0 * 1024 + i.val) (ixw0 m ha t)).trans (by simp)
  · exact (congrArg (fun v : Fin 2 → ℕ => v 1 * 2048 + j.val) (ixw0 m ha t)).trans (by simp)
theorem rd1 (c : Dev nD) (t : Fin (cfgA m ha).N) (i : Fin 2048) (j : Fin 256) (h : fbN m ha t * 256 + j.val < 4096) :
    bwg m ha c t (ix3 0 i j) = (V m c main_v0 : Vec F S32x2048x4096 .f32) (ix3 ⟨teN m ha t, teN_lt m ha t⟩ i ⟨fbN m ha t * 256 + j.val, h⟩) := by
  blk_ext [bwg, iblk, ixw1]
  · exact (congrArg (fun v : Fin 3 → ℕ => v 0 + 0) (ixw1 m ha t)).trans (by simp)
  · exact (congrArg (fun v : Fin 3 → ℕ => v 1 * 2048 + i.val) (ixw1 m ha t)).trans (by simp)
  · exact (congrArg (fun v : Fin 3 → ℕ => v 2 * 256 + j.val) (ixw1 m ha t)).trans (by simp)
theorem rd2 (c : Dev nD) (t : Fin (cfgA m ha).N) (i : Fin 2048) (j : Fin 256) (h : (8 + fbN m ha t) * 256 + j.val < 4096) :
    bwu m ha c t (ix3 0 i j) = (V m c main_v1 : Vec F S32x2048x4096 .f32) (ix3 ⟨teN m ha t, teN_lt m ha t⟩ i ⟨(8 + fbN m ha t) * 256 + j.val, h⟩) := by
  blk_ext [bwu, iblk, ixw2]
  · exact (congrArg (fun v : Fin 3 → ℕ => v 0 + 0) (ixw2 m ha t)).trans (by simp)
  · exact (congrArg (fun v : Fin 3 → ℕ => v 1 * 2048 + i.val) (ixw2 m ha t)).trans (by simp)
  · exact (congrArg (fun v : Fin 3 → ℕ => v 2 * 256 + j.val) (ixw2 m ha t)).trans (by simp)
theorem rd3 (c : Dev nD) (t : Fin (cfgA m ha).N) (i : Fin 256) (j : Fin 2048) (h : fbN m ha t * 256 + i.val < 2048) :
    bwd m ha c t (ix3 0 i j) = (V m c main_v2 : Vec F S32x2048x2048 .f32) (ix3 ⟨teN m ha t, teN_lt m ha t⟩ ⟨fbN m ha t * 256 + i.val, h⟩ j) := by
  blk_ext [bwd, iblk, ixw3]
  · exact (congrArg (fun v : Fin 3 → ℕ => v 0 + 0) (ixw3 m ha t)).trans (by simp)
  · exact (congrArg (fun v : Fin 3 → ℕ => v 1 * 256 + i.val) (ixw3 m ha t)).trans (by simp)
  · exact (congrArg (fun v : Fin 3 → ℕ => v 2 * 2048 + j.val) (ixw3 m ha t)).trans (by simp)
theorem rd4 (c : Dev nD) (t : Fin (cfgA m ha).N) (j : Fin 256) (h : fbN m ha t * 256 + j.val < 4096) :
    bbg m ha c t (ix3 0 0 j) = (V m c main_v4 : Vec F S32x1x4096 .f32) (ix3 ⟨teN m ha t, teN_lt m ha t⟩ 0 ⟨fbN m ha t * 256 + j.val, h⟩) := by
  blk_ext [bbg, iblk, ixw4]
  · exact (congrArg (fun v : Fin 3 → ℕ => v 0 + 0) (ixw4 m ha t)).trans (by simp)
  · exact (congrArg (fun v : Fin 3 → ℕ => v 1 + 0) (ixw4 m ha t)).trans (by simp)
  · exact (congrArg (fun v : Fin 3 → ℕ => v 2 * 256 + j.val) (ixw4 m ha t)).trans (by simp)
theorem rd5 (c : Dev nD) (t : Fin (cfgA m ha).N) (j : Fin 256) (h : (8 + fbN m ha t) * 256 + j.val < 4096) :
    bbu m ha c t (ix3 0 0 j) = (V m c main_v6 : Vec F S32x1x4096 .f32) (ix3 ⟨teN m ha t, teN_lt m ha t⟩ 0 ⟨(8 + fbN m ha t) * 256 + j.val, h⟩) := by
  blk_ext [bbu, iblk, ixw5]
  · exact (congrArg (fun v : Fin 3 → ℕ => v 0 + 0) (ixw5 m ha t)).trans (by simp)
  · exact (congrArg (fun v : Fin 3 → ℕ => v 1 + 0) (ixw5 m ha t)).trans (by simp)
  · exact (congrArg (fun v : Fin 3 → ℕ => v 2 * 256 + j.val) (ixw5 m ha t)).trans (by simp)
theorem rd6 (c : Dev nD) (t : Fin (cfgA m ha).N) (j : Fin 2048) :
    bbd m ha c t (ix3 0 0 j) = (V m c main_v8 : Vec F S32x1x2048 .f32) (ix3 ⟨teN m ha t, teN_lt m ha t⟩ 0 j) := by
  blk_ext [bbd, iblk, ixw6]
  · exact (congrArg (fun v : Fin 3 → ℕ => v 0 + 0) (ixw6 m ha t)).trans (by simp)
  · exact (congrArg (fun v : Fin 3 → ℕ => v 1 + 0) (ixw6 m ha t)).trans (by simp)
  · exact (congrArg (fun v : Fin 3 → ℕ => v 2 * 2048 + j.val) (ixw6 m ha t)).trans (by simp)

/-- A tile is used when its number is below the number of used tiles. -/
theorem cond2_iff (i : grid0.Coords) (n : BitVec 32) : k0_cond2 i n = 1#1 ↔ (BitVec.ofNat 32 (i 0).val).slt n = true := by
  show Scalar.cmpi .ne (Scalar.extui (Scalar.cmpi .slt (BitVec.ofNat 32 (i 0).val) n) : BitVec 32) 0#32 = 1#1 ↔ _
  rw [show Scalar.cmpi .slt (BitVec.ofNat 32 (i 0).val) n = BitVec.ofBool ((BitVec.ofNat 32 (i 0).val).slt n) from rfl]
  cases (BitVec.ofNat 32 (i 0).val).slt n <;> decide

/-- An unused tile is filled at the last of its eight points. -/
theorem cond1_iff (i : grid0.Coords) (n : BitVec 32) : k0_cond1 i n = 1#1 ↔ (¬k0_cond2 i n = 1#1 ∧ (i 1).val = 7) := by
  rw [cond2_iff]
  show Scalar.cmpi .ne (Scalar.extui (Scalar.andi (Scalar.cmpi .sge (BitVec.ofNat 32 (i 0).val) n) (Scalar.cmpi .eq (BitVec.ofNat 32 (i 1).val) 7#32)) : BitVec 32) 0#32 = 1#1 ↔ _
  have e1 : Scalar.cmpi .sge (BitVec.ofNat 32 (i 0).val) n = BitVec.ofBool (!(BitVec.ofNat 32 (i 0).val).slt n) := by
    show BitVec.ofBool (n.sle (BitVec.ofNat 32 (i 0).val)) = _
    congr 1
    simp only [BitVec.slt, BitVec.sle]
    by_cases hh : n.toInt ≤ (BitVec.ofNat 32 (i 0).val).toInt <;> simp [hh, not_lt.mpr, not_le.mp, Int.not_le.mp] <;> omega
  have e2 : Scalar.cmpi .eq (BitVec.ofNat 32 (i 1).val) 7#32 = BitVec.ofBool (decide ((i 1).val = 7)) := by
    have h8 : (i 1).val < 8 := (i 1).isLt
    generalize (i 1).val = k at h8
    interval_cases k <;> decide
  rw [e1, e2]
  by_cases h7 : (i 1).val = 7 <;> cases (BitVec.ofNat 32 (i 0).val).slt n <;> simp [h7] <;> decide

/-- A tile is used at all its points or at none. -/
theorem used_prev (t : Fin (cfgA m ha).N) (ht : ¬t.val % 8 = 0) : used m ha ⟨t.val - 1, by omega⟩ ↔ used m ha t := by
  have e : (grid0.coords ⟨t.val - 1, lt_of_le_of_lt (Nat.sub_le _ _) t.isLt⟩ 0).val = (grid0.coords t 0).val := by
    rw [coord0, coord0]; show (t.val - 1) / 8 = t.val / 8; omega
  unfold used k0_cond2
  rw [e]

theorem bx_prev (c : Dev nD) (t : Fin (cfgA m ha).N) (ht : ¬t.val % 8 = 0) : bx m ha c ⟨t.val - 1, by omega⟩ = bx m ha c t := by
  have e : (grid0.coords ⟨t.val - 1, lt_of_le_of_lt (Nat.sub_le _ _) t.isLt⟩ 0).val = (grid0.coords t 0).val := by
    rw [coord0, coord0]; show (t.val - 1) / 8 = t.val / 8; omega
  have er : rowN m ha ⟨t.val - 1, by omega⟩ = rowN m ha t := by
    unfold rowN rowOf; rw [e]
  funext y
  obtain ⟨a, b, rfl⟩ : ∃ (a : Fin 1024) (b : Fin 2048), y = ix2 a b := ⟨y 0, y 1, funext fun k => by fin_cases k <;> rfl⟩
  have hr := rowN_lt m ha t
  rw [rd0 m ha c t a b (by omega), rd0 m ha c ⟨t.val - 1, by omega⟩ a b (by rw [er]; omega)]
  simp only [er]

theorem flush7 (t : Fin (cfgA m ha).N) : ((cfgA m ha).win 7).flush t = decide (t.val % 8 = 7) := by
  rw [Window.flush_eq_flushOf]
  revert t
  exact (by decide +kernel : ∀ t : Fin grid0.N, Window.flushOf grid0 true cc0_transform_7 t = decide (t.val % 8 = 7))

end Cert.ExpertsIdeal.Ex
end
-- ==== Proof.Experts.RunC.lean ====
module
public import proofs.«01_k».proof.Proof.Experts.RunB
public import Idealize.ShloMosaic.Lib.Quiescent
@[expose] public section
set_option maxRecDepth 16384
noncomputable section
namespace Cert.ExpertsIdeal.Ex
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen
variable {F : FTy → Type} [FloatOps F]
local notation "𝕄" => MT nD τ sig Unit (Elt F) ℕ (UR sig nD τ) ℕ
variable (m : (ℓ : Loc nD τ sig) → Buf (Elt F) ℓ) (ρ : Dev nD → PrngReg) (ha : TeOk m)

/-- The output window is idle at the points that neither use their tile nor fill it. -/
theorem idle7 (t : Fin (cfgA m ha).N) : (cfgA m ha).idle 7 ((cfgA m ha).grid.coords t) =
    (!(k0_cond1 (grid0.coords t) (nu m (ix1 0)) == 1#1) && !(k0_cond2 (grid0.coords t) (nu m (ix1 0)) == 1#1 && k0_cond4 (grid0.coords t) == 1#1)
      && !(k0_cond2 (grid0.coords t) (nu m (ix1 0)) == 1#1)) := by
  have e : (tbl m).atD 1 ![0] = nu m (ix1 0) := by
    unfold Pipeline.Prefetch.Contents.atD
    rw [dif_pos (by decide)]
    exact congrArg (nu m) (funext fun k => by fin_cases k; rfl)
  show (!(k0_cond1 (grid0.coords t) ((tbl m).atD 1 ![0]) == 1#1) && !(k0_cond2 (grid0.coords t) ((tbl m).atD 1 ![0]) == 1#1 && k0_cond4 (grid0.coords t) == 1#1)
      && !(k0_cond2 (grid0.coords t) ((tbl m).atD 1 ![0]) == 1#1)) = _
  rw [e]

theorem idle7_used (t : Fin (cfgA m ha).N) (hu : used m ha t) : (cfgA m ha).idle 7 ((cfgA m ha).grid.coords t) = false := by
  rw [idle7]; unfold used at hu; rw [hu]; simp

theorem idle7_fill (t : Fin (cfgA m ha).N) (h : k0_cond1 (grid0.coords t) (nu m (ix1 0)) = 1#1) : (cfgA m ha).idle 7 ((cfgA m ha).grid.coords t) = false := by
  rw [idle7, h]; simp

theorem idle7_skip (t : Fin (cfgA m ha).N) (h1 : ¬k0_cond1 (grid0.coords t) (nu m (ix1 0)) = 1#1) (hu : ¬used m ha t) : (cfgA m ha).idle 7 ((cfgA m ha).grid.coords t) = true := by
  rw [idle7]; unfold used at hu
  simp [h1, hu]

/-- Inside a used tile the output's buffer holds what the point before left. -/
theorem before_7 (c : Dev nD) (t : Fin (cfgA m ha).N) (ht : ¬t.val % 8 = 0) (hu : used m ha t) (d) :
    (dats m ha 0 c).before 7 t d = accN m ha c (t.val - 1) (lt_of_le_of_lt (Nat.sub_le _ _) t.isLt) := by
  have hu' := (used_prev m ha t ht).mpr hu
  rw [(dats m ha 0 c).before_of_pos 7 t (fun h => ht (by rw [h])) rfl d, flush7, if_neg (by simp only [decide_eq_true_eq]; omega)]
  unfold Dat.left
  rw [idle7_used m ha _ hu']
  show (dats m ha 0 c).kept 7 _ d = _
  unfold Dat.kept
  rw [after_7]
  refine Eq.trans (?_ : _ = outAt m ha c ⟨t.val - 1, lt_of_le_of_lt (Nat.sub_le _ _) t.isLt⟩) ?_
  · exact ((cfgA m ha).win 7).fill_cut _ _
  · unfold outAt; rw [if_pos hu']

/-- The kernel's body at a point. -/
abbrev bodyAt (t : Fin (cfgA m ha).N) : Prog (TpuEff nD τ sig (Elt F) Λ₀ .tc) PUnit :=
  cc0_experts (grid0.coords t) (Memref.whole main_v22) (Memref.isWhole_whole _) (Memref.whole main_arg1) (Memref.isWhole_whole _)
    (ms0 m ha t) (hstage0_0 (((cfgA m ha).slots t 0).cast nbuf0_0)) (ms1 m ha t) (hstage0_1 (((cfgA m ha).slots t 1).cast nbuf0_1))
    (ms2 m ha t) (hstage0_2 (((cfgA m ha).slots t 2).cast nbuf0_2)) (ms3 m ha t) (hstage0_3 (((cfgA m ha).slots t 3).cast nbuf0_3))
    (ms4 m ha t) (hstage0_4 (((cfgA m ha).slots t 4).cast nbuf0_4)) (ms5 m ha t) (hstage0_5 (((cfgA m ha).slots t 5).cast nbuf0_5))
    (ms6 m ha t) (hstage0_6 (((cfgA m ha).slots t 6).cast nbuf0_6)) (ms7 m ha t) (hstage0_7 (((cfgA m ha).slots t 7).cast nbuf0_7))
    scX (Memref.isWhole_whole _) scW (Memref.isWhole_whole _)

theorem defs₀_row (t : Fin (cfgA m ha).N) :
    defs₀ (F := F) .tc (cfgA m ha).body ((cfgA m ha).bodyArgs t ((cfgA m ha).slots t)) = bodyAt m ha t := by
  unfold defs₀; rw [Defs.onTc_tc]

/-- Each tile's expert. -/
abbrev teV : Vec F S96 .i32 := (V m 0 main_v22 : Vec F S96 .i32)

/-- The two tables the body holds: each tile's expert, and the number of used tiles. -/
theorem tabs_eq (c : Dev nD) : tabs m ha c = iprop(owns (c : Thread nD τ) (Memref.whole main_v22) fullShare.right (teV m)
    ∗ owns (c : Thread nD τ) (Memref.whole main_arg1) fullShare.right (nu m)) := by
  simp only [owns_whole]
  unfold tabs Pipeline.ΦT Pipeline.prefHeld
  rw [show (Finset.univ : Finset (Fin 2)) = insert 0 {1} from by decide, bigSep_insert (by decide), bigSep_singleton]
  rfl

def bodyPre (c : Dev nD) (t : Fin (cfgA m ha).N) : sProp 𝕄 :=
  iprop((dats m ha 0 c).Φ t.castSucc ∗ (dats m ha 0 c).owesAt () t.castSucc
    ∗ (∃ d, owns (c : Thread nD τ) (ms0 m ha t) fullShare ((dats m ha 0 c).before 0 t d))
    ∗ (∃ d, owns (c : Thread nD τ) (ms1 m ha t) fullShare ((dats m ha 0 c).before 1 t d))
    ∗ (∃ d, owns (c : Thread nD τ) (ms2 m ha t) fullShare ((dats m ha 0 c).before 2 t d))
    ∗ (∃ d, owns (c : Thread nD τ) (ms3 m ha t) fullShare ((dats m ha 0 c).before 3 t d))
    ∗ (∃ d, owns (c : Thread nD τ) (ms4 m ha t) fullShare ((dats m ha 0 c).before 4 t d))
    ∗ (∃ d, owns (c : Thread nD τ) (ms5 m ha t) fullShare ((dats m ha 0 c).before 5 t d))
    ∗ (∃ d, owns (c : Thread nD τ) (ms6 m ha t) fullShare ((dats m ha 0 c).before 6 t d))
    ∗ (∃ d, owns (c : Thread nD τ) (ms7 m ha t) fullShare ((dats m ha 0 c).before 7 t d)))

def bodyPost (c : Dev nD) (t : Fin (cfgA m ha).N) : sProp 𝕄 :=
  iprop((dats m ha 0 c).Φ t.succ ∗ (dats m ha 0 c).owesAt () t.succ
    ∗ owns (c : Thread nD τ) (ms0 m ha t) fullShare ((dats m ha 0 c).after 0 t)
    ∗ owns (c : Thread nD τ) (ms1 m ha t) fullShare ((dats m ha 0 c).after 1 t)
    ∗ owns (c : Thread nD τ) (ms2 m ha t) fullShare ((dats m ha 0 c).after 2 t)
    ∗ owns (c : Thread nD τ) (ms3 m ha t) fullShare ((dats m ha 0 c).after 3 t)
    ∗ owns (c : Thread nD τ) (ms4 m ha t) fullShare ((dats m ha 0 c).after 4 t)
    ∗ owns (c : Thread nD τ) (ms5 m ha t) fullShare ((dats m ha 0 c).after 5 t)
    ∗ owns (c : Thread nD τ) (ms6 m ha t) fullShare ((dats m ha 0 c).after 6 t)
    ∗ (dats m ha 0 c).leavesExact 7 t)

theorem leaves_live (c : Dev nD) (t : Fin (cfgA m ha).N) (hi : (cfgA m ha).idle 7 ((cfgA m ha).grid.coords t) = false) :
    (owns (c : Thread nD τ) (ms7 m ha t) fullShare (outAt m ha c t) : sProp 𝕄) ⊢ (dats m ha 0 c).leavesExact 7 t := by
  unfold Dat.leavesExact; rewrite [hi]; exact .rfl

theorem leaves_skip (c : Dev nD) (t : Fin (cfgA m ha).N) (hi : (cfgA m ha).idle 7 ((cfgA m ha).grid.coords t) = true) (h7 : ¬t.val % 8 = 7) (d) :
    (owns (c : Thread nD τ) (ms7 m ha t) fullShare ((dats m ha 0 c).before 7 t d) : sProp 𝕄) ⊢ (dats m ha 0 c).leavesExact 7 t := by
  have hf : ((cfgA m ha).win 7).flush t = false := by rw [flush7]; simpa using h7
  unfold Dat.leavesExact; rewrite [hi]; dsimp only
  rewrite [hf]
  dsimp only
  iintro H
  iexists d
  iexact H

theorem Phi_succ (c : Dev nD) (t : Fin (cfgA m ha).N) : (dats m ha 0 c).Φ t.succ
    = iprop((∃ d, ⌜∀ h : t.val + 1 ≠ 0, used m ha ⟨t.val + 1 - 1, by omega⟩ → d = xbAt m ha c ⟨t.val + 1 - 1, by omega⟩⌝ ∗ owns (c : Thread nD τ) scX fullShare d)
    ∗ (∃ d, owns (c : Thread nD τ) scW fullShare d) ∗ (∃ r, prngReg c r) ∗ tabs m ha c) := rfl

theorem Phi_cast (c : Dev nD) (t : Fin (cfgA m ha).N) : (dats m ha 0 c).Φ t.castSucc
    = iprop((∃ d, ⌜∀ h : t.val ≠ 0, used m ha ⟨t.val - 1, by omega⟩ → d = xbAt m ha c ⟨t.val - 1, by omega⟩⌝ ∗ owns (c : Thread nD τ) scX fullShare d)
    ∗ (∃ d, owns (c : Thread nD τ) scW fullShare d) ∗ (∃ r, prngReg c r) ∗ tabs m ha c) := by
  dsimp only [dats]; exact Pipeline.Dat.Φ_castSucc (PhiS m ha c) t

theorem xb_prev (c : Dev nD) (t : Fin (cfgA m ha).N) (ht : ¬t.val % 8 = 0) : xbAt m ha c ⟨t.val - 1, by omega⟩ = xbAt m ha c t := by
  unfold xbAt; rw [bx_prev m ha c t ht]

set_option maxHeartbeats 2000000 in
/-- The body at any point. -/
theorem sound_body (c : Dev nD) (t : Fin (cfgA m ha).N) :
    bodyPre m ha c t ⊢ wp frame (wpE (defs₀ (F := F)) Variants.none c none) Set.univ (bodyAt m ha t) (fun _ => bodyPost m ha c t) := by
  unfold bodyPre bodyPost
  simp only [before_0, before_1, before_2, before_3, before_4, before_5, before_6]
  rw [show (dats m ha 0 c).owesAt () t.succ = (dats m ha 0 c).owesAt () t.castSucc from rfl,
    after_0, after_1, after_2, after_3, after_4, after_5, after_6, Phi_succ, Phi_cast, tabs_eq]
  iintro ⟨⟨⟨%dx, %hdx, HX⟩, HW, Hg, HT, HN⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases hu : used m ha t
  · have hc1 : ¬k0_cond1 (grid0.coords t) (nu m (ix1 0)) = 1#1 := fun h => ((cond1_iff _ _).mp h).1 hu
    by_cases h0 : t.val % 8 = 0
    · iapply (run_first c (grid0.coords t) _ _ _ _ _ _ _ _ _ _ _ _ _ _ _ _ _ _ _ _ _ _ _ _ fullShare.right (nu m) hc1 hu ((cond4_iff m ha t).mpr h0)
        (bx m ha c t) (bwg m ha c t) (bwu m ha c t) (bwd m ha c t) (bbg m ha c t) (bbu m ha c t) (bbd m ha c t))
      isplitl [HN]; · iexact HN
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HX]; · iexists _; iexact HX
      isplitl [HW]; · iexact HW
      iintro ⟨HN, H0, H1, H2, H3, H4, H5, H6, H7, HX, HW⟩
      isplitl [HX HW Hg HT HN]
      · isplitl [HX]
        · iexists _
          isplitr
          · ipureintro; intro _ _; rfl
          iexact HX
        isplitl [HW]; · iexists _; iexact HW
        isplitl [Hg]; · iexact Hg
        isplitl [HT]; · iexact HT
        iexact HN
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (leaves_live m ha c t (idle7_used m ha t hu))
      rw [show outAt m ha c t = oacc (k0_pay12 (bbd m ha c t)) (act (k0_pay4 (bx m ha c t)) (wcat (bwg m ha c t) (bwu m ha c t)) (bbg m ha c t) (bbu m ha c t)) (bwd m ha c t) from by
        unfold outAt; rw [if_pos hu, accN_first m ha c t h0]; rfl]
      iexact H7
    · have hx : dx = xbAt m ha c t := (hdx (fun h => h0 (by rw [h])) ((used_prev m ha t h0).mpr hu)).trans (xb_prev m ha c t h0)
      rw [before_7 m ha c t h0 hu, hx]
      iapply (run_rest c (grid0.coords t) _ _ _ _ _ _ _ _ _ _ _ _ _ _ _ _ _ _ _ _ _ _ _ _ fullShare.right (nu m) hc1 hu (fun h => h0 ((cond4_iff m ha t).mp h))
        (bwg m ha c t) (bwu m ha c t) (bwd m ha c t) (bbg m ha c t) (bbu m ha c t) (accN m ha c (t.val - 1) (lt_of_le_of_lt (Nat.sub_le _ _) t.isLt)) (xbAt m ha c t))
      isplitl [HN]; · iexact HN
      isplitl [H1]; · iexact H1
      isplitl [H2]; · iexact H2
      isplitl [H3]; · iexact H3
      isplitl [H4]; · iexact H4
      isplitl [H5]; · iexact H5
      isplitl [H7]; · iexact H7
      isplitl [HX]; · iexact HX
      isplitl [HW]; · iexact HW
      iintro ⟨HN, H1, H2, H3, H4, H5, H7, HX, HW⟩
      isplitl [HX HW Hg HT HN]
      · isplitl [HX]
        · iexists _
          isplitr
          · ipureintro; intro _ _; rfl
          iexact HX
        isplitl [HW]; · iexists _; iexact HW
        isplitl [Hg]; · iexact Hg
        isplitl [HT]; · iexact HT
        iexact HN
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (leaves_live m ha c t (idle7_used m ha t hu))
      rw [show outAt m ha c t = oacc (accN m ha c (t.val - 1) (lt_of_le_of_lt (Nat.sub_le _ _) t.isLt)) (act (xbAt m ha c t) (wcat (bwg m ha c t) (bwu m ha c t)) (bbg m ha c t) (bbu m ha c t)) (bwd m ha c t) from by
        unfold outAt; rw [if_pos hu, accN_rest m ha c t h0]; rfl]
      iexact H7
  · have hX : (iprop(owns (c : Thread nD τ) scX fullShare dx) : sProp 𝕄) ⊢ iprop(∃ d, ⌜∀ h : t.val + 1 ≠ 0, used m ha ⟨t.val + 1 - 1, by omega⟩ → d = xbAt m ha c ⟨t.val + 1 - 1, by omega⟩⌝ ∗ owns (c : Thread nD τ) scX fullShare d) := by
      iintro HX
      iexists dx
      isplitr
      · ipureintro; intro _ h; exact absurd h hu
      iexact HX
    by_cases hc1 : k0_cond1 (grid0.coords t) (nu m (ix1 0)) = 1#1
    · iapply (run_zero c (grid0.coords t) _ _ _ _ _ _ _ _ _ _ _ _ _ _ _ _ _ _ _ _ _ _ _ _ fullShare.right (nu m) hc1 hu)
      isplitl [HN]; · iexact HN
      isplitl [H7]; · iexists _; iexact H7
      iintro ⟨HN, H7⟩
      isplitl [HX HW Hg HT HN]
      · isplitl [HX]; · iapply hX; iexact HX
        isplitl [HW]; · iexact HW
        isplitl [Hg]; · iexact Hg
        isplitl [HT]; · iexact HT
        iexact HN
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (leaves_live m ha c t (idle7_fill m ha t hc1))
      rw [show outAt m ha c t = k0_pay1 from by unfold outAt; rw [if_neg hu]]
      iexact H7
    · iapply (run_skip c (grid0.coords t) _ _ _ _ _ _ _ _ _ _ _ _ _ _ _ _ _ _ _ _ _ _ _ _ fullShare.right (nu m) hc1 hu)
      isplitl [HN]; · iexact HN
      iintro HN
      isplitl [HX HW Hg HT HN]
      · isplitl [HX]; · iapply hX; iexact HX
        isplitl [HW]; · iexact HW
        isplitl [Hg]; · iexact Hg
        isplitl [HT]; · iexact HT
        iexact HN
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (leaves_skip m ha c t (idle7_skip m ha t hc1 hu) (fun h7 => hc1 ((cond1_iff _ _).mpr ⟨hu, (coord1 t).trans h7⟩)) d7)
      iexact H7

theorem body_obligation (c : Dev nD) : BodyObligation (dats (F := F) m ha 0 c) (defs₀ (F := F)) Variants.none () Set.univ := fun t => by
  rw [bigSep_W0, bigSep_W0, defs₀_row]
  refine triple_restated (sound_body m ha c t) rfl .rfl fun _ => ?_
  unfold bodyPost
  exact .rfl

end Cert.ExpertsIdeal.Ex
end
-- ==== Proof.Experts.RunD.lean ====
module
public import proofs.«01_k».proof.Proof.Experts.RunC
public import Idealize.ShloMosaic.Lib.Quiescent
@[expose] public section
set_option maxRecDepth 16384
noncomputable section
namespace Cert.ExpertsIdeal.Ex
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen
variable {F : FTy → Type} [FloatOps F]
local notation "𝕄" => MT nD τ sig Unit (Elt F) ℕ (UR sig nD τ) ℕ
variable (m : (ℓ : Loc nD τ sig) → Buf (Elt F) ℓ) (ρ : Dev nD → PrngReg) (ha : TeOk m)

theorem hin (c : Dev nD) : iprop(Pipeline.ΦA spec0 c ∗ tabs m ha c) ⊢ (dats m ha 0 c).Φ 0 := by
  show _ ⊢ PhiS m ha c 0 (Nat.zero_le _)
  unfold PhiS Pipeline.ΦA
  rw [scopedRest0_eq]
  simp only [owns_whole]
  iintro ⟨⟨⟨⟨%dx, HX⟩, HW⟩, Hg⟩, HT⟩
  isplitl [HX]
  · iexists dx
    isplitr
    · ipureintro; intro h; exact absurd rfl h
    iexact HX
  isplitl [HW]; · iexact HW
  isplitl [Hg]; · iexact Hg
  iexact HT

theorem hout (c : Dev nD) : (dats m ha 0 c).Φ (Fin.last (cfgA m ha).N) ⊢ Pipeline.ΦA spec0 c := by
  show PhiS m ha c (cfgA m ha).N le_rfl ⊢ _
  unfold PhiS Pipeline.ΦA
  rw [scopedRest0_eq]
  simp only [owns_whole]
  iintro ⟨⟨%dx, -, HX⟩, HW, Hg, -⟩
  isplitr [Hg]
  · isplitl [HX]; · iexists dx; iexact HX
    iexact HW
  iexact Hg

theorem hpf (c : Dev nD) (k : Fin 2) : V m c (pre0.ref k) = (adm m ha).1 k := by
  obtain rfl := Subsingleton.elim c 0
  match k with
  | 0 => rfl
  | 1 => rfl

set_option maxHeartbeats 1000000 in
set_option backward.isDefEq.respectTransparency.types false in
/-- Every execution ends with the arrays at what the proof data says, and every semaphore counter at zero. -/
theorem run_main : θ_run defs (onTc (τ := τ) (main (F := F))) (s₀ m ρ) (fun r => (Pipeline.FramePost (pcs m ha) (dats m ha) 0 (V m)) r ∧ r.2.sem = fun _ => 0) :=
  Pipeline.θ_run_frameP_track (Q' := _) pcfgs (fun _ => adm m ha) (dats m ha) (0 : Fin 1) launch0 defs₀ Variants.none m ρ main
    (hbody := fun c => (body_obligation m ha c).loose) (hshare := fun _ _ => by unfold Dat.share; split <;> rfl)
    (howed := fun _ _ => rfl) (V := V m) (hmain := hmain m Variants.none) (hA := A_eq m ha)
    (hpf := hpf m ha) (hin := hin m ha) (hout := hout m ha)

end Cert.ExpertsIdeal.Ex
end
-- ==== Proof.Experts.TabVal.lean ====
module
public import proofs.«01_k».proof.Proof.Experts.RunB
public import Idealize.ShloMosaic.Lib.Routing.OpsSet
public import Idealize.ShloMosaic.Lib.StableHlo.ReadAt
@[expose] public section
set_option maxRecDepth 16384
noncomputable section
namespace Cert.ExpertsIdeal.Ex
open Idealize.ShloMosaic Idealize.ShloMosaic.TcCoe
open Cert.ExpertsIdeal.Gen
variable {F : FTy → Type} [FloatOps F]
variable (m : (ℓ : Loc nD τ sig) → Buf (Elt F) ℓ) (c : Dev nD)

/-- The experts' table in memory. -/
abbrev a0 : IVec S96 32 := m (c, Proc.devRef .tc main_arg0)
/-- The number of used tiles in memory. -/
abbrev a1 : IVec S1 32 := m (c, Proc.devRef .tc main_arg1)

/-- The tile whose expert tile `n` reads: itself while used, the last used one after. -/
def lastW (nu : BitVec 32) (n : ℕ) : BitVec 32 := Scalar.maxsi (Scalar.minsi (BitVec.ofNat 32 n) (Scalar.subi nu 1#32)) 0#32

theorem lastW_lt (nu : BitVec 32) (n : ℕ) (h : n < 96) : (lastW nu n).toNat < 96 := row_lt nu n h

theorem V_arg1 : V m c main_arg1 = m (c, Proc.devRef .tc main_arg1) := by unfold V; after_reads_simp

/-- The row of the table each tile reads, as the host works it out. -/
theorem v21_apply (i : Fin 96) : (V m c main_v21 : IVec S96x1 32) (ix2 i 0) = lastW (a1 m c (ix1 0)) i.val := by
  have hn : ¬ ((lastW (a1 m c (ix1 0)) i.val).slt 0#32 = true) := by
    have := lastW_lt (a1 m c (ix1 0)) i.val i.isLt
    generalize lastW (a1 m c (ix1 0)) i.val = w at this
    simp only [BitVec.slt, decide_eq_true_eq]
    rw [BitVec.toInt_eq_toNat_cond, if_pos (by omega)]
    simp
  unfold V
  after_reads_at
  show Scalar.select (IntOp.cmpi .slt (lastW (a1 m c (ix1 0)) i.val) 0#32) _ (lastW (a1 m c (ix1 0)) i.val) = _
  generalize lastW (a1 m c (ix1 0)) i.val = w at hn ⊢
  have hf : IntOp.cmpi .slt w 0#32 = 0#1 := by
    show BitVec.ofBool (w.slt 0#32) = 0#1
    rw [Bool.eq_false_iff.mpr hn]; rfl
  rw [hf]; rfl

/-- Each tile's expert as the kernel is given it. -/
theorem v22_apply (i : Fin 96) : (V m c main_v22 : IVec S96 32) (ix1 i) = a0 m c (ix1 ⟨(lastW (a1 m c (ix1 0)) i.val).toNat, lastW_lt _ _ i.isLt⟩) := by
  have e : (V m c main_v22 : IVec S96 32) = Host.gather gather_S96_S96x1_S96_n_0_n_n_0_1_1 (a0 m c) (V m c main_v21 : IVec S96x1 32) := by
    unfold V; after_reads_simp
  rw [e]
  refine Routing.gather_take1 gather_S96_S96x1_S96_n_0_n_n_0_1_1 rfl rfl rfl rfl (a0 m c) _ i ⟨(lastW (a1 m c (ix1 0)) i.val).toNat, lastW_lt _ _ i.isLt⟩ ?_ (by omega)
  refine (v21_apply m c i).trans ?_
  exact (BitVec.ofNat_toNat 32 _ |>.trans (BitVec.setWidth_eq _)).symm

/-- With every entry of the table one of the 32 experts, so is every tile's expert. -/
theorem teOk_of (h : ∀ i : Fin 96, (a0 m 0 (ix1 i)).toNat < 32) : TeOk m := by
  intro x
  obtain ⟨i, rfl⟩ : ∃ i : Fin 96, x = ix1 i := ⟨x 0, funext fun k => by fin_cases k; rfl⟩
  rw [v22_apply]
  exact h _

theorem ofNat_toInt (n : ℕ) (h : n < 96) : (BitVec.ofNat 32 n).toInt = n := by
  rw [BitVec.toInt_eq_toNat_cond, BitVec.toNat_ofNat]; omega

/-- A used tile reads its own row of the table. -/
theorem lastW_used (nu : BitVec 32) (n : ℕ) (h : n < 96) (hu : (BitVec.ofNat 32 n).slt nu = true) : lastW nu n = BitVec.ofNat 32 n := by
  have hn := ofNat_toInt n h
  simp only [BitVec.slt, decide_eq_true_eq, hn] at hu
  have hs : (Scalar.subi nu 1#32).toInt = nu.toInt - 1 := by
    show (nu - 1#32).toInt = _
    have := nu.isLt
    rw [BitVec.toInt_eq_toNat_cond] at hu
    rw [BitVec.toInt_eq_toNat_cond, BitVec.toInt_eq_toNat_cond, BitVec.toNat_sub]
    rw [show (1#32).toNat = 1 from rfl]
    split at hu <;> omega
  have hmin : Scalar.minsi (BitVec.ofNat 32 n) (Scalar.subi nu 1#32) = BitVec.ofNat 32 n := by
    unfold Scalar.minsi IntOp.minsi
    generalize hy : Scalar.subi nu 1#32 = y at hs
    split
    · rfl
    · rename_i hh
      simp only [BitVec.slt, decide_eq_true_eq, hn, hs] at hh
      apply BitVec.eq_of_toInt_eq
      omega
  unfold lastW
  rw [hmin]
  unfold Scalar.maxsi IntOp.maxsi
  split
  · rename_i hh; simp only [BitVec.slt, decide_eq_true_eq, hn] at hh
    apply BitVec.eq_of_toInt_eq
    rw [hn]
  · rename_i hh; simp only [BitVec.slt, decide_eq_true_eq, hn] at hh
    apply BitVec.eq_of_toInt_eq
    rw [hn]; simp at hh ⊢; omega

end Cert.ExpertsIdeal.Ex
end
-- ==== Proof.Experts.Spec.lean ====
module
public import proofs.«01_k».proof.Proof.Mix.Arr
@[expose] public section
noncomputable section
namespace Cert.Ffn
open Idealize.ShloMosaic

/-- The gate clamped from above, times its own sigmoid at 1.702 times its size, times the up clamped both ways and raised by one. -/
def glu (g u : EReal) : EReal :=
  (min (Ideal.ofBits .f32 0x40E00000#32) (max (Ideal.ofBits .f32 0xC0E00000#32) u) + 1)
    * (min g (Ideal.ofBits .f32 0x40E00000#32) * Ideal.logistic (Ideal.ofBits .f32 0x3FD9DB23#32 * min g (Ideal.ofBits .f32 0x40E00000#32)))

/-- The expert a word names, kept among the 32. -/
abbrev ex (w : BitVec 32) : Fin 32 := ⟨min w.toInt.toNat 31, by omega⟩

/-- Hidden column `k` of row `r` under expert `e`. -/
def hid (x : (⟨2, ![98304, 2048]⟩ : Shape).Idx → EReal) (w : (⟨4, ![1, 32, 2048, 4096]⟩ : Shape).Idx → EReal)
    (b : (⟨3, ![1, 32, 4096]⟩ : Shape).Idx → EReal) (e : Fin 32) (r : Fin 98304) (k : Fin 2048) : EReal :=
  glu ((∑ q : Fin 2048, x (ix2 r q) * w (ix4 0 e q ⟨k.val, by omega⟩)) + b (ix3 0 e ⟨k.val, by omega⟩))
    ((∑ q : Fin 2048, x (ix2 r q) * w (ix4 0 e q ⟨2048 + k.val, by omega⟩)) + b (ix3 0 e ⟨2048 + k.val, by omega⟩))

/-- Output column `j` of row `r`: its tile's expert's answer while the tile is used, zero after. -/
def ffn (te : (⟨1, ![96]⟩ : Shape).Idx → BitVec 32) (nu : (⟨1, ![1]⟩ : Shape).Idx → BitVec 32)
    (x : (⟨2, ![98304, 2048]⟩ : Shape).Idx → EReal) (w : (⟨4, ![1, 32, 2048, 4096]⟩ : Shape).Idx → EReal)
    (b : (⟨3, ![1, 32, 4096]⟩ : Shape).Idx → EReal) (d : (⟨4, ![1, 32, 2048, 2048]⟩ : Shape).Idx → EReal)
    (b' : (⟨3, ![1, 32, 2048]⟩ : Shape).Idx → EReal) (r : Fin 98304) (j : Fin 2048) : EReal :=
  if (BitVec.ofNat 32 (r.val / 1024)).slt (nu (ix1 0)) = true then
    (∑ k : Fin 2048, hid x w b (ex (te (ix1 ⟨r.val / 1024, by omega⟩))) r k * d (ix4 0 (ex (te (ix1 ⟨r.val / 1024, by omega⟩))) k j))
      + b' (ix3 0 (ex (te (ix1 ⟨r.val / 1024, by omega⟩))) j)
  else 0

end Cert.Ffn
end
-- ==== Proof.Experts.Pay.lean ====
module
public import proofs.«01_k».proof.Proof.Experts.Body
public import proofs.«01_k».proof.Proof.Experts.Spec
public import Idealize.ShloMosaic.Lib.Pipeline.ValueKit
public import Idealize.ShloMosaic.Lib.IdealHost
@[expose] public section
set_option maxRecDepth 16384
noncomputable section
namespace Cert.ExpertsIdeal.Ex
open Idealize.ShloMosaic Idealize.ShloMosaic.TcCoe
open Cert.ExpertsIdeal.Gen Cert.Ffn

/-- Off a write's rectangle the earlier writes decide. -/
theorem canon_skip {s : Shape} {e : EltTy} (r : Rect s) (w : r.shape.Idx → Elt Ideal e) (L : List (View.Piece (Elt Ideal) s e)) {y : s.Idx} (h : y ∉ r.set) :
    View.canon (⟨r, w⟩ :: L) y = View.canon L y := View.canon_cons_of_not_mem ⟨r, w⟩ L h

/-- A column among the first 256 of the scratch is the gate block's. -/
theorem wcat_gate (wg wu : Vec Ideal S1x2048x256 .f32) (q : Fin 2048) (k : Fin 256) :
    (wcat (F := Ideal) wg wu (ix2 q (⟨k.val, by omega⟩ : Fin 512)) : EReal) = wg (ix3 0 q k) := by
  have hn : (ix2 q (⟨k.val, by omega⟩ : Fin 512) : S2048x512.Idx) ∉ (Rect.unit (s := S2048x512) ![0, 256] S2048x256.size inb_S2048x512_S2048x256_0_256).set := by
    rw [Rect.mem_set_unit]
    intro h
    have := (h 1).1
    have e : ((ix2 q (⟨k.val, by omega⟩ : Fin 512) : S2048x512.Idx) 1).val = k.val := rfl
    have e' : (![0, 256] : Fin 2 → ℕ) 1 = 256 := rfl
    omega
  unfold wcat
  rw [canon_skip _ _ _ hn,
    show (ix2 q (⟨k.val, by omega⟩ : Fin 512) : S2048x512.Idx) = (Rect.unit (s := S2048x512) ![0, 0] S2048x256.size inb_S2048x512_S2048x256_0_0).emb (ix2 q k) from
      funext fun a => Fin.ext (by fin_cases a <;> simp [Rect.emb, Rect.unit]), View.canon_cons_emb]
  show (k0_pay5 (F := Ideal) wg (ix2 q k) : EReal) = _
  pointwise [k0_pay5]

/-- A column among the last 256 is the up block's. -/
theorem wcat_up (wg wu : Vec Ideal S1x2048x256 .f32) (q : Fin 2048) (k : Fin 256) :
    (wcat (F := Ideal) wg wu (ix2 q (⟨256 + k.val, by omega⟩ : Fin 512)) : EReal) = wu (ix3 0 q k) := by
  unfold wcat
  rw [show (ix2 q (⟨256 + k.val, by omega⟩ : Fin 512) : S2048x512.Idx) = (Rect.unit (s := S2048x512) ![0, 256] S2048x256.size inb_S2048x512_S2048x256_0_256).emb (ix2 q k) from
      funext fun a => Fin.ext (by fin_cases a <;> simp [Rect.emb, Rect.unit]), View.canon_cons_emb]
  show (k0_pay6 (F := Ideal) wu (ix2 q k) : EReal) = _
  pointwise [k0_pay6]

/-- An activation. -/
theorem act_apply (xb : Vec Ideal S1024x2048 .bf16) (wg wu : Vec Ideal S1x2048x256 .f32) (bg bu : Vec Ideal S1x1x256 .f32) (i : Fin 1024) (k : Fin 256) :
    (act (F := Ideal) xb (wcat wg wu) bg bu (ix2 i k) : EReal)
      = glu ((∑ q : Fin 2048, xb (ix2 i q) * wg (ix3 0 q k)) + bg (ix3 0 0 k)) ((∑ q : Fin 2048, xb (ix2 i q) * wu (ix3 0 q k)) + bu (ix3 0 0 k)) := by
  have hg := fun q => wcat_gate wg wu q k
  have hu := fun q => wcat_up wg wu q k
  generalize wcat (F := Ideal) wg wu = w at hg hu ⊢
  have e9 : (k0_pay9 (F := Ideal) xb w bg (ix2 i k) : EReal) = min ((∑ q : Fin 2048, xb (ix2 i q) * wg (ix3 0 q k)) + bg (ix3 0 0 k)) (Ideal.ofBits .f32 0x40E00000#32) := by
    simp only [← hg]
    pointwise [k0_pay9, k0_pay7]
  have e8 : (k0_pay8 (F := Ideal) xb w bu (ix2 i k) : EReal) = (∑ q : Fin 2048, xb (ix2 i q) * wu (ix3 0 q k)) + bu (ix3 0 0 k) := by
    simp only [← hu]
    pointwise [k0_pay8, k0_pay7]
  unfold act glu
  rw [← e8, ← e9]
  pointwise [k0_pay11, k0_pay10]

/-- The bias row spread over the tile. -/
theorem pay12_apply (b : Vec Ideal S1x1x2048 .f32) (i : Fin 1024) (j : Fin 2048) :
    (k0_pay12 (F := Ideal) b (ix2 i j) : EReal) = b (ix3 0 0 j) := by
  pointwise [k0_pay12]

/-- The block of zeros. -/
theorem pay1_apply (i : Fin 1024) (j : Fin 2048) : (k0_pay1 (F := Ideal) (ix2 i j) : EReal) = 0 := by
  pointwise [k0_pay1]

theorem pay2_apply (a : FVec Ideal S1024x256 .bf16) (v : FVec Ideal S1024x512 .f32) (w : Vec Ideal S1x256x512 .f32) (i : Fin 1024) (j : Fin 512) :
    (k0_pay2 (F := Ideal) a v w (ix2 i j) : EReal) = v (ix2 i j) + ∑ k : Fin 256, a (ix2 i k) * w (ix3 0 k j) := by
  pointwise [k0_pay2]

/-- A place in other columns lies outside a group of 512. -/
theorem out_cols (o : ℕ) (h : ∀ a, (![0, o] : Fin 2 → ℕ) a + S1024x512.size a ≤ S1024x2048.size a) (i : Fin 1024) (j : Fin 2048) (hj : j.val < o ∨ o + 512 ≤ j.val) :
    (ix2 i j : S1024x2048.Idx) ∉ (Rect.unit (s := S1024x2048) ![0, o] S1024x512.size h).set := by
  rw [Rect.mem_set_unit]
  intro hm
  have h1 := (hm 1).1
  have h2 := (hm 1).2
  have e : ((ix2 i j : S1024x2048.Idx) 1).val = j.val := rfl
  have e' : (![0, o] : Fin 2 → ℕ) 1 = o := rfl
  have e'' : S1024x512.size 1 = 512 := rfl
  omega

/-- A group of 512 columns of the tile with the second product's share added. -/
theorem piece_apply (o : ℕ) (h : ∀ a, (![0, o] : Fin 2 → ℕ) a + S1024x512.size a ≤ S1024x2048.size a)
    (h' : ∀ a, (![0, 0, o] : Fin 3 → ℕ) a + S1x256x512.size a ≤ S1x256x2048.size a)
    (x : Vec Ideal S1024x2048 .f32) (a : FVec Ideal S1024x256 .bf16) (wd : Vec Ideal S1x256x2048 .f32) (L : List (View.Piece (Elt Ideal) S1024x2048 .f32))
    (i : Fin 1024) (j : Fin 2048) (hj : o ≤ j.val) (hj' : j.val < o + 512) :
    (View.canon (⟨Rect.unit (s := S1024x2048) ![0, o] S1024x512.size h, k0_pay2 (F := Ideal) a (View.ld x (Rect.unit (s := S1024x2048) ![0, o] S1024x512.size h))
      (View.ld wd (Rect.unit (s := S1x256x2048) ![0, 0, o] S1x256x512.size h'))⟩ :: L) (ix2 i j) : EReal)
      = x (ix2 i j) + ∑ k : Fin 256, a (ix2 i k) * wd (ix3 0 k j) := by
  have e : (ix2 i j : S1024x2048.Idx) = (Rect.unit (s := S1024x2048) ![0, o] S1024x512.size h).emb (ix2 i (⟨j.val - o, by omega⟩ : Fin 512)) :=
    funext fun b => Fin.ext (by fin_cases b <;> simp [Rect.emb, Rect.unit]; omega)
  have e2 (k : Fin 256) : (ix3 0 k j : S1x256x2048.Idx) = (Rect.unit (s := S1x256x2048) ![0, 0, o] S1x256x512.size h').emb (ix3 0 k (⟨j.val - o, by omega⟩ : Fin 512)) :=
    funext fun b => Fin.ext (by fin_cases b <;> simp [Rect.emb, Rect.unit]; omega)
  rw [e, View.canon_cons_emb, ← e]
  refine (pay2_apply a _ _ i _).trans ?_
  refine congrArg₂ (· + ·) ?_ (Finset.sum_congr rfl fun k _ => congrArg (a (ix2 i k) * ·) ?_)
  · exact (congrArg x e.symm)
  · exact (congrArg wd (e2 k).symm)

/-- The tile with 256 hidden columns' share of the second product added. -/
theorem oacc_apply (x : Vec Ideal S1024x2048 .f32) (a : FVec Ideal S1024x256 .bf16) (wd : Vec Ideal S1x256x2048 .f32) (i : Fin 1024) (j : Fin 2048) :
    (oacc (F := Ideal) x a wd (ix2 i j) : EReal) = x (ix2 i j) + ∑ k : Fin 256, a (ix2 i k) * wd (ix3 0 k j) := by
  have hj := j.isLt
  unfold oacc
  by_cases h3 : 1536 ≤ j.val
  · exact piece_apply 1536 _ _ x a wd _ i j h3 (by omega)
  rw [canon_skip _ _ _ (out_cols 1536 _ i j (by omega))]
  by_cases h2 : 1024 ≤ j.val
  · exact piece_apply 1024 _ _ x a wd _ i j h2 (by omega)
  rw [canon_skip _ _ _ (out_cols 1024 _ i j (by omega))]
  by_cases h1 : 512 ≤ j.val
  · exact piece_apply 512 _ _ x a wd _ i j h1 (by omega)
  rw [canon_skip _ _ _ (out_cols 512 _ i j (by omega))]
  exact piece_apply 0 _ _ x a wd _ i j (by omega) (by omega)

end Cert.ExpertsIdeal.Ex
end
-- ==== Proof.Experts.Value.lean ====
module
public import proofs.«01_k».proof.Proof.Experts.TabVal
public import proofs.«01_k».proof.Proof.Experts.Pay
@[expose] public section
set_option maxRecDepth 16384
noncomputable section
namespace Cert.ExpertsIdeal.Ex
open Idealize.ShloMosaic Idealize.ShloMosaic.TcCoe
open Idealize.ShloMosaic.Pipeline (Dat Cfg Window)
open Cert.ExpertsIdeal.Gen Cert.Ffn

section Tables
variable {F : FTy → Type} [FloatOps F]
variable (m : (ℓ : Loc nD τ sig) → Buf (Elt F) ℓ) (ha : TeOk m)

theorem nuOf_eq : nuOf (tbl m) = a1 m 0 (ix1 0) := by
  have e : nuOf (tbl m) = (V m 0 main_arg1 : IVec S1 32) (ix1 0) := by
    show (V m 0 main_arg1 : IVec S1 32) _ = _
    exact congrArg _ (funext fun k => by fin_cases k; rfl)
  rw [e, V_arg1]

/-- A used point's block of rows is its tile's. -/
theorem rowN_used (t : Fin (cfgA m ha).N) (hu : (BitVec.ofNat 32 (t.val / 8)).slt (a1 m 0 (ix1 0)) = true) : rowN m ha t = t.val / 8 := by
  have h8 : t.val / 8 < 96 := by have := (grid0.coords t 0).isLt; rw [coord0 t] at this; exact this
  show (lastW (nuOf (tbl m)) (grid0.coords t 0).val).toNat = _
  rw [nuOf_eq, coord0 t, lastW_used _ _ h8 hu, BitVec.toNat_ofNat]
  omega

/-- A used point's block of hidden columns is its own. -/
theorem fbN_used (t : Fin (cfgA m ha).N) (hu : (BitVec.ofNat 32 (t.val / 8)).slt (a1 m 0 (ix1 0)) = true) : fbN m ha t = t.val % 8 := by
  show (Scalar.select (Scalar.cmpi .slt (BitVec.ofNat 32 (grid0.coords t 0).val) (nuOf (tbl m))) (BitVec.ofNat 32 (grid0.coords t 1).val) 7#32).toNat = _
  rw [nuOf_eq, coord0 t, coord1 t]
  have hs : Scalar.cmpi .slt (BitVec.ofNat 32 (t.val / 8)) (a1 m 0 (ix1 0)) = 1#1 := by
    show BitVec.ofBool _ = 1#1
    rw [hu]; rfl
  rw [hs]
  show (BitVec.ofNat 32 (t.val % 8)).toNat = _
  rw [BitVec.toNat_ofNat]; omega

/-- A used point's expert is its tile's. -/
theorem teN_used (t : Fin (cfgA m ha).N) (hu : (BitVec.ofNat 32 (t.val / 8)).slt (a1 m 0 (ix1 0)) = true) (h8 : t.val / 8 < 96) :
    teN m ha t = (a0 m 0 (ix1 ⟨t.val / 8, h8⟩)).toNat := by
  have e : teOf (tbl m) (grid0.coords t) = (V m 0 main_v22 : IVec S96 32) (ix1 ⟨t.val / 8, h8⟩) := by
    show (V m 0 main_v22 : IVec S96 32) _ = _
    refine congrArg _ (funext fun k => Fin.ext ?_)
    fin_cases k
    show (BitVec.ofNat 32 (grid0.coords t 0).val).toNat + 1 * 0 = t.val / 8
    rw [coord0 t, BitVec.toNat_ofNat]; omega
  show (teOf (tbl m) (grid0.coords t)).toNat = _
  rw [e, v22_apply]
  refine congrArg (fun z : Fin 96 => (a0 m 0 (ix1 z)).toNat) (Fin.ext ?_)
  show (lastW (a1 m 0 (ix1 0)) (t.val / 8)).toNat = _
  rw [lastW_used _ _ h8 hu, BitVec.toNat_ofNat]
  exact Nat.mod_eq_of_lt (by omega)

/-- A point of a used tile is one of a tile below the number of used tiles. -/
theorem used_iff (t : Fin (cfgA m ha).N) : used m ha t ↔ (BitVec.ofNat 32 (t.val / 8)).slt (a1 m 0 (ix1 0)) = true := by
  unfold used
  rw [cond2_iff, coord0 t, show nu m = a1 m 0 from V_arg1 m 0]

end Tables

theorem ex_val (w : BitVec 32) (h : w.toNat < 32) : (ex w).val = w.toNat := by
  show min w.toInt.toNat 31 = _
  rw [BitVec.toInt_eq_toNat_cond, if_pos (by omega)]
  omega

variable (m : (ℓ : Loc nD τ sig) → Buf (Elt Ideal) ℓ) (c : Dev nD)

theorem h2 : V m c main_arg2 = m (c, Proc.devRef .tc main_arg2) := by unfold V; after_reads_simp
theorem h0 (e : Fin 32) (q : Fin 2048) (k : Fin 4096) : ((V m c main_v0 : Vec Ideal S32x2048x4096 .f32) (ix3 e q k) : EReal) = (m (c, Proc.devRef .tc main_arg3) : Vec Ideal S1x32x2048x4096 .f32) (ix4 0 e q k) := by
  unfold V; after_reads_at
theorem h1 (e : Fin 32) (q : Fin 2048) (k : Fin 4096) : ((V m c main_v1 : Vec Ideal S32x2048x4096 .f32) (ix3 e q k) : EReal) = (m (c, Proc.devRef .tc main_arg3) : Vec Ideal S1x32x2048x4096 .f32) (ix4 0 e q k) := by
  unfold V; after_reads_at
theorem h3 (e : Fin 32) (k j : Fin 2048) : ((V m c main_v2 : Vec Ideal S32x2048x2048 .f32) (ix3 e k j) : EReal) = (m (c, Proc.devRef .tc main_arg5) : Vec Ideal S1x32x2048x2048 .f32) (ix4 0 e k j) := by
  unfold V; after_reads_at
theorem h4 (e : Fin 32) (k : Fin 4096) : ((V m c main_v4 : Vec Ideal S32x1x4096 .f32) (ix3 e 0 k) : EReal) = (m (c, Proc.devRef .tc main_arg4) : Vec Ideal S1x32x4096 .f32) (ix3 0 e k) := by
  unfold V; after_reads_at
theorem h5 (e : Fin 32) (k : Fin 4096) : ((V m c main_v6 : Vec Ideal S32x1x4096 .f32) (ix3 e 0 k) : EReal) = (m (c, Proc.devRef .tc main_arg4) : Vec Ideal S1x32x4096 .f32) (ix3 0 e k) := by
  unfold V; after_reads_at
theorem h6 (e : Fin 32) (k : Fin 2048) : ((V m c main_v8 : Vec Ideal S32x1x2048 .f32) (ix3 e 0 k) : EReal) = (m (c, Proc.devRef .tc main_arg6) : Vec Ideal S1x32x2048 .f32) (ix3 0 e k) := by
  unfold V; after_reads_at

/-- The rows, the weights and the biases in memory. -/
abbrev pX : S98304x2048.Idx → EReal := m (c, Proc.devRef .tc main_arg2)
abbrev pW : S1x32x2048x4096.Idx → EReal := m (c, Proc.devRef .tc main_arg3)
abbrev pB : S1x32x4096.Idx → EReal := m (c, Proc.devRef .tc main_arg4)
abbrev pD : S1x32x2048x2048.Idx → EReal := m (c, Proc.devRef .tc main_arg5)
abbrev pE : S1x32x2048.Idx → EReal := m (c, Proc.devRef .tc main_arg6)

section Point
variable (ha : TeOk m) (hx : ∀ i : Fin 96, (a0 m 0 (ix1 i)).toNat < 32)
variable (n : ℕ) (h8 : n < 96) (hu : (BitVec.ofNat 32 n).slt (a1 m 0 (ix1 0)) = true)
variable (t : Fin (cfgA m ha).N) (hn : t.val / 8 = n)
include hx hu hn

/-- A point's expert, as a number below 32. -/
theorem te_eq : (⟨teN m ha t, teN_lt m ha t⟩ : Fin 32) = ex (a0 m 0 (ix1 ⟨n, h8⟩)) := by
  subst hn
  exact Fin.ext ((teN_used m ha t hu h8).trans (ex_val _ (hx _)).symm)

theorem u0 (i : Fin 1024) (q : Fin 2048) : (bx m ha c t (ix2 i q) : EReal) = pX m c (ix2 ⟨n * 1024 + i.val, by omega⟩ q) := by
  have hr : rowN m ha t = n := by subst hn; exact rowN_used m ha t hu
  rw [rd0 m ha c t i q (by rw [hr]; omega), h2]
  exact congrArg (fun z : Fin 98304 => pX m c (ix2 z q)) (Fin.ext (by show rowN m ha t * 1024 + i.val = n * 1024 + i.val; rw [hr]))

theorem u1 (q : Fin 2048) (k : Fin 256) : (bwg m ha c t (ix3 0 q k) : EReal) = pW m c (ix4 0 (ex (a0 m 0 (ix1 ⟨n, h8⟩))) q ⟨t.val % 8 * 256 + k.val, by omega⟩) := by
  have hf : fbN m ha t = t.val % 8 := by subst hn; exact fbN_used m ha t hu
  rw [rd1 m ha c t q k (by rw [hf]; omega), h0, te_eq m ha hx n h8 hu t hn]
  exact congrArg (fun z : Fin 4096 => pW m c (ix4 0 _ q z)) (Fin.ext (by show fbN m ha t * 256 + k.val = _; rw [hf]))

theorem u2 (q : Fin 2048) (k : Fin 256) : (bwu m ha c t (ix3 0 q k) : EReal) = pW m c (ix4 0 (ex (a0 m 0 (ix1 ⟨n, h8⟩))) q ⟨2048 + (t.val % 8 * 256 + k.val), by omega⟩) := by
  have hf : fbN m ha t = t.val % 8 := by subst hn; exact fbN_used m ha t hu
  rw [rd2 m ha c t q k (by rw [hf]; omega), h1, te_eq m ha hx n h8 hu t hn]
  exact congrArg (fun z : Fin 4096 => pW m c (ix4 0 _ q z)) (Fin.ext (by show (8 + fbN m ha t) * 256 + k.val = 2048 + (t.val % 8 * 256 + k.val); rw [hf]; omega))

theorem u3 (k : Fin 256) (j : Fin 2048) : (bwd m ha c t (ix3 0 k j) : EReal) = pD m c (ix4 0 (ex (a0 m 0 (ix1 ⟨n, h8⟩))) ⟨t.val % 8 * 256 + k.val, by omega⟩ j) := by
  have hf : fbN m ha t = t.val % 8 := by subst hn; exact fbN_used m ha t hu
  rw [rd3 m ha c t k j (by rw [hf]; omega), h3, te_eq m ha hx n h8 hu t hn]
  exact congrArg (fun z : Fin 2048 => pD m c (ix4 0 _ z j)) (Fin.ext (by show fbN m ha t * 256 + k.val = _; rw [hf]))

theorem u4 (k : Fin 256) : (bbg m ha c t (ix3 0 0 k) : EReal) = pB m c (ix3 0 (ex (a0 m 0 (ix1 ⟨n, h8⟩))) ⟨t.val % 8 * 256 + k.val, by omega⟩) := by
  have hf : fbN m ha t = t.val % 8 := by subst hn; exact fbN_used m ha t hu
  rw [rd4 m ha c t k (by rw [hf]; omega), h4, te_eq m ha hx n h8 hu t hn]
  exact congrArg (fun z : Fin 4096 => pB m c (ix3 0 _ z)) (Fin.ext (by show fbN m ha t * 256 + k.val = _; rw [hf]))

theorem u5 (k : Fin 256) : (bbu m ha c t (ix3 0 0 k) : EReal) = pB m c (ix3 0 (ex (a0 m 0 (ix1 ⟨n, h8⟩))) ⟨2048 + (t.val % 8 * 256 + k.val), by omega⟩) := by
  have hf : fbN m ha t = t.val % 8 := by subst hn; exact fbN_used m ha t hu
  rw [rd5 m ha c t k (by rw [hf]; omega), h5, te_eq m ha hx n h8 hu t hn]
  exact congrArg (fun z : Fin 4096 => pB m c (ix3 0 _ z)) (Fin.ext (by show (8 + fbN m ha t) * 256 + k.val = 2048 + (t.val % 8 * 256 + k.val); rw [hf]; omega))

theorem u6 (j : Fin 2048) : (bbd m ha c t (ix3 0 0 j) : EReal) = pE m c (ix3 0 (ex (a0 m 0 (ix1 ⟨n, h8⟩))) j) := by
  rw [rd6 m ha c t j, h6, te_eq m ha hx n h8 hu t hn]

/-- A point's activations. -/
theorem actAt_apply (i : Fin 1024) (k : Fin 256) : (actAt m ha c t (ix2 i k) : EReal)
    = hid (pX m c) (pW m c) (pB m c) (ex (a0 m 0 (ix1 ⟨n, h8⟩))) ⟨n * 1024 + i.val, by omega⟩ ⟨t.val % 8 * 256 + k.val, by omega⟩ := by
  have ex0 (q : Fin 2048) : (xbAt m ha c t (ix2 i q) : EReal) = pX m c (ix2 ⟨n * 1024 + i.val, by omega⟩ q) := by
    refine Eq.trans ?_ (u0 m c ha hx n h8 hu t hn i q)
    pointwise [xbAt, k0_pay4]
  unfold actAt hid
  rw [act_apply, u4 m c ha hx n h8 hu t hn, u5 m c ha hx n h8 hu t hn]
  simp only [ex0, u1 m c ha hx n h8 hu t hn, u2 m c ha hx n h8 hu t hn]

omit hx hu hn in
/-- Hidden column `k`'s share of an output entry, zero past the last. -/
def term (e : Fin 32) (r : Fin 98304) (j : Fin 2048) (k : ℕ) : EReal :=
  if h : k < 2048 then hid (pX m c) (pW m c) (pB m c) e r ⟨k, h⟩ * pD m c (ix4 0 e ⟨k, h⟩ j) else 0

/-- A point adds its 256 hidden columns' shares. -/
theorem step_apply (o : Vec Ideal S1024x2048 .f32) (i : Fin 1024) (j : Fin 2048) :
    (oacc (F := Ideal) o (actAt m ha c t) (bwd m ha c t) (ix2 i j) : EReal)
      = o (ix2 i j) + ∑ k ∈ Finset.range 256, term m c (ex (a0 m 0 (ix1 ⟨n, h8⟩))) ⟨n * 1024 + i.val, by omega⟩ j (t.val % 8 * 256 + k) := by
  rw [oacc_apply, Finset.sum_range]
  refine congrArg (_ + ·) (Finset.sum_congr rfl fun k _ => ?_)
  rw [actAt_apply m c ha hx n h8 hu t hn, u3 m c ha hx n h8 hu t hn]
  unfold term
  rw [dif_pos (by omega)]

end Point

variable (ha : TeOk m) (hx : ∀ i : Fin 96, (a0 m 0 (ix1 i)).toNat < 32)

include hx in
/-- The running tile after each of its eight points. -/
theorem acc_apply (n : ℕ) (h8 : n < 96) (hu : (BitVec.ofNat 32 n).slt (a1 m 0 (ix1 0)) = true) (i : Fin 1024) (j : Fin 2048) : ∀ (f : ℕ) (t : Fin (cfgA m ha).N), f < 8 → t.val = 8 * n + f →
    (accN m ha c t.val t.isLt (ix2 i j) : EReal) = pE m c (ix3 0 (ex (a0 m 0 (ix1 ⟨n, h8⟩))) j)
      + ∑ k ∈ Finset.range (f * 256 + 256), term m c (ex (a0 m 0 (ix1 ⟨n, h8⟩))) ⟨n * 1024 + i.val, by omega⟩ j k := by
  intro f
  induction f with
  | zero =>
    intro t _ ht
    rw [accN_first m ha c t (by omega), step_apply m c ha hx n h8 hu t (by omega), pay12_apply, u6 m c ha hx n h8 hu t (by omega)]
    refine congrArg (_ + ·) ?_
    rw [show t.val % 8 = 0 by omega]
    simp only [Nat.zero_mul, Nat.zero_add]
  | succ f ih =>
    intro t hf ht
    have hlt : t.val - 1 < (cfgA m ha).N := lt_of_le_of_lt (Nat.sub_le _ _) t.isLt
    rw [accN_rest m ha c t (by omega), step_apply m c ha hx n h8 hu t (by omega), ih ⟨t.val - 1, hlt⟩ (by omega) (by show t.val - 1 = _; omega),
      add_assoc, show t.val % 8 * 256 = f * 256 + 256 by omega, ← Finset.sum_range_add, show (f + 1) * 256 + 256 = f * 256 + 256 + 256 by omega]

include hx in
/-- A finished tile's entry. -/
theorem out_apply (t : Fin (cfgA m ha).N) (ht : t.val % 8 = 7) (hr : ∀ i : Fin 1024, t.val / 8 * 1024 + i.val < 98304) (i : Fin 1024) (j : Fin 2048) :
    (outAt m ha c t (ix2 i j) : EReal) = ffn (a0 m 0) (a1 m 0) (pX m c) (pW m c) (pB m c) (pD m c) (pE m c) ⟨t.val / 8 * 1024 + i.val, hr i⟩ j := by
  have h8 : t.val / 8 < 96 := by have := hr i; omega
  have hq : (t.val / 8 * 1024 + i.val) / 1024 = t.val / 8 := by omega
  have hi : ∀ p, (⟨(t.val / 8 * 1024 + i.val) / 1024, p⟩ : Fin 96) = ⟨t.val / 8, h8⟩ := fun p => Fin.ext hq
  unfold outAt ffn
  simp only [hi, hq]
  by_cases hu : (BitVec.ofNat 32 (t.val / 8)).slt (a1 m 0 (ix1 0)) = true
  · rw [if_pos ((used_iff m ha t).2 hu), if_pos hu, acc_apply m c ha hx (t.val / 8) h8 hu i j 7 t (by omega) (by omega), add_comm]
    refine congrArg (· + _) ?_
    rw [show 7 * 256 + 256 = 2048 from rfl, Finset.sum_range]
    refine Finset.sum_congr rfl fun k _ => ?_
    unfold term
    rw [dif_pos k.isLt]
  · rw [if_neg (fun h => hu ((used_iff m ha t).1 h)), if_neg hu]
    exact pay1_apply i j

/-- The result, entry by entry. -/
def G7 : Buf (Elt Ideal) ((c : Thread nD τ).loc main_v23) := fun i : S98304x2048.Idx =>
  ffn (a0 m 0) (a1 m 0) (pX m c) (pW m c) (pB m c) (pD m c) (pE m c) (i 0) (i 1)

theorem N_768 : (cfgA m ha).N = 768 := by
  show grid0.N = 768
  decide

include hx in
theorem flushed7 (t : Fin (cfgA m ha).N) (hf : ((cfgA m ha).win 7).flush t = true) : (dats m ha 0 c).flushed 7 t = (((cfgA m ha).win 7).blk t).view.read (Elt Ideal) (G7 m c) := by
  have h7 : t.val % 8 = 7 := by rw [flush7] at hf; exact of_decide_eq_true hf
  have hN : t.val < 768 := lt_of_lt_of_eq t.isLt (N_768 m ha)
  show ((cfgA m ha).win 7).cut (grid0.coords t) ((dats m ha 0 c).after 7 t) = _
  rw [after_7]
  funext (y : S1024x2048.Idx)
  obtain ⟨z, hz⟩ : ∃ z : S98304x2048.Idx, z = (((cfgA m ha).win 7).blk t).view.emb y := ⟨_, rfl⟩
  have hb0 : (z 0).val = ((pcfg0 (F := Ideal)).win (adm m ha) 7).index t (0 : Fin 2) * 1024 + 1 * (y 0).val := by rw [hz]; rfl
  have hb1 : (z 1).val = ((pcfg0 (F := Ideal)).win (adm m ha) 7).index t (1 : Fin 2) * 2048 + 1 * (y 1).val := by rw [hz]; rfl
  rw [ixw7 m ha t] at hb0 hb1
  have hb0 : (z 0).val = t.val / 8 * 1024 + (y 0).val := hb0.trans (by simp)
  have hb1 : (z 1).val = (y 1).val := hb1.trans (by simp)
  show outAt m ha c t (((cfgA m ha).win 7).xinj (grid0.coords t) y) = G7 m c ((((cfgA m ha).win 7).blk t).view.emb y)
  refine Eq.trans ?_ (congrArg (G7 m c) hz)
  have e := out_apply m c ha hx t h7 (fun i => by omega) (y 0) (y 1)
  refine Eq.trans (congrArg _ ?_) (e.trans ?_)
  · funext a; fin_cases a <;> rfl
  · unfold G7
    exact congrArg₂ (ffn (a0 m 0) (a1 m 0) (pX m c) (pW m c) (pB m c) (pD m c) (pE m c)) (Fin.ext hb0.symm) (Fin.ext hb1.symm)

theorem mem_blk7 (t : Fin (cfgA m ha).N) (i : S98304x2048.Idx) :
    i ∈ (((cfgA m ha).win 7).blk t).view.set ↔ ∀ a : Fin 2, ((pcfg0 (F := Ideal)).win (adm m ha) 7).index t a * S1024x2048.size a ≤ (i a).val ∧ (i a).val < ((pcfg0 (F := Ideal)).win (adm m ha) 7).index t a * S1024x2048.size a + S1024x2048.size a := by
  show i ∈ ((View.whole main_v23).slice (((pcfg0 (F := Ideal)).win (adm m ha) 7).rect t)).set ↔ _
  rw [View.set_slice_whole, Rect.mem_set_unit]
  exact Iff.rfl

include hx in
/-- The result after the run. -/
theorem final7 : (dats m ha 0 c).arrAt 7 (cfgA m ha).N = G7 m c :=
  (dats m ha 0 c).arrAt_eq_of_cover 7 _ (fun t hf => flushed7 m c ha hx t hf) fun (i : S98304x2048.Idx) => by
    have h0 : (i 0).val < 98304 := (i 0).isLt
    have h1 : (i 1).val < 2048 := (i 1).isLt
    have hN : (cfgA m ha).N = 768 := N_768 m ha
    refine ⟨⟨(i 0).val / 1024 * 8 + 7, by omega⟩, (flush7 m ha _).trans (decide_eq_true (by show ((i 0).val / 1024 * 8 + 7) % 8 = 7; omega)), (mem_blk7 m ha _ i).2 ?_⟩
    rw [ixw7]; intro a
    fin_cases a
    · show ((i 0).val / 1024 * 8 + 7) / 8 * 1024 ≤ (i 0).val ∧ (i 0).val < ((i 0).val / 1024 * 8 + 7) / 8 * 1024 + 1024
      omega
    · show 0 * 2048 ≤ (i 1).val ∧ (i 1).val < 0 * 2048 + 2048
      omega

end Cert.ExpertsIdeal.Ex
end
-- ==== Proof.Experts.Take.lean ====
module
public import proofs.«01_k».proof.Proof.Gen.ExpertsRefIdeal.Run
public import proofs.«01_k».proof.Proof.Experts.Spec
@[expose] public section
set_option maxRecDepth 16384
noncomputable section
namespace Cert.ExpertsRefIdeal.Ex
open Idealize.ShloMosaic Idealize.ShloMosaic.TcCoe Cert.ExpertsRefIdeal Cert.ExpertsRefIdeal.Gen Cert.Ffn

/-- A tile's first weight is the matrix of its expert. -/
theorem take_w (x : FVec Ideal S32x2048x4096 .f32) (u0 u1 u2 : IVec S96x1 32) (i : Fin 96) (q : Fin 2048) (k : Fin 4096) :
    (Host.gather gather_S32x2048x4096_S96x3_S96x1x2048x4096_123_n_n_n_012_1_120484096 x (Value.fn_main_v16 (F := Ideal) u0 u1 u2) (ix4 i 0 q k) : EReal) = x (ix3 (ex (u0 (ix2 i 0))) q k) := by
  have e0 : Value.fn_main_v16 (F := Ideal) u0 u1 u2 (ix2 i 0) = u0 (ix2 i 0) := by unfold Value.fn_main_v16; pointwise
  generalize Value.fn_main_v16 (F := Ideal) u0 u1 u2 = idx at e0
  unfold Host.gather
  congr 1
  funext a
  refine Fin.ext ?_
  show GatherDims.start _ (ix4 i 0 q k) idx a + GatherDims.batchCoord _ (ix4 i 0 q k) a + GatherDims.offCoord _ (ix4 i 0 q k) a = _
  rw [GatherDims.batchCoord_eq_zero _ _ _ List.not_mem_nil]
  unfold GatherDims.start
  have ha : ∀ b : Fin 3, b = 0 ∨ b = 1 ∨ b = 2 := by decide
  rcases ha a with rfl | rfl | rfl
  · rw [dif_pos (show (0 : Fin 3) ∈ (gather_S32x2048x4096_S96x3_S96x1x2048x4096_123_n_n_n_012_1_120484096).startIndexMap by decide), ← e0]
    have hsi : (gather_S32x2048x4096_S96x3_S96x1x2048x4096_123_n_n_n_012_1_120484096).siIdx (ix4 i 0 q k) ⟨List.idxOf (0 : Fin 3) (gather_S32x2048x4096_S96x3_S96x1x2048x4096_123_n_n_n_012_1_120484096).startIndexMap, List.idxOf_lt_length_iff.2 (by decide)⟩ = ix2 i 0 := by
      funext b; refine Fin.ext ?_
      match b with
      | ⟨0, _⟩ => rfl
      | ⟨1, _⟩ => rfl
    rw [hsi]
    rfl
  · rw [dif_pos (show (1 : Fin 3) ∈ (gather_S32x2048x4096_S96x3_S96x1x2048x4096_123_n_n_n_012_1_120484096).startIndexMap by decide)]
    show min _ 0 + 0 + q.val = q.val
    omega
  · rw [dif_pos (show (2 : Fin 3) ∈ (gather_S32x2048x4096_S96x3_S96x1x2048x4096_123_n_n_n_012_1_120484096).startIndexMap by decide)]
    show min _ 0 + 0 + k.val = k.val
    omega

/-- A tile's first bias is the row of its expert. -/
theorem take_b (x : FVec Ideal S32x4096 .f32) (u0 u1 : IVec S96x1 32) (i : Fin 96) (k : Fin 4096) :
    (Host.gather gather_S32x4096_S96x2_S96x1x4096_12_n_n_n_01_1_14096 x (Value.fn_main_v31 (F := Ideal) u0 u1) (ix3 i 0 k) : EReal) = x (ix2 (ex (u0 (ix2 i 0))) k) := by
  have e0 : Value.fn_main_v31 (F := Ideal) u0 u1 (ix2 i 0) = u0 (ix2 i 0) := by unfold Value.fn_main_v31; pointwise
  generalize Value.fn_main_v31 (F := Ideal) u0 u1 = idx at e0
  unfold Host.gather
  congr 1
  funext a
  refine Fin.ext ?_
  show GatherDims.start _ (ix3 i 0 k) idx a + GatherDims.batchCoord _ (ix3 i 0 k) a + GatherDims.offCoord _ (ix3 i 0 k) a = _
  rw [GatherDims.batchCoord_eq_zero _ _ _ List.not_mem_nil]
  unfold GatherDims.start
  have ha : ∀ b : Fin 2, b = 0 ∨ b = 1 := by decide
  rcases ha a with rfl | rfl
  · rw [dif_pos (show (0 : Fin 2) ∈ (gather_S32x4096_S96x2_S96x1x4096_12_n_n_n_01_1_14096).startIndexMap by decide), ← e0]
    have hsi : (gather_S32x4096_S96x2_S96x1x4096_12_n_n_n_01_1_14096).siIdx (ix3 i 0 k) ⟨List.idxOf (0 : Fin 2) (gather_S32x4096_S96x2_S96x1x4096_12_n_n_n_01_1_14096).startIndexMap, List.idxOf_lt_length_iff.2 (by decide)⟩ = ix2 i 0 := by
      funext b; refine Fin.ext ?_
      match b with
      | ⟨0, _⟩ => rfl
      | ⟨1, _⟩ => rfl
    rw [hsi]
    rfl
  · rw [dif_pos (show (1 : Fin 2) ∈ (gather_S32x4096_S96x2_S96x1x4096_12_n_n_n_01_1_14096).startIndexMap by decide)]
    show min _ 0 + 0 + k.val = k.val
    omega

/-- A tile's second weight is the matrix of its expert. -/
theorem take_d (x : FVec Ideal S32x2048x2048 .f32) (u0 u1 u2 : IVec S96x1 32) (i : Fin 96) (q : Fin 2048) (k : Fin 2048) :
    (Host.gather gather_S32x2048x2048_S96x3_S96x1x2048x2048_123_n_n_n_012_1_120482048 x (Value.fn_main_v69 (F := Ideal) u0 u1 u2) (ix4 i 0 q k) : EReal) = x (ix3 (ex (u0 (ix2 i 0))) q k) := by
  have e0 : Value.fn_main_v69 (F := Ideal) u0 u1 u2 (ix2 i 0) = u0 (ix2 i 0) := by unfold Value.fn_main_v69; pointwise
  generalize Value.fn_main_v69 (F := Ideal) u0 u1 u2 = idx at e0
  unfold Host.gather
  congr 1
  funext a
  refine Fin.ext ?_
  show GatherDims.start _ (ix4 i 0 q k) idx a + GatherDims.batchCoord _ (ix4 i 0 q k) a + GatherDims.offCoord _ (ix4 i 0 q k) a = _
  rw [GatherDims.batchCoord_eq_zero _ _ _ List.not_mem_nil]
  unfold GatherDims.start
  have ha : ∀ b : Fin 3, b = 0 ∨ b = 1 ∨ b = 2 := by decide
  rcases ha a with rfl | rfl | rfl
  · rw [dif_pos (show (0 : Fin 3) ∈ (gather_S32x2048x2048_S96x3_S96x1x2048x2048_123_n_n_n_012_1_120482048).startIndexMap by decide), ← e0]
    have hsi : (gather_S32x2048x2048_S96x3_S96x1x2048x2048_123_n_n_n_012_1_120482048).siIdx (ix4 i 0 q k) ⟨List.idxOf (0 : Fin 3) (gather_S32x2048x2048_S96x3_S96x1x2048x2048_123_n_n_n_012_1_120482048).startIndexMap, List.idxOf_lt_length_iff.2 (by decide)⟩ = ix2 i 0 := by
      funext b; refine Fin.ext ?_
      match b with
      | ⟨0, _⟩ => rfl
      | ⟨1, _⟩ => rfl
    rw [hsi]
    rfl
  · rw [dif_pos (show (1 : Fin 3) ∈ (gather_S32x2048x2048_S96x3_S96x1x2048x2048_123_n_n_n_012_1_120482048).startIndexMap by decide)]
    show min _ 0 + 0 + q.val = q.val
    omega
  · rw [dif_pos (show (2 : Fin 3) ∈ (gather_S32x2048x2048_S96x3_S96x1x2048x2048_123_n_n_n_012_1_120482048).startIndexMap by decide)]
    show min _ 0 + 0 + k.val = k.val
    omega

/-- A tile's second bias is the row of its expert. -/
theorem take_e (x : FVec Ideal S32x2048 .f32) (u0 u1 : IVec S96x1 32) (i : Fin 96) (k : Fin 2048) :
    (Host.gather gather_S32x2048_S96x2_S96x1x2048_12_n_n_n_01_1_12048 x (Value.fn_main_v84 (F := Ideal) u0 u1) (ix3 i 0 k) : EReal) = x (ix2 (ex (u0 (ix2 i 0))) k) := by
  have e0 : Value.fn_main_v84 (F := Ideal) u0 u1 (ix2 i 0) = u0 (ix2 i 0) := by unfold Value.fn_main_v84; pointwise
  generalize Value.fn_main_v84 (F := Ideal) u0 u1 = idx at e0
  unfold Host.gather
  congr 1
  funext a
  refine Fin.ext ?_
  show GatherDims.start _ (ix3 i 0 k) idx a + GatherDims.batchCoord _ (ix3 i 0 k) a + GatherDims.offCoord _ (ix3 i 0 k) a = _
  rw [GatherDims.batchCoord_eq_zero _ _ _ List.not_mem_nil]
  unfold GatherDims.start
  have ha : ∀ b : Fin 2, b = 0 ∨ b = 1 := by decide
  rcases ha a with rfl | rfl
  · rw [dif_pos (show (0 : Fin 2) ∈ (gather_S32x2048_S96x2_S96x1x2048_12_n_n_n_01_1_12048).startIndexMap by decide), ← e0]
    have hsi : (gather_S32x2048_S96x2_S96x1x2048_12_n_n_n_01_1_12048).siIdx (ix3 i 0 k) ⟨List.idxOf (0 : Fin 2) (gather_S32x2048_S96x2_S96x1x2048_12_n_n_n_01_1_12048).startIndexMap, List.idxOf_lt_length_iff.2 (by decide)⟩ = ix2 i 0 := by
      funext b; refine Fin.ext ?_
      match b with
      | ⟨0, _⟩ => rfl
      | ⟨1, _⟩ => rfl
    rw [hsi]
    rfl
  · rw [dif_pos (show (1 : Fin 2) ∈ (gather_S32x2048_S96x2_S96x1x2048_12_n_n_n_01_1_12048).startIndexMap by decide)]
    show min _ 0 + 0 + k.val = k.val
    omega

end Cert.ExpertsRefIdeal.Ex
end
-- ==== Proof.Experts.RefVal.lean ====
module
public import proofs.«01_k».proof.Proof.Gen.ExpertsRefIdeal.Run
public import proofs.«01_k».proof.Proof.Experts.Take
public import Idealize.ShloMosaic.Lib.StableHlo.ReadAt
public import Idealize.ShloMosaic.Lib.IdealHost
@[expose] public section
set_option maxRecDepth 16384
noncomputable section
namespace Cert.ExpertsRefIdeal.Ex
open Idealize.ShloMosaic Idealize.ShloMosaic.TcCoe Idealize.SL.Sem Cert.ExpertsRefIdeal Cert.ExpertsRefIdeal.Gen Cert.Ffn
open Idealize.ShloMosaic.StableHlo
variable (m : (ℓ : Loc nD τ sig) → Buf (Elt Ideal) ℓ) (c : Dev nD)

/-- The experts' table in memory. -/
abbrev a0 : IVec S96 32 := m (c, Proc.devRef .tc main_arg0)

/-- An entry of the table with the negative ones counted from the end is itself when it is not negative. -/
theorem wrap_apply (t : IVec S96 32) (i : Fin 96) (h : (t (ix1 i)).toNat < 32) :
    broadcastInDim S96x1 ![0] bcast_S96_S96x1_0 (select (cmpi .slt t (broadcastInDim S96 ![] bcast_S_S96 (constantI S_ 32 0#32)))
      (addi t (broadcastInDim S96 ![] bcast_S_S96 (constantI S_ 32 32#32))) t) (ix2 i 0) = t (ix1 i) := by
  pointwise
  generalize t (ix1 i) = w at h ⊢
  have hn : w.slt 0#32 = false := by
    rw [BitVec.slt, BitVec.toInt_eq_toNat_cond, if_pos (by omega)]
    simp
  have hf : IntOp.cmpi .slt w 0#32 = 0#1 := by
    show BitVec.ofBool (w.slt 0#32) = 0#1
    rw [hn]; rfl
  rw [hf]; rfl

/-- The experts the first weights are taken for. -/
theorem i13 (i : Fin 96) (h : (a0 m c (ix1 i)).toNat < 32) : (upto Value.ops (fun b => m (c, b)) 26 (Proc.devRef .tc main_v13) : IVec S96x1 32) (ix2 i 0) = a0 m c (ix1 i) := by
  have e : (upto Value.ops (fun b => m (c, b)) 26 (Proc.devRef .tc main_v13) : IVec S96x1 32)
      = broadcastInDim S96x1 ![0] bcast_S96_S96x1_0 (select (cmpi .slt (a0 m c) (broadcastInDim S96 ![] bcast_S_S96 (constantI S_ 32 0#32)))
        (addi (a0 m c) (broadcastInDim S96 ![] bcast_S_S96 (constantI S_ 32 32#32))) (a0 m c)) := by
    after_reads_simp
  rw [e]
  exact wrap_apply _ i h

/-- The experts the second weights are taken for. -/
theorem i66 (i : Fin 96) (h : (a0 m c (ix1 i)).toNat < 32) : (upto Value.ops (fun b => m (c, b)) 110 (Proc.devRef .tc main_v66) : IVec S96x1 32) (ix2 i 0) = a0 m c (ix1 i) := by
  have e : (upto Value.ops (fun b => m (c, b)) 110 (Proc.devRef .tc main_v66) : IVec S96x1 32)
      = broadcastInDim S96x1 ![0] bcast_S96_S96x1_0 (select (cmpi .slt (a0 m c) (broadcastInDim S96 ![] bcast_S_S96 (constantI S_ 32 0#32)))
        (addi (a0 m c) (broadcastInDim S96 ![] bcast_S_S96 (constantI S_ 32 32#32))) (a0 m c)) := by
    after_reads_simp
  rw [e]
  exact wrap_apply _ i h

/-- A choice by a signed comparison. -/
theorem sel (a b : BitVec 32) (x y : EReal) : Scalar.select (IntOp.cmpi .slt a b) x y = if a.slt b = true then x else y := by
  show Scalar.select (BitVec.ofBool (a.slt b)) x y = _
  cases a.slt b <;> rfl

/-- The result, entry by entry. -/
theorem v96 (r : Fin 98304) (j : Fin 2048) (h : (a0 m c (ix1 ⟨r.val / 1024, by omega⟩)).toNat < 32) :
    (after Value.ops (fun b => m (c, b)) (Proc.devRef .tc main_v96) : FVec Ideal S98304x2048 .f32) (ix2 r j)
    = (ffn (a0 m c) (m (c, Proc.devRef .tc main_arg1)) (m (c, Proc.devRef .tc main_arg2)) (m (c, Proc.devRef .tc main_arg3)) (m (c, Proc.devRef .tc main_arg4))
        (m (c, Proc.devRef .tc main_arg5)) (m (c, Proc.devRef .tc main_arg6)) r j : EReal) := by
  have e1 := i13 m c ⟨r.val / 1024, by omega⟩ h
  change (unary main_v6 main_v13 (broadcastInDim S96x1 ![0] bcast_S96_S96x1_0 : (⟨S96, .i32⟩ : BufTy).Contents (Elt Ideal) → (⟨S96x1, .i32⟩ : BufTy).Contents (Elt Ideal))).result (upto Value.ops (fun b => m (c, b)) 25) (Proc.devRef .tc main_v13) (ix2 _ 0) = _ at e1
  have e2 := wrap_apply (a0 m c) ⟨r.val / 1024, by omega⟩ h
  have e3 := i66 m c ⟨r.val / 1024, by omega⟩ h
  change (unary main_v59 main_v66 (broadcastInDim S96x1 ![0] bcast_S96_S96x1_0 : (⟨S96, .i32⟩ : BufTy).Contents (Elt Ideal) → (⟨S96x1, .i32⟩ : BufTy).Contents (Elt Ideal))).result (upto Value.ops (fun b => m (c, b)) 109) (Proc.devRef .tc main_v66) (ix2 _ 0) = _ at e3
  have hr : ∀ p, (⟨r.val / 1024 * 1024 + r.val % 1024, p⟩ : Fin 98304) = r := fun p => Fin.ext (Nat.div_add_mod' _ _)
  after_reads_at
  simp only [take_w, take_b, take_d, take_e, e1, e2, e3, hr]
  refine (sel _ _ _ _).trans ?_
  unfold ffn
  refine if_congr Iff.rfl (congrArg₂ (· + ·) (Finset.sum_congr rfl fun k _ => congrArg₂ (· * ·) ?_ rfl) rfl) Ideal.ofBits_zero_f32
  unfold hid glu Ideal.logistic
  rfl

/-- The reference's run: its result, its arguments as they were. -/
theorem ref_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v96) = after Value.ops (fun b => m (c, b)) (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine θ_run_mono (run_seq Value.scopedRefs_eq Value.scopedSems_eq defs main (fun _ => Value.ops) Value.main_eq (fun _ => Value.ops_sub) m ρ) fun r h c => ?_
  exact ⟨h c main_v96, (h c main_arg0).trans (by after_reads_simp), (h c main_arg1).trans (by after_reads_simp), (h c main_arg2).trans (by after_reads_simp),
    (h c main_arg3).trans (by after_reads_simp), (h c main_arg4).trans (by after_reads_simp), (h c main_arg5).trans (by after_reads_simp), (h c main_arg6).trans (by after_reads_simp)⟩

end Cert.ExpertsRefIdeal.Ex
end
-- ==== Proof.Experts.Claims.lean ====
module
public import proofs.«01_k».proof.Defs
public import proofs.«01_k».proof.Proof.Experts.RunD
public import proofs.«01_k».proof.Proof.Experts.Value
public import proofs.«01_k».proof.Proof.Experts.RefVal
public import proofs.«01_k».proof.Proof.Gen.Experts.Launch
public import proofs.«01_k».proof.Proof.Gen.Pre_experts_exist
public import Idealize.ShloMosaic.Lib.Quiescent
public import Idealize.ShloMosaic.Lib.ReduceAll
@[expose] public section
set_option maxRecDepth 16384
noncomputable section
namespace Cert.Ffn
open Idealize.ShloMosaic Idealize.ShloMosaic.StableHlo Idealize.SL.Sem

/-- The precondition says of every tile that the expert it names is one of the thirty-two. -/
theorem exist_of {F : FTy → Type} [FloatOps F] (x0 : IVec Pre_experts_exist.S96 32) (x1 : IVec Pre_experts_exist.S1 32) (x2 : FVec F Pre_experts_exist.S98304x2048 .f32)
    (x3 : FVec F Pre_experts_exist.S1x32x2048x4096 .f32) (x4 : FVec F Pre_experts_exist.S1x32x4096 .f32) (x5 : FVec F Pre_experts_exist.S1x32x2048x2048 .f32)
    (x6 : FVec F Pre_experts_exist.S1x32x2048 .f32) (h : Pre_experts_exist.fn x0 x1 x2 x3 x4 x5 x6 = fun _ => 1#1) (i : Fin 96) : (x0 (ix1 i)).toNat < 32 := by
  haveI : Subsingleton Pre_experts_exist.S_.Idx := ⟨fun a b => funext fun k => k.elim0⟩
  have e := Host.reduce_andi_all _ _ _ _ _ (congrFun h (fun k => k.elim0)) (ix1 i)
  have e : IntOp.andi (BitVec.ofBool ((0#32).sle (x0 (ix1 i)))) (BitVec.ofBool ((x0 (ix1 i)).slt 32#32)) = 1#1 := e
  revert e
  generalize x0 (ix1 i) = w
  have hc : ∀ p q : Bool, IntOp.andi (BitVec.ofBool p) (BitVec.ofBool q) = 1#1 → p = true ∧ q = true := by decide
  intro e
  obtain ⟨h1, h2⟩ := hc _ _ e
  rw [BitVec.sle, decide_eq_true_eq, show (0#32).toInt = 0 from rfl, BitVec.toInt_eq_toNat_cond] at h1
  rw [BitVec.slt, decide_eq_true_eq, show (32#32).toInt = 32 from rfl, BitVec.toInt_eq_toNat_cond] at h2
  have := w.isLt
  split at h1 <;> omega

section Run
variable {F : FTy → Type} [FloatOps F] (m : (ℓ : Loc ExpertsIdeal.nD ExpertsIdeal.τ ExpertsIdeal.sig) → Buf (Elt F) ℓ)
open ExpertsIdeal ExpertsIdeal.Ex

theorem k0 (c : Dev nD) : V m c main_arg0 = m ((c.tc : Thread nD τ).loc main_arg0) := by unfold V; after_reads_simp
theorem k3 (c : Dev nD) : V m c main_arg3 = m ((c.tc : Thread nD τ).loc main_arg3) := by unfold V; after_reads_simp
theorem k4 (c : Dev nD) : V m c main_arg4 = m ((c.tc : Thread nD τ).loc main_arg4) := by unfold V; after_reads_simp
theorem k5 (c : Dev nD) : V m c main_arg5 = m ((c.tc : Thread nD τ).loc main_arg5) := by unfold V; after_reads_simp
theorem k6 (c : Dev nD) : V m c main_arg6 = m ((c.tc : Thread nD τ).loc main_arg6) := by unfold V; after_reads_simp
theorem k2 (c : Dev nD) : V m c main_arg2 = m ((c.tc : Thread nD τ).loc main_arg2) := by unfold V; after_reads_simp

theorem main_arg0_rest : main_arg0 ∈ Pipeline.restRefs sig spec0 := Pipeline.mem_restRefs_of main_arg0 (by decide) (by decide)
theorem main_arg1_rest : main_arg1 ∈ Pipeline.restRefs sig spec0 := Pipeline.mem_restRefs_of main_arg1 (by decide) (by decide)
theorem main_arg3_rest : main_arg3 ∈ Pipeline.restRefs sig spec0 := Pipeline.mem_restRefs_of main_arg3 (by decide) (by decide)
theorem main_arg4_rest : main_arg4 ∈ Pipeline.restRefs sig spec0 := Pipeline.mem_restRefs_of main_arg4 (by decide) (by decide)
theorem main_arg5_rest : main_arg5 ∈ Pipeline.restRefs sig spec0 := Pipeline.mem_restRefs_of main_arg5 (by decide) (by decide)
theorem main_arg6_rest : main_arg6 ∈ Pipeline.restRefs sig spec0 := Pipeline.mem_restRefs_of main_arg6 (by decide) (by decide)

/-- At any floats and any tiles naming experts that exist the call runs, leaves its array at what the proof data says,
    keeps its arguments, and every counter ends at zero. -/
theorem run_all (g : Dev nD → PrngReg) (ha : TeOk m) :
    θ_run (ExpertsIdeal.defs (F := F)) (onTc (τ := τ) (ExpertsIdeal.main (F := F))) ⟨m, fun _ => 0, g⟩ (fun r => (∀ c : Dev nD,
      r.2.mem ((c.tc : Thread nD τ).loc main_v23) = (dats m ha 0 c).arrAt 7 (cfgA m ha).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_mono (run_main m g ha) fun r h => ⟨fun c =>
    ⟨(h.1 c).1 7,
      ((h.1 c).2 main_arg0 (main_arg0_rest)).trans (k0 m c),
      ((h.1 c).2 main_arg1 (main_arg1_rest)).trans (V_arg1 m c),
      ((h.1 c).1 0).trans (((dats m ha 0 c).arrAt_in 0 rfl _).trans ((A_eq m ha c 0).trans (k2 m c))),
      ((h.1 c).2 main_arg3 (main_arg3_rest)).trans (k3 m c),
      ((h.1 c).2 main_arg4 (main_arg4_rest)).trans (k4 m c),
      ((h.1 c).2 main_arg5 (main_arg5_rest)).trans (k5 m c),
      ((h.1 c).2 main_arg6 (main_arg6_rest)).trans (k6 m c)⟩, h.2⟩

end Run

/-- The kernel and its idealization have the same bodies. -/
theorem defs₀_same : Experts.defs₀ (F := Bits) = ExpertsIdeal.defs₀ (F := Bits) := by
  unfold Experts.defs₀ ExpertsIdeal.defs₀
  congr 1
  funext n x
  match n, x with
  | 0, x => exact rfl

/-- So they have the same calls. -/
theorem defs_same : Experts.defs (F := Bits) = ExpertsIdeal.defs (F := Bits) := by
  unfold Experts.defs ExpertsIdeal.defs
  rw [defs₀_same]
  rfl

/-- And the same program. -/
theorem main_same : Experts.main (F := Bits) = ExpertsIdeal.main (F := Bits) := by
  funext c; rw [Experts.Gen.main_chain, ExpertsIdeal.Gen.main_chain]; rfl

/-- The experts' call runs, keeps its arguments, and leaves every counter at zero. -/
theorem frame_kernel : Cert.quiescent_Experts := fun m g hm => by
  have h := θ_run_mono (run_all (F := Bits) m g (ExpertsIdeal.Ex.teOk_of m (exist_of _ _ _ _ _ _ _ (hm 0)))) fun _ h => (⟨fun c => (h.1 c).2, h.2⟩ : _ ∧ _)
  rw [← defs_same, ← main_same] at h
  exact h

/-- So does its idealization. -/
theorem frame_ideal : Cert.quiescent_ExpertsIdeal := fun m g hm =>
  θ_run_mono (run_all (F := Ideal) m g (ExpertsIdeal.Ex.teOk_of m (exist_of _ _ _ _ _ _ _ (hm 0)))) fun _ h => ⟨fun c => (h.1 c).2, h.2⟩

/-- The reference runs, keeps its arguments, and has no counter. -/
theorem frame_ref : Cert.quiescent_ExpertsRefIdeal := fun m g _ =>
  θ_run_mono (ExpertsRefIdeal.Ex.ref_run m g) fun r h => ⟨fun c => (h c).2, sem_eq_zero_of_no_sems (by decide) r.2⟩

/-- The call's result is the reference's over the extended reals. -/
theorem values : Cert.algebraic_ExpertsIdeal_ExpertsRefIdeal := by
  intro m g m' g' hm hagree
  have hx := exist_of _ _ _ _ _ _ _ (hm 0)
  refine ⟨_, θ_run_mono (run_all (F := Ideal) m g (ExpertsIdeal.Ex.teOk_of m hx)) fun r h => h.1, θ_run_mono (ExpertsRefIdeal.Ex.ref_run m' g') fun r h c => ?_⟩
  obtain rfl := Subsingleton.elim c 0
  obtain ⟨e0, e1, e2, e3, e4, e5, e6⟩ := hagree 0
  refine ⟨(h 0).1.trans ?_, (h 0).2⟩
  rw [ExpertsIdeal.Ex.final7 m 0 _ hx]
  funext (i : ExpertsIdeal.S98304x2048.Idx)
  rw [show i = ix2 (i 0) (i 1) from funext fun k => by fin_cases k <;> rfl]
  refine (ExpertsRefIdeal.Ex.v96 m' 0 _ _ ?_).trans ?_
  · exact lt_of_eq_of_lt (congrArg (fun a : IVec ExpertsIdeal.S96 32 => (a (ix1 _)).toNat) e0) (hx _)
  · have q0 : ExpertsRefIdeal.Ex.a0 m' 0 = ExpertsIdeal.Ex.a0 m 0 := e0
    refine Eq.trans ?_ (rfl : ffn (ExpertsIdeal.Ex.a0 m 0) (ExpertsIdeal.Ex.a1 m 0) (ExpertsIdeal.Ex.pX m 0) (ExpertsIdeal.Ex.pW m 0) (ExpertsIdeal.Ex.pB m 0) (ExpertsIdeal.Ex.pD m 0) (ExpertsIdeal.Ex.pE m 0) (i 0) (i 1) = _)
    rw [q0]
    congr 1

end Cert.Ffn
end
-- ==== Proof.OutProj.Out.lean ====
module
public import proofs.«01_k».proof.Proof.Gen.OutProjIdeal.Frame
public import Idealize.ShloMosaic.Lib.Pipeline.ValueKit
@[expose] public section
set_option maxRecDepth 16384
noncomputable section
namespace Cert.OutProjIdeal.Po
open Idealize.ShloMosaic Idealize.ShloMosaic.TcCoe Idealize.SL.Sem Cert.OutProjIdeal Cert.OutProjIdeal.Gen
variable {F : FTy → Type} [FloatOps F]

theorem hz : (![0, 0] : Fin 2 → Nat) = fun _ => 0 := funext fun a => by fin_cases a <;> rfl

/-- The block of the residual stream, from the blocks the point reads. -/
abbrev xval (x0 : Vec F S256x1024 .bf16) (x1 : Vec F S256x1024 .bf16) (x2 x3 : Vec F S256x2048 .bf16) (x4 : Vec F S256x2048 .f32)
    (x5 x6 : Vec F S1024x2048 .bf16) (x7 : Vec F S2048x2048 .bf16) : FVec F S256x2048 .f32 := k0_pay4 x0 x5 x1 x6 x2 x3 x4 x7

/-- What the first point leaves in the block of the residual stream. -/
theorem outA11 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .f32) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x128 .i32) (harg14 : arg14.IsWhole) (arg15 : Memref sig .tc .vmem S256x128 .f32) (harg15 : arg15.IsWhole) (arg16 : Memref sig .tc .vmem S256x128 .i32) (harg16 : arg16.IsWhole) (arg17 : Memref sig .tc .vmem S1x128 .f32) (harg17 : arg17.IsWhole) (hc0 : cond0_0 i)
    (x0 : Vec F S256x1024 .bf16) (x1 : Vec F S256x1024 .bf16) (x2 : Vec F S256x2048 .bf16) (x3 : Vec F S256x2048 .bf16) (x4 : Vec F S256x2048 .f32) (x5 : Vec F S1024x2048 .bf16) (x6 : Vec F S1024x2048 .bf16) (x7 : Vec F S2048x2048 .bf16) (x8 : Vec F S1x2048 .f32) (x9 : Vec F S2048x128 .f32) (x10 : Vec F S1x128 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 = xval x0 x1 x2 x3 x4 x5 x6 x7 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x1024) hz, View.ld_unit_zero (S := S256x2048) hz, View.ld_unit_zero (S := S1024x2048) hz, View.ld_unit_zero (S := S2048x2048) hz, View.ld_unit_zero (S := S1x2048) hz]

/-- What the first point leaves in the block of the normalized rows. -/
theorem outA12 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .f32) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x128 .i32) (harg14 : arg14.IsWhole) (arg15 : Memref sig .tc .vmem S256x128 .f32) (harg15 : arg15.IsWhole) (arg16 : Memref sig .tc .vmem S256x128 .i32) (harg16 : arg16.IsWhole) (arg17 : Memref sig .tc .vmem S1x128 .f32) (harg17 : arg17.IsWhole) (hc0 : cond0_0 i)
    (x0 : Vec F S256x1024 .bf16) (x1 : Vec F S256x1024 .bf16) (x2 : Vec F S256x2048 .bf16) (x3 : Vec F S256x2048 .bf16) (x4 : Vec F S256x2048 .f32) (x5 : Vec F S1024x2048 .bf16) (x6 : Vec F S1024x2048 .bf16) (x7 : Vec F S2048x2048 .bf16) (x8 : Vec F S1x2048 .f32) (x9 : Vec F S2048x128 .f32) (x10 : Vec F S1x128 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 = k0_pay5 (xval x0 x1 x2 x3 x4 x5 x6 x7) x8 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x1024) hz, View.ld_unit_zero (S := S256x2048) hz, View.ld_unit_zero (S := S1024x2048) hz, View.ld_unit_zero (S := S2048x2048) hz, View.ld_unit_zero (S := S1x2048) hz]

/-- What a later point leaves in the block of the residual stream. -/
theorem outB11 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .f32) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x128 .i32) (harg14 : arg14.IsWhole) (arg15 : Memref sig .tc .vmem S256x128 .f32) (harg15 : arg15.IsWhole) (arg16 : Memref sig .tc .vmem S256x128 .i32) (harg16 : arg16.IsWhole) (arg17 : Memref sig .tc .vmem S1x128 .f32) (harg17 : arg17.IsWhole) (hc0 : ¬cond0_0 i)
    (x0 : Vec F S256x1024 .bf16) (x1 : Vec F S256x1024 .bf16) (x2 : Vec F S256x2048 .bf16) (x3 : Vec F S256x2048 .bf16) (x4 : Vec F S256x2048 .f32) (x5 : Vec F S1024x2048 .bf16) (x6 : Vec F S1024x2048 .bf16) (x7 : Vec F S2048x2048 .bf16) (x8 : Vec F S1x2048 .f32) (x9 : Vec F S2048x128 .f32) (x10 : Vec F S1x128 .f32) (xo16 : Vec F S1x128 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo16 = xval x0 x1 x2 x3 x4 x5 x6 x7 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo16)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x1024) hz, View.ld_unit_zero (S := S256x2048) hz, View.ld_unit_zero (S := S1024x2048) hz, View.ld_unit_zero (S := S2048x2048) hz, View.ld_unit_zero (S := S1x2048) hz]

/-- What a later point leaves in the block of the normalized rows. -/
theorem outB12 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .f32) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x128 .i32) (harg14 : arg14.IsWhole) (arg15 : Memref sig .tc .vmem S256x128 .f32) (harg15 : arg15.IsWhole) (arg16 : Memref sig .tc .vmem S256x128 .i32) (harg16 : arg16.IsWhole) (arg17 : Memref sig .tc .vmem S1x128 .f32) (harg17 : arg17.IsWhole) (hc0 : ¬cond0_0 i)
    (x0 : Vec F S256x1024 .bf16) (x1 : Vec F S256x1024 .bf16) (x2 : Vec F S256x2048 .bf16) (x3 : Vec F S256x2048 .bf16) (x4 : Vec F S256x2048 .f32) (x5 : Vec F S1024x2048 .bf16) (x6 : Vec F S1024x2048 .bf16) (x7 : Vec F S2048x2048 .bf16) (x8 : Vec F S1x2048 .f32) (x9 : Vec F S2048x128 .f32) (x10 : Vec F S1x128 .f32) (xo16 : Vec F S1x128 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo16 = k0_pay5 (xval x0 x1 x2 x3 x4 x5 x6 x7) x8 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo16)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x1024) hz, View.ld_unit_zero (S := S256x2048) hz, View.ld_unit_zero (S := S1024x2048) hz, View.ld_unit_zero (S := S2048x2048) hz, View.ld_unit_zero (S := S1x2048) hz]

end Cert.OutProjIdeal.Po
end
-- ==== Proof.OutProj.Spec.lean ====
module
public import proofs.«01_k».proof.Proof.InProj.Spec
@[expose] public section
noncomputable section
namespace Cert.Outp
open Idealize.ShloMosaic Cert.Gla Cert.Proj

/-- An entry of the two branches' outputs brought together: each projected by its own weight and gated by the logistic of
    its own columns of the input projection. -/
def mix (Ya Yb P : ℕ → ℕ → ℕ → EReal) (Wa Wb : ℕ → ℕ → EReal) (b t k : ℕ) : EReal :=
  Ideal.logistic (P b t (6160 + k)) * (∑ q : Fin 1024, Ya b t q.val * Wa q.val k)
    + Ideal.logistic (P b t (8208 + k)) * (∑ q : Fin 1024, Yb b t q.val * Wb q.val k)

/-- An entry of the residual stream after the mixers: the layer's input and the projected mixture. -/
def res (Ya Yb P X : ℕ → ℕ → ℕ → EReal) (Wa Wb Wo : ℕ → ℕ → EReal) (b t j : ℕ) : EReal :=
  X b t j + ∑ k : Fin 2048, mix Ya Yb P Wa Wb b t k.val * Wo k.val j

/-- An entry of the mixture over the arrays it is read from. -/
theorem mix_eq {nb nt np : ℕ} (ya yb : (⟨3, ![nb, nt, 1024]⟩ : Shape).Idx → EReal) (p : (⟨3, ![nb, nt, np]⟩ : Shape).Idx → EReal)
    (wa wb : (⟨3, ![1, 1024, 2048]⟩ : Shape).Idx → EReal) (b t k : ℕ) (hb : b < nb) (ht : t < nt) (hk : k < 2048) (hp : 8208 + k < np) :
    mix (inX ya) (inX yb) (inX p) (inM wa) (inM wb) b t k
      = Ideal.div 1 (1 + Ideal.exp (-p (ix3 ⟨b, hb⟩ ⟨t, ht⟩ ⟨6160 + k, by omega⟩)))
            * (∑ q : Fin 1024, ya (ix3 ⟨b, hb⟩ ⟨t, ht⟩ q) * wa (ix3 0 q ⟨k, hk⟩))
        + Ideal.div 1 (1 + Ideal.exp (-p (ix3 ⟨b, hb⟩ ⟨t, ht⟩ ⟨8208 + k, hp⟩)))
            * (∑ q : Fin 1024, yb (ix3 ⟨b, hb⟩ ⟨t, ht⟩ q) * wb (ix3 0 q ⟨k, hk⟩)) := by
  unfold mix Ideal.logistic
  rw [inX_eq p b t (6160 + k) hb ht (by omega), inX_eq p b t (8208 + k) hb ht hp]
  have e : ∀ q : Fin 1024, inX ya b t q.val = ya (ix3 ⟨b, hb⟩ ⟨t, ht⟩ q) := fun q => inX_eq _ _ _ _ hb ht q.isLt
  have f : ∀ q : Fin 1024, inX yb b t q.val = yb (ix3 ⟨b, hb⟩ ⟨t, ht⟩ q) := fun q => inX_eq _ _ _ _ hb ht q.isLt
  have e' : ∀ q : Fin 1024, inM wa q.val k = wa (ix3 0 q ⟨k, hk⟩) := fun q => inM_eq _ _ _ q.isLt hk
  have f' : ∀ q : Fin 1024, inM wb q.val k = wb (ix3 0 q ⟨k, hk⟩) := fun q => inM_eq _ _ _ q.isLt hk
  simp only [e, f, e', f']

/-- An entry of the residual stream over the arrays it is read from. -/
theorem res_eq {nb nt np : ℕ} (ya yb : (⟨3, ![nb, nt, 1024]⟩ : Shape).Idx → EReal) (p : (⟨3, ![nb, nt, np]⟩ : Shape).Idx → EReal)
    (x : (⟨3, ![nb, nt, 2048]⟩ : Shape).Idx → EReal) (wa wb : (⟨3, ![1, 1024, 2048]⟩ : Shape).Idx → EReal)
    (wo : (⟨3, ![1, 2048, 2048]⟩ : Shape).Idx → EReal) (b t j : ℕ) (hb : b < nb) (ht : t < nt) (hj : j < 2048) (hp : 10256 ≤ np) :
    res (inX ya) (inX yb) (inX p) (inX x) (inM wa) (inM wb) (inM wo) b t j
      = x (ix3 ⟨b, hb⟩ ⟨t, ht⟩ ⟨j, hj⟩) + ∑ k : Fin 2048,
        (Ideal.div 1 (1 + Ideal.exp (-p (ix3 ⟨b, hb⟩ ⟨t, ht⟩ ⟨6160 + k.val, by omega⟩)))
            * (∑ q : Fin 1024, ya (ix3 ⟨b, hb⟩ ⟨t, ht⟩ q) * wa (ix3 0 q k))
        + Ideal.div 1 (1 + Ideal.exp (-p (ix3 ⟨b, hb⟩ ⟨t, ht⟩ ⟨8208 + k.val, by omega⟩)))
            * (∑ q : Fin 1024, yb (ix3 ⟨b, hb⟩ ⟨t, ht⟩ q) * wb (ix3 0 q k))) * wo (ix3 0 k ⟨j, hj⟩) := by
  unfold res
  rw [inX_eq x b t j hb ht hj]
  refine congrArg (fun z : EReal => _ + z) (Finset.sum_congr rfl fun k _ => ?_)
  rw [mix_eq ya yb p wa wb b t k.val hb ht k.isLt (by omega), inM_eq wo k.val j k.isLt hj]

/-- A normalized entry, from the entries of its row. -/
theorem nrm_row (X : ℕ → ℕ → ℕ → EReal) (g : (⟨2, ![1, 2048]⟩ : Shape).Idx → EReal) (f : Fin 2048 → EReal) (b t : ℕ) (j : Fin 2048)
    (h : ∀ q : Fin 2048, X b t q.val = f q) :
    nrm X (inR g) b t j.val = f j * Ideal.rsqrt (Ideal.div (∑ q, f q * f q) (Ideal.ofBits .f32 0x45000000#32) + Ideal.ofBits .f32 0x358637BD#32)
      * g (ix2 0 j) := by
  unfold nrm
  simp only [h]
  rw [inR_eq g j.val j.isLt]

end Cert.Outp
end
-- ==== Proof.OutProj.Value.lean ====
module
public import proofs.«01_k».proof.Proof.OutProj.Out
public import proofs.«01_k».proof.Proof.OutProj.Spec
public import Idealize.ShloMosaic.Lib.StableHlo.ReadAt
@[expose] public section
set_option maxRecDepth 16384
noncomputable section
namespace Cert.OutProjIdeal.Po
open Idealize.ShloMosaic Idealize.ShloMosaic.TcCoe Idealize.SL.Sem Cert.OutProjIdeal Cert.OutProjIdeal.Gen Cert.Gla Cert.Proj Cert.Outp
variable (m : (ℓ : Loc nD τ sig) → Buf (Elt Ideal) ℓ) (c : Dev nD)

/-- The mixed output of the first branch in memory, by numbers. -/
abbrev pYa : ℕ → ℕ → ℕ → EReal := inX (m (c, Proc.devRef .tc main_arg0))
/-- The second branch's. -/
abbrev pYb : ℕ → ℕ → ℕ → EReal := inX (m (c, Proc.devRef .tc main_arg1))
/-- The input projection in memory. -/
abbrev pP : ℕ → ℕ → ℕ → EReal := inX (m (c, Proc.devRef .tc main_arg2))
/-- The layer's input in memory. -/
abbrev pX : ℕ → ℕ → ℕ → EReal := inX (m (c, Proc.devRef .tc main_arg3))
/-- The first branch's weight in memory. -/
abbrev pWa : ℕ → ℕ → EReal := inM (m (c, Proc.devRef .tc main_arg4))
/-- The second branch's weight in memory. -/
abbrev pWb : ℕ → ℕ → EReal := inM (m (c, Proc.devRef .tc main_arg5))
/-- The output weight in memory. -/
abbrev pWo : ℕ → ℕ → EReal := inM (m (c, Proc.devRef .tc main_arg6))
/-- The norm's weight in memory. -/
abbrev pG : ℕ → EReal := inR (m (c, Proc.devRef .tc main_arg7))
/-- The residual stream the specification gives. -/
abbrev pR : ℕ → ℕ → ℕ → EReal := res (pYa m c) (pYb m c) (pP m c) (pX m c) (pWa m c) (pWb m c) (pWo m c)

/-- The first branch's rows as the kernel takes them. -/
theorem v11 (i : Fin 16384) (j : Fin 1024) : (V m c main_v11 : FVec Ideal S16384x1024 .bf16) (ix2 i j) = (pYa m c (i.val / 2048) (i.val % 2048) j.val : EReal) := by
  unfold V
  simp only [List.flatten_cons, List.flatten_nil, List.append_nil, StableHlo.after_append]
  after_reads_at
  exact (inX_eq _ _ _ _ (by omega) (by omega) (by omega)).symm

/-- The second branch's rows. -/
theorem v13 (i : Fin 16384) (j : Fin 1024) : (V m c main_v13 : FVec Ideal S16384x1024 .bf16) (ix2 i j) = (pYb m c (i.val / 2048) (i.val % 2048) j.val : EReal) := by
  unfold V
  simp only [List.flatten_cons, List.flatten_nil, List.append_nil, StableHlo.after_append]
  after_reads_at
  exact (inX_eq _ _ _ _ (by omega) (by omega) (by omega)).symm

/-- The layer's input as the kernel takes it. -/
theorem v14 (i : Fin 16384) (j : Fin 2048) : (V m c main_v14 : FVec Ideal S16384x2048 .f32) (ix2 i j) = (pX m c (i.val / 2048) (i.val % 2048) j.val : EReal) := by
  unfold V
  simp only [List.flatten_cons, List.flatten_nil, List.append_nil, StableHlo.after_append]
  after_reads_at
  exact (inX_eq _ _ _ _ (by omega) (by omega) (by omega)).symm

/-- The first branch's weight as the kernel takes it. -/
theorem v16 (i : Fin 1024) (j : Fin 2048) : (V m c main_v16 : FVec Ideal S1024x2048 .bf16) (ix2 i j) = (pWa m c i.val j.val : EReal) := by
  unfold V
  simp only [List.flatten_cons, List.flatten_nil, List.append_nil, StableHlo.after_append]
  after_reads_at
  exact (inM_eq _ _ _ (by omega) (by omega)).symm

/-- The second branch's weight. -/
theorem v18 (i : Fin 1024) (j : Fin 2048) : (V m c main_v18 : FVec Ideal S1024x2048 .bf16) (ix2 i j) = (pWb m c i.val j.val : EReal) := by
  unfold V
  simp only [List.flatten_cons, List.flatten_nil, List.append_nil, StableHlo.after_append]
  after_reads_at
  exact (inM_eq _ _ _ (by omega) (by omega)).symm

/-- The output weight. -/
theorem v20 (i : Fin 2048) (j : Fin 2048) : (V m c main_v20 : FVec Ideal S2048x2048 .bf16) (ix2 i j) = (pWo m c i.val j.val : EReal) := by
  unfold V
  simp only [List.flatten_cons, List.flatten_nil, List.append_nil, StableHlo.after_append]
  after_reads_at
  exact (inM_eq _ _ _ (by omega) (by omega)).symm

/-- The norm's weight. -/
theorem v22 (j : Fin 2048) : (V m c main_v22 : FVec Ideal S1x2048 .f32) (ix2 0 j) = (pG m c j.val : EReal) := by
  unfold V
  simp only [List.flatten_cons, List.flatten_nil, List.append_nil, StableHlo.after_append]
  after_reads_at
  exact (inR_eq _ _ (by omega)).symm

/-- The first operations: the columns after the decay's. -/
theorem v2 (i : Fin 16384) (j : Fin 4096) : (StableHlo.upto hostOps0 (fun b => m (c, b)) 3 (Proc.devRef .tc main_v2) : FVec Ideal S16384x4096 .f32) (ix2 i j)
    = (pP m c (i.val / 2048) (i.val % 2048) (6160 + j.val) : EReal) := by
  after_reads_at
  exact (inX_eq _ _ _ _ (by omega) (by omega) (by omega)).symm

/-- The input projection without the decay's columns, at the columns after them. -/
theorem v4 (i : Fin 16384) (j : Fin 10240) (k : ℕ) (h : j.val = 6144 + k) : (V m c main_v4 : FVec Ideal S16384x10240 .bf16) (ix2 i j)
    = (pP m c (i.val / 2048) (i.val % 2048) (6160 + k) : EReal) := by
  unfold V
  simp only [List.flatten_cons, List.flatten_nil, List.append_nil, StableHlo.after_append]
  after_reads_at
  rw [dif_neg (by omega)]
  refine (v2 m c i ⟨j.val - 6144, by omega⟩).trans (congrArg _ ?_)
  show 6160 + (j.val - 6144) = 6160 + k
  omega

/-- One entry of a block of the residual stream. -/
theorem xval_apply (x0 x1 : FVec Ideal S256x1024 .bf16) (x2 x3 : FVec Ideal S256x2048 .bf16) (x4 : FVec Ideal S256x2048 .f32)
    (x5 x6 : FVec Ideal S1024x2048 .bf16) (x7 : FVec Ideal S2048x2048 .bf16) (j0 : Fin 256) (j1 : Fin 2048) :
    (xval (F := Ideal) x0 x1 x2 x3 x4 x5 x6 x7 (ix2 j0 j1) : EReal) = x4 (ix2 j0 j1) + ∑ k,
      (Ideal.logistic (x2 (ix2 j0 k)) * (∑ q, x0 (ix2 j0 q) * x5 (ix2 q k)) + Ideal.logistic (x3 (ix2 j0 k)) * (∑ q, x1 (ix2 j0 q) * x6 (ix2 q k))) * x7 (ix2 k j1) := by
  pointwise [xval, k0_pay4]

/-- One entry of a block of normalized rows. -/
theorem hval_apply (x : FVec Ideal S256x2048 .f32) (g : FVec Ideal S1x2048 .f32) (j0 : Fin 256) (j1 : Fin 2048) :
    (k0_pay5 (F := Ideal) x g (ix2 j0 j1) : EReal) = x (ix2 j0 j1) *
          Ideal.rsqrt (Ideal.div (∑ q, x (ix2 j0 q) * x (ix2 j0 q)) (Ideal.ofBits .f32 0x45000000#32) + Ideal.ofBits .f32 0x358637BD#32) *
        g (ix2 0 j1) := by
  pointwise [k0_pay5]

theorem blk0 (t : Fin cfg0.N) : win0_0.index t = ![t.val, 0] := by revert t; decide +kernel
theorem blk1 (t : Fin cfg0.N) : win0_1.index t = ![t.val, 0] := by revert t; decide +kernel
theorem blk2 (t : Fin cfg0.N) : win0_2.index t = ![t.val, 3] := by revert t; decide +kernel
theorem blk3 (t : Fin cfg0.N) : win0_3.index t = ![t.val, 4] := by revert t; decide +kernel
theorem blk4 (t : Fin cfg0.N) : win0_4.index t = ![t.val, 0] := by revert t; decide +kernel
theorem blk5 (t : Fin cfg0.N) : win0_5.index t = ![0, 0] := by revert t; decide +kernel
theorem blk6 (t : Fin cfg0.N) : win0_6.index t = ![0, 0] := by revert t; decide +kernel
theorem blk7 (t : Fin cfg0.N) : win0_7.index t = ![0, 0] := by revert t; decide +kernel
theorem blk8 (t : Fin cfg0.N) : win0_8.index t = ![0, 0] := by revert t; decide +kernel
theorem blk11 (t : Fin cfg0.N) : win0_11.index t = ![t.val, 0] := by revert t; decide +kernel
theorem blk12 (t : Fin cfg0.N) : win0_12.index t = ![t.val, 0] := by revert t; decide +kernel

theorem rd0 (t : Fin cfg0.N) (i : Fin 256) (j : Fin 1024) (h : t.val * 256 + i.val < 16384) :
    (iblk m c 0 t : Vec Ideal S256x1024 .bf16) (ix2 i j) = (V m c main_v11 : Vec Ideal S16384x1024 .bf16) (ix2 ⟨t.val * 256 + i.val, h⟩ j) := by
  blk_ext [iblk, blk0 t]
theorem rd1 (t : Fin cfg0.N) (i : Fin 256) (j : Fin 1024) (h : t.val * 256 + i.val < 16384) :
    (iblk m c 1 t : Vec Ideal S256x1024 .bf16) (ix2 i j) = (V m c main_v13 : Vec Ideal S16384x1024 .bf16) (ix2 ⟨t.val * 256 + i.val, h⟩ j) := by
  blk_ext [iblk, blk1 t]
theorem rd2 (t : Fin cfg0.N) (i : Fin 256) (j : Fin 2048) (h : t.val * 256 + i.val < 16384) (h' : 3 * 2048 + j.val < 10240) :
    (iblk m c 2 t : Vec Ideal S256x2048 .bf16) (ix2 i j) = (V m c main_v4 : Vec Ideal S16384x10240 .bf16) (ix2 ⟨t.val * 256 + i.val, h⟩ ⟨3 * 2048 + j.val, h'⟩) := by
  blk_ext [iblk, blk2 t]
theorem rd3 (t : Fin cfg0.N) (i : Fin 256) (j : Fin 2048) (h : t.val * 256 + i.val < 16384) (h' : 4 * 2048 + j.val < 10240) :
    (iblk m c 3 t : Vec Ideal S256x2048 .bf16) (ix2 i j) = (V m c main_v4 : Vec Ideal S16384x10240 .bf16) (ix2 ⟨t.val * 256 + i.val, h⟩ ⟨4 * 2048 + j.val, h'⟩) := by
  blk_ext [iblk, blk3 t]
theorem rd4 (t : Fin cfg0.N) (i : Fin 256) (j : Fin 2048) (h : t.val * 256 + i.val < 16384) :
    (iblk m c 4 t : Vec Ideal S256x2048 .f32) (ix2 i j) = (V m c main_v14 : Vec Ideal S16384x2048 .f32) (ix2 ⟨t.val * 256 + i.val, h⟩ j) := by
  blk_ext [iblk, blk4 t]
theorem rd5 (t : Fin cfg0.N) (i : Fin 1024) (j : Fin 2048) : (iblk m c 5 t : Vec Ideal S1024x2048 .bf16) (ix2 i j) = (V m c main_v16 : Vec Ideal S1024x2048 .bf16) (ix2 i j) := by
  blk_ext [iblk, blk5 t]
theorem rd6 (t : Fin cfg0.N) (i : Fin 1024) (j : Fin 2048) : (iblk m c 6 t : Vec Ideal S1024x2048 .bf16) (ix2 i j) = (V m c main_v18 : Vec Ideal S1024x2048 .bf16) (ix2 i j) := by
  blk_ext [iblk, blk6 t]
theorem rd7 (t : Fin cfg0.N) (i : Fin 2048) (j : Fin 2048) : (iblk m c 7 t : Vec Ideal S2048x2048 .bf16) (ix2 i j) = (V m c main_v20 : Vec Ideal S2048x2048 .bf16) (ix2 i j) := by
  blk_ext [iblk, blk7 t]
theorem rd8 (t : Fin cfg0.N) (j : Fin 2048) : (iblk m c 8 t : Vec Ideal S1x2048 .f32) (ix2 0 j) = (V m c main_v22 : Vec Ideal S1x2048 .f32) (ix2 0 j) := by
  blk_ext [iblk, blk8 t]

/-- The block of the residual stream a point computes. -/
def xAt (t : Fin cfg0.N) : FVec Ideal S256x2048 .f32 :=
  xval (iblk m c 0 t) (iblk m c 1 t) (iblk m c 2 t) (iblk m c 3 t) (iblk m c 4 t) (iblk m c 5 t) (iblk m c 6 t) (iblk m c 7 t)

theorem xAt_apply (t : Fin cfg0.N) (i : Fin 256) (j : Fin 2048) :
    (xAt m c t (ix2 i j) : EReal) = pR m c ((t.val * 256 + i.val) / 2048) ((t.val * 256 + i.val) % 2048) j.val := by
  have hN : t.val < 64 := lt_of_lt_of_eq t.isLt (show cfg0.N = 64 from N_0)
  have h : t.val * 256 + i.val < 16384 := by omega
  have e0 : ∀ q : Fin 1024, (iblk m c 0 t : Vec Ideal S256x1024 .bf16) (ix2 i q) = (pYa m c ((t.val * 256 + i.val) / 2048) ((t.val * 256 + i.val) % 2048) q.val : EReal) :=
    fun q => (rd0 m c t i q h).trans (v11 m c _ _)
  have e1 : ∀ q : Fin 1024, (iblk m c 1 t : Vec Ideal S256x1024 .bf16) (ix2 i q) = (pYb m c ((t.val * 256 + i.val) / 2048) ((t.val * 256 + i.val) % 2048) q.val : EReal) :=
    fun q => (rd1 m c t i q h).trans (v13 m c _ _)
  have e2 : ∀ k : Fin 2048, (iblk m c 2 t : Vec Ideal S256x2048 .bf16) (ix2 i k) = (pP m c ((t.val * 256 + i.val) / 2048) ((t.val * 256 + i.val) % 2048) (6160 + k.val) : EReal) :=
    fun k => (rd2 m c t i k h (by omega)).trans (v4 m c _ _ k.val (show 3 * 2048 + k.val = 6144 + k.val by omega))
  have e3 : ∀ k : Fin 2048, (iblk m c 3 t : Vec Ideal S256x2048 .bf16) (ix2 i k) = (pP m c ((t.val * 256 + i.val) / 2048) ((t.val * 256 + i.val) % 2048) (8208 + k.val) : EReal) :=
    fun k => ((rd3 m c t i k h (by omega)).trans (v4 m c _ _ (2048 + k.val) (show 4 * 2048 + k.val = 6144 + (2048 + k.val) by omega))).trans
      (congrArg _ (show 6160 + (2048 + k.val) = 8208 + k.val by omega))
  have e4 : (iblk m c 4 t : Vec Ideal S256x2048 .f32) (ix2 i j) = (pX m c ((t.val * 256 + i.val) / 2048) ((t.val * 256 + i.val) % 2048) j.val : EReal) :=
    (rd4 m c t i j h).trans (v14 m c _ _)
  have e5 : ∀ (q : Fin 1024) (k : Fin 2048), (iblk m c 5 t : Vec Ideal S1024x2048 .bf16) (ix2 q k) = (pWa m c q.val k.val : EReal) :=
    fun q k => (rd5 m c t q k).trans (v16 m c _ _)
  have e6 : ∀ (q : Fin 1024) (k : Fin 2048), (iblk m c 6 t : Vec Ideal S1024x2048 .bf16) (ix2 q k) = (pWb m c q.val k.val : EReal) :=
    fun q k => (rd6 m c t q k).trans (v18 m c _ _)
  have e7 : ∀ k : Fin 2048, (iblk m c 7 t : Vec Ideal S2048x2048 .bf16) (ix2 k j) = (pWo m c k.val j.val : EReal) :=
    fun k => (rd7 m c t k j).trans (v20 m c _ _)
  unfold xAt
  rw [xval_apply, e4]
  unfold pR res mix
  refine congrArg (fun z : EReal => _ + z) (Finset.sum_congr rfl fun k _ => ?_)
  rw [e2 k, e3 k, e7 k]
  refine congrArg (fun z : EReal => z * _) (congrArg₂ (fun y z : EReal => _ * y + _ * z) (Finset.sum_congr rfl fun q _ => ?_) (Finset.sum_congr rfl fun q _ => ?_))
  · rw [e0 q, e5 q k]
  · rw [e1 q, e6 q k]

/-- The normalized rows a point computes. -/
def hAt (t : Fin cfg0.N) : FVec Ideal S256x2048 .f32 := k0_pay5 (xAt m c t) (iblk m c 8 t)

theorem hAt_apply (t : Fin cfg0.N) (i : Fin 256) (j : Fin 2048) :
    (hAt m c t (ix2 i j) : EReal) = nrm (pR m c) (pG m c) ((t.val * 256 + i.val) / 2048) ((t.val * 256 + i.val) % 2048) j.val := by
  have e : ∀ q : Fin 2048, (xAt m c t (ix2 i q) : EReal) = pR m c ((t.val * 256 + i.val) / 2048) ((t.val * 256 + i.val) % 2048) q.val := fun q => xAt_apply m c t i q
  have g : (iblk m c 8 t : Vec Ideal S1x2048 .f32) (ix2 0 j) = (pG m c j.val : EReal) := (rd8 m c t j).trans (v22 m c j)
  generalize hR : pR m c = R at e ⊢
  unfold hAt
  refine (hval_apply (xAt m c t) (iblk m c 8 t) i j).trans ?_
  generalize xAt m c t = x at e ⊢
  rw [g, e j]
  unfold nrm
  refine congrArg (fun z : EReal => _ * Ideal.rsqrt (Ideal.div z _ + _) * _) (Finset.sum_congr rfl fun q _ => ?_)
  rw [e q]

/-- What a point leaves in the block of the residual stream. -/
theorem after_11 (t : Fin cfg0.N) : (dats m 0 c).after 11 t = xAt m c t := by
  rw [after0_11]
  by_cases h : t.val % 64 = 0
  · rw [outsAt0_A m c t h]; dsimp only; rw [outA11]; unfold xAt; rfl
  · rw [outsAt0_B m c t h]; dsimp only; rw [outB11]; unfold xAt; rfl

/-- What a point leaves in the block of the normalized rows. -/
theorem after_12 (t : Fin cfg0.N) : (dats m 0 c).after 12 t = hAt m c t := by
  rw [after0_12]
  by_cases h : t.val % 64 = 0
  · rw [outsAt0_A m c t h]; dsimp only; rw [outA12]; unfold hAt xAt; rfl
  · rw [outsAt0_B m c t h]; dsimp only; rw [outB12]; unfold hAt xAt; rfl

/-- The residual stream after the mixers. -/
def G11 : Buf (Elt Ideal) ((c : Thread nD τ).loc main_v23_0) := fun i : S16384x2048.Idx =>
  pR m c ((i 0).val / 2048) ((i 0).val % 2048) (i 1).val

/-- Its normalized rows. -/
def G12 : Buf (Elt Ideal) ((c : Thread nD τ).loc main_v23_1) := fun i : S16384x2048.Idx =>
  nrm (pR m c) (pG m c) ((i 0).val / 2048) ((i 0).val % 2048) (i 1).val

theorem flushed11 (t : Fin cfg0.N) : (dats m 0 c).flushed 11 t = ((cfg0.win 11).blk t).view.read (Elt Ideal) (G11 m c) := by
  show (cfg0.win 11).cut (grid0.coords t) ((dats m 0 c).after 11 t) = _
  rw [after_11]
  funext y
  have hb0 : (((cfg0.win 11).blk t).view.emb y 0).val = win0_11.index t (0 : Fin 2) * 256 + 1 * (y 0).val := rfl
  have hb1 : (((cfg0.win 11).blk t).view.emb y 1).val = win0_11.index t (1 : Fin 2) * 2048 + 1 * (y 1).val := rfl
  rw [blk11 t] at hb0 hb1
  have hb0 : (((cfg0.win 11).blk t).view.emb y 0).val = t.val * 256 + (y 0).val := hb0.trans (by simp)
  have hb1 : (((cfg0.win 11).blk t).view.emb y 1).val = (y 1).val := hb1.trans (by simp)
  show xAt m c t ((cfg0.win 11).xinj (grid0.coords t) y) = G11 m c (((cfg0.win 11).blk t).view.emb y)
  unfold G11
  rw [hb0, hb1]
  refine Eq.trans (congrArg _ ?_) (xAt_apply m c t (y 0) (y 1))
  funext a; fin_cases a <;> rfl

theorem mem_blk11 (t : Fin cfg0.N) (i : S16384x2048.Idx) :
    i ∈ ((cfg0.win 11).blk t).view.set ↔ ∀ a : Fin 2, win0_11.index t a * S256x2048.size a ≤ (i a).val ∧ (i a).val < win0_11.index t a * S256x2048.size a + S256x2048.size a := by
  show i ∈ ((View.whole main_v23_0).slice (win0_11.rect t)).set ↔ _
  rw [View.set_slice_whole, Rect.mem_set_unit]
  exact Iff.rfl

/-- The first result after the run. -/
theorem final11 : (dats m 0 c).arrAt 11 cfg0.N = G11 m c :=
  (dats m 0 c).arrAt_eq_of_cover 11 _ (fun t _ => flushed11 m c t) fun (i : S16384x2048.Idx) => by
    have h0 : (i 0).val < 16384 := (i 0).isLt
    have h1 : (i 1).val < 2048 := (i 1).isLt
    have hN : cfg0.N = 64 := N_0
    refine ⟨⟨(i 0).val / 256, by omega⟩, flush0_11 _, (mem_blk11 _ i).2 ?_⟩
    rw [blk11]; intro a
    fin_cases a
    · show (i 0).val / 256 * 256 ≤ (i 0).val ∧ (i 0).val < (i 0).val / 256 * 256 + 256
      omega
    · show 0 * 2048 ≤ (i 1).val ∧ (i 1).val < 0 * 2048 + 2048
      omega

theorem flushed12 (t : Fin cfg0.N) : (dats m 0 c).flushed 12 t = ((cfg0.win 12).blk t).view.read (Elt Ideal) (G12 m c) := by
  show (cfg0.win 12).cut (grid0.coords t) ((dats m 0 c).after 12 t) = _
  rw [after_12]
  funext y
  have hb0 : (((cfg0.win 12).blk t).view.emb y 0).val = win0_12.index t (0 : Fin 2) * 256 + 1 * (y 0).val := rfl
  have hb1 : (((cfg0.win 12).blk t).view.emb y 1).val = win0_12.index t (1 : Fin 2) * 2048 + 1 * (y 1).val := rfl
  rw [blk12 t] at hb0 hb1
  have hb0 : (((cfg0.win 12).blk t).view.emb y 0).val = t.val * 256 + (y 0).val := hb0.trans (by simp)
  have hb1 : (((cfg0.win 12).blk t).view.emb y 1).val = (y 1).val := hb1.trans (by simp)
  show hAt m c t ((cfg0.win 12).xinj (grid0.coords t) y) = G12 m c (((cfg0.win 12).blk t).view.emb y)
  unfold G12
  rw [hb0, hb1]
  refine Eq.trans (congrArg _ ?_) (hAt_apply m c t (y 0) (y 1))
  funext a; fin_cases a <;> rfl

theorem mem_blk12 (t : Fin cfg0.N) (i : S16384x2048.Idx) :
    i ∈ ((cfg0.win 12).blk t).view.set ↔ ∀ a : Fin 2, win0_12.index t a * S256x2048.size a ≤ (i a).val ∧ (i a).val < win0_12.index t a * S256x2048.size a + S256x2048.size a := by
  show i ∈ ((View.whole main_v23_1).slice (win0_12.rect t)).set ↔ _
  rw [View.set_slice_whole, Rect.mem_set_unit]
  exact Iff.rfl

/-- The second result after the run. -/
theorem final12 : (dats m 0 c).arrAt 12 cfg0.N = G12 m c :=
  (dats m 0 c).arrAt_eq_of_cover 12 _ (fun t _ => flushed12 m c t) fun (i : S16384x2048.Idx) => by
    have h0 : (i 0).val < 16384 := (i 0).isLt
    have h1 : (i 1).val < 2048 := (i 1).isLt
    have hN : cfg0.N = 64 := N_0
    refine ⟨⟨(i 0).val / 256, by omega⟩, flush0_12 _, (mem_blk12 _ i).2 ?_⟩
    rw [blk12]; intro a
    fin_cases a
    · show (i 0).val / 256 * 256 ≤ (i 0).val ∧ (i 0).val < (i 0).val / 256 * 256 + 256
      omega
    · show 0 * 2048 ≤ (i 1).val ∧ (i 1).val < 0 * 2048 + 2048
      omega

end Cert.OutProjIdeal.Po
end
-- ==== Proof.OutProj.RefValue.lean ====
module
public import proofs.«01_k».proof.Proof.Gen.OutProjRefIdeal.Run
public import proofs.«01_k».proof.Proof.OutProj.Spec
public import Idealize.ShloMosaic.Lib.StableHlo.ReadAt
@[expose] public section
set_option maxRecDepth 16384
noncomputable section
namespace Cert.OutProjRefIdeal.Po
open Idealize.ShloMosaic Idealize.ShloMosaic.TcCoe Idealize.SL.Sem Cert.OutProjRefIdeal Cert.OutProjRefIdeal.Gen Cert.Gla Cert.Proj Cert.Outp
open Idealize.ShloMosaic.StableHlo
variable (m : (ℓ : Loc nD τ sig) → Buf (Elt Ideal) ℓ) (c : Dev nD)

/-- The mixed output of the first branch in memory, by numbers. -/
abbrev pYa : ℕ → ℕ → ℕ → EReal := inX (m (c, Proc.devRef .tc main_arg0))
/-- The second branch's. -/
abbrev pYb : ℕ → ℕ → ℕ → EReal := inX (m (c, Proc.devRef .tc main_arg1))
/-- The input projection in memory. -/
abbrev pP : ℕ → ℕ → ℕ → EReal := inX (m (c, Proc.devRef .tc main_arg2))
/-- The layer's input in memory. -/
abbrev pX : ℕ → ℕ → ℕ → EReal := inX (m (c, Proc.devRef .tc main_arg3))
/-- The first branch's weight in memory. -/
abbrev pWa : ℕ → ℕ → EReal := inM (m (c, Proc.devRef .tc main_arg4))
/-- The second branch's weight in memory. -/
abbrev pWb : ℕ → ℕ → EReal := inM (m (c, Proc.devRef .tc main_arg5))
/-- The output weight in memory. -/
abbrev pWo : ℕ → ℕ → EReal := inM (m (c, Proc.devRef .tc main_arg6))
/-- The norm's weight in memory. -/
abbrev pG : ℕ → EReal := inR (m (c, Proc.devRef .tc main_arg7))
/-- The residual stream the specification gives. -/
abbrev pR : ℕ → ℕ → ℕ → EReal := res (pYa m c) (pYb m c) (pP m c) (pX m c) (pWa m c) (pWb m c) (pWo m c)

/-- The first result: the residual stream. -/
theorem v46 (i : Fin 16384) (j : Fin 2048) : (after Value.ops (fun b => m (c, b)) (Proc.devRef .tc main_v46) : FVec Ideal S16384x2048 .f32) (ix2 i j)
    = (pR m c (i.val / 2048) (i.val % 2048) j.val : EReal) := by
  after_reads_at
  exact (res_eq _ _ _ _ _ _ _ _ _ _ (by omega) (by omega) (by omega) (by omega)).symm

/-- The second result: the residual stream's normalized rows. -/
theorem v47 (i : Fin 16384) (j : Fin 2048) : (after Value.ops (fun b => m (c, b)) (Proc.devRef .tc main_v47) : FVec Ideal S16384x2048 .f32) (ix2 i j)
    = (nrm (pR m c) (pG m c) (i.val / 2048) (i.val % 2048) j.val : EReal) := by
  after_reads_at
  exact (nrm_row (pR m c) _ _ _ _ j (fun q => res_eq _ _ _ _ _ _ _ _ _ _ (by omega) (by omega) (by omega) (by omega))).symm

/-- The reference's run: its two results, its arguments as they were. -/
theorem ref_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v46) = after Value.ops (fun b => m (c, b)) (Proc.devRef .tc main_v46)
      ∧ r.2.mem ((c.tc : Thread nD τ).loc main_v47) = after Value.ops (fun b => m (c, b)) (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine θ_run_mono (run_seq Value.scopedRefs_eq Value.scopedSems_eq defs main (fun _ => Value.ops) Value.main_eq (fun _ => Value.ops_sub) m ρ) fun r h c => ?_
  exact ⟨h c main_v46, h c main_v47, (h c main_arg0).trans (by after_reads_simp), (h c main_arg1).trans (by after_reads_simp), (h c main_arg2).trans (by after_reads_simp), (h c main_arg3).trans (by after_reads_simp), (h c main_arg4).trans (by after_reads_simp), (h c main_arg5).trans (by after_reads_simp), (h c main_arg6).trans (by after_reads_simp), (h c main_arg7).trans (by after_reads_simp), (h c main_arg8).trans (by after_reads_simp), (h c main_arg9).trans (by after_reads_simp)⟩

end Cert.OutProjRefIdeal.Po
end
-- ==== Proof.OutProj.Claims.lean ====
module
public import proofs.«01_k».proof.Defs
public import proofs.«01_k».proof.Proof.OutProj.Value
public import proofs.«01_k».proof.Proof.OutProj.RefValue
public import proofs.«01_k».proof.Proof.Gen.OutProj.Frame
public import Idealize.ShloMosaic.Lib.Quiescent
@[expose] public section
set_option maxRecDepth 16384
noncomputable section
namespace Cert.Outp
open Idealize.ShloMosaic Idealize.ShloMosaic.StableHlo Idealize.SL.Sem Cert.Gla Cert.Proj

/-- The call leaves the residual stream and its normalized rows, and keeps its arguments. -/
theorem run_all (m : (ℓ : Loc OutProjIdeal.nD OutProjIdeal.τ OutProjIdeal.sig) → Buf (Elt Ideal) ℓ) (g : Dev OutProjIdeal.nD → PrngReg) :
    θ_run (OutProjIdeal.defs (F := Ideal)) (onTc (τ := OutProjIdeal.τ) (OutProjIdeal.main (F := Ideal))) ⟨m, fun _ => 0, g⟩ (fun r => ∀ c : Dev OutProjIdeal.nD,
      r.2.mem ((c.tc : Thread OutProjIdeal.nD OutProjIdeal.τ).loc OutProjIdeal.main_v23_0) = OutProjIdeal.Po.G11 m c
      ∧ r.2.mem ((c.tc : Thread OutProjIdeal.nD OutProjIdeal.τ).loc OutProjIdeal.main_v23_1) = OutProjIdeal.Po.G12 m c
      ∧ r.2.mem ((c.tc : Thread OutProjIdeal.nD OutProjIdeal.τ).loc OutProjIdeal.main_arg0) = m ((c.tc : Thread OutProjIdeal.nD OutProjIdeal.τ).loc OutProjIdeal.main_arg0)
      ∧ r.2.mem ((c.tc : Thread OutProjIdeal.nD OutProjIdeal.τ).loc OutProjIdeal.main_arg1) = m ((c.tc : Thread OutProjIdeal.nD OutProjIdeal.τ).loc OutProjIdeal.main_arg1)
      ∧ r.2.mem ((c.tc : Thread OutProjIdeal.nD OutProjIdeal.τ).loc OutProjIdeal.main_arg2) = m ((c.tc : Thread OutProjIdeal.nD OutProjIdeal.τ).loc OutProjIdeal.main_arg2)
      ∧ r.2.mem ((c.tc : Thread OutProjIdeal.nD OutProjIdeal.τ).loc OutProjIdeal.main_arg3) = m ((c.tc : Thread OutProjIdeal.nD OutProjIdeal.τ).loc OutProjIdeal.main_arg3)
      ∧ r.2.mem ((c.tc : Thread OutProjIdeal.nD OutProjIdeal.τ).loc OutProjIdeal.main_arg4) = m ((c.tc : Thread OutProjIdeal.nD OutProjIdeal.τ).loc OutProjIdeal.main_arg4)
      ∧ r.2.mem ((c.tc : Thread OutProjIdeal.nD OutProjIdeal.τ).loc OutProjIdeal.main_arg5) = m ((c.tc : Thread OutProjIdeal.nD OutProjIdeal.τ).loc OutProjIdeal.main_arg5)
      ∧ r.2.mem ((c.tc : Thread OutProjIdeal.nD OutProjIdeal.τ).loc OutProjIdeal.main_arg6) = m ((c.tc : Thread OutProjIdeal.nD OutProjIdeal.τ).loc OutProjIdeal.main_arg6)
      ∧ r.2.mem ((c.tc : Thread OutProjIdeal.nD OutProjIdeal.τ).loc OutProjIdeal.main_arg7) = m ((c.tc : Thread OutProjIdeal.nD OutProjIdeal.τ).loc OutProjIdeal.main_arg7)
      ∧ r.2.mem ((c.tc : Thread OutProjIdeal.nD OutProjIdeal.τ).loc OutProjIdeal.main_arg8) = m ((c.tc : Thread OutProjIdeal.nD OutProjIdeal.τ).loc OutProjIdeal.main_arg8)
      ∧ r.2.mem ((c.tc : Thread OutProjIdeal.nD OutProjIdeal.τ).loc OutProjIdeal.main_arg9) = m ((c.tc : Thread OutProjIdeal.nD OutProjIdeal.τ).loc OutProjIdeal.main_arg9)) :=
  θ_run_mono (θ_run_and (OutProjIdeal.Gen.unchanged m g) (OutProjIdeal.Gen.run_main m g)) fun r h c =>
    ⟨((h.2 c).1 11).trans (OutProjIdeal.Po.final11 m c), ((h.2 c).1 12).trans (OutProjIdeal.Po.final12 m c), h.1 c⟩

/-- The output projections' call runs, keeps its arguments, and leaves every counter at zero. -/
theorem frame_kernel : Cert.quiescent_OutProj := fun m g _ => OutProj.Gen.frame m g

/-- So does its idealization. -/
theorem frame_ideal : Cert.quiescent_OutProjIdeal := fun m g _ => OutProjIdeal.Gen.frame m g

/-- The reference runs, keeps its arguments, and has no counter. -/
theorem frame_ref : Cert.quiescent_OutProjRefIdeal := fun m g _ =>
  θ_run_mono (OutProjRefIdeal.Po.ref_run m g) fun r h => ⟨fun c => (h c).2.2, sem_eq_zero_of_no_sems (by decide) r.2⟩

/-- The call's two results are the reference's over the extended reals. -/
theorem values : Cert.algebraic_OutProjIdeal_OutProjRefIdeal := by
  intro m g m' g' _ hagree
  refine ⟨_, _, run_all m g, θ_run_mono (OutProjRefIdeal.Po.ref_run m' g') fun r h c => ?_⟩
  obtain ⟨e0, e1, e2, e3, e4, e5, e6, e7, -, -⟩ := hagree c
  have x0 : OutProjRefIdeal.Po.pYa m' c = OutProjIdeal.Po.pYa m c := congrArg inX e0
  have x1 : OutProjRefIdeal.Po.pYb m' c = OutProjIdeal.Po.pYb m c := congrArg inX e1
  have x2 : OutProjRefIdeal.Po.pP m' c = OutProjIdeal.Po.pP m c := congrArg inX e2
  have x3 : OutProjRefIdeal.Po.pX m' c = OutProjIdeal.Po.pX m c := congrArg inX e3
  have x4 : OutProjRefIdeal.Po.pWa m' c = OutProjIdeal.Po.pWa m c := congrArg inM e4
  have x5 : OutProjRefIdeal.Po.pWb m' c = OutProjIdeal.Po.pWb m c := congrArg inM e5
  have x6 : OutProjRefIdeal.Po.pWo m' c = OutProjIdeal.Po.pWo m c := congrArg inM e6
  have x7 : OutProjRefIdeal.Po.pG m' c = OutProjIdeal.Po.pG m c := congrArg inR e7
  have xR : OutProjRefIdeal.Po.pR m' c = OutProjIdeal.Po.pR m c := by
    unfold OutProjRefIdeal.Po.pR OutProjIdeal.Po.pR
    rw [x0, x1, x2, x3, x4, x5, x6]
  refine ⟨(h c).1.trans ?_, (h c).2.1.trans ?_, (h c).2.2⟩
  · funext i
    rw [show i = ix2 (i 0) (i 1) from funext fun k => by fin_cases k <;> rfl]
    refine (OutProjRefIdeal.Po.v46 m' c _ _).trans ?_
    rw [xR]
    rfl
  · funext i
    rw [show i = ix2 (i 0) (i 1) from funext fun k => by fin_cases k <;> rfl]
    refine (OutProjRefIdeal.Po.v47 m' c _ _).trans ?_
    rw [xR, x7]
    rfl

end Cert.Outp
end
-- ==== Proof.lean ====
module

public import proofs.«01_k».proof.Defs
public import proofs.«01_k».proof.Proof.Mix.Claims
public import proofs.«01_k».proof.Proof.InProj.Claims
public import proofs.«01_k».proof.Proof.Experts.Claims
public import proofs.«01_k».proof.Proof.OutProj.Claims
public import proofs.«01_k».proof.Proof.Gen.Experts
public import proofs.«01_k».proof.Proof.Gen.Experts.Skeleton
public import proofs.«01_k».proof.Proof.Gen.Experts.Launch
public import proofs.«01_k».proof.Proof.Gen.Experts.Flash
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Flash
public import proofs.«01_k».proof.Proof.Gen.OutProj
public import proofs.«01_k».proof.Proof.Gen.OutProj.Launch
public import proofs.«01_k».proof.Proof.Gen.OutProj.Skeleton
public import proofs.«01_k».proof.Proof.Gen.OutProj.Frame
public import proofs.«01_k».proof.Proof.Gen.OutProjIdeal
public import proofs.«01_k».proof.Proof.Gen.OutProjIdeal.Launch
public import proofs.«01_k».proof.Proof.Gen.OutProjIdeal.Skeleton
public import proofs.«01_k».proof.Proof.Gen.OutProjIdeal.Frame
public import proofs.«01_k».proof.Proof.Gen.OutProjIdeal.Points
public import proofs.«01_k».proof.Proof.Gen.OutProjRefIdeal
public import proofs.«01_k».proof.Proof.Gen.OutProjRefIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.ExpertsRefIdeal
public import proofs.«01_k».proof.Proof.Gen.ExpertsRefIdeal.Run
public import proofs.«01_k».proof.Proof.Gen.InProjRefIdeal
public import proofs.«01_k».proof.Proof.Gen.InProjRefIdeal.Run

@[expose] public section

noncomputable section

namespace Cert.Proof

/-- The claim. -/
theorem claim : Cert.Claim :=
  ⟨Cert.Kernel.Gen.facts, Cert.KernelIdeal.Gen.facts, Cert.ReferenceIdeal.Gen.facts, Cert.Experts.Gen.facts, Cert.ExpertsIdeal.Gen.facts,
    Cert.ExpertsRefIdeal.Gen.facts, Cert.InProj.Gen.facts, Cert.InProjIdeal.Gen.facts, Cert.InProjRefIdeal.Gen.facts,
    Cert.OutProj.Gen.facts, Cert.OutProjIdeal.Gen.facts, Cert.OutProjRefIdeal.Gen.facts, Cert.Pre_all_finite.Gen.facts,
    Cert.Pre_experts_exist.Gen.facts,
    by refine ⟨Cert.Mix.frame_kernel, Cert.Mix.frame_ideal, ?_, Cert.Mix.frame_ref, ?_, Cert.Ffn.frame_kernel, Cert.Ffn.frame_ideal, Cert.Ffn.frame_ref, ?_,
         Cert.Proj.frame_kernel, Cert.Proj.frame_ideal, Cert.Proj.frame_ref,
         Cert.Outp.frame_kernel, Cert.Outp.frame_ideal, Cert.Outp.frame_ref, trivial, Cert.Mix.values, trivial, Cert.Ffn.values, trivial, Cert.Proj.values,
         trivial, Cert.Outp.values⟩
       · exact fun m g _ => Cert.Mix.frame_ideal m g trivial
       · exact fun m g _ => Cert.Mix.frame_ref m g trivial
       · exact fun m g _ => Cert.Ffn.frame_ref m g trivial⟩

end Cert.Proof

end
